-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x1000000 : Shape := ⟨2, ![32, 1000000]⟩
abbrev S_ : Shape := ⟨0, ![]⟩

class Facts : Prop where
  bcast_S_S32x1000000 : S_.BroadcastsInDim S32x1000000 (![] : Fin 0 → Fin S32x1000000.rank)

variable [Facts]

def fn {F : FTy → Type} [FloatOps F] (main_arg0 : FVec F S32x1000000 .f32) : IVec S32x1000000 1 :=
  let main_v0 : FVec F S32x1000000 .f32 := Host.absf main_arg0
  let main_cst : FVec F S_ .f32 := constant S_ .f32 0x7F800000#32
  let main_v1 : FVec F S32x1000000 .f32 := broadcastInDim S32x1000000 ![] bcast_S_S32x1000000 main_cst
  let main_v2 : IVec S32x1000000 1 := cmpf .olt main_v0 main_v1
  main_v2
-- ==== Kernel.lean ====
abbrev S32x1000000 : Shape := ⟨2, ![32, 1000000]⟩
abbrev S32x1 : Shape := ⟨2, ![32, 1]⟩
abbrev S32x8192 : Shape := ⟨2, ![32, 8192]⟩
abbrev S32 : Shape := ⟨1, ![32]⟩

abbrev nBuf : Space → Nat
  | .hbm => 6
  | .vmem => 13
  | .smem => 0
  | _ => 0

abbrev bufTy : (tb : Table) → Fin (tcTables nBuf tb) → BufTy
  | .hbm, ⟨0, _⟩ => ⟨S32x1000000, .f32⟩
  | .hbm, ⟨1, _⟩ => ⟨S32x1, .f32⟩
  | .hbm, ⟨2, _⟩ => ⟨S32x1, .i32⟩
  | .hbm, ⟨3, _⟩ => ⟨S32x1, .f32⟩
  | .hbm, ⟨4, _⟩ => ⟨S32x1000000, .f32⟩
  | .hbm, ⟨5, _⟩ => ⟨S32x1000000, .f32⟩
  | .local _ .vmem, ⟨0, _⟩ => ⟨S32x8192, .f32⟩
  | .local _ .vmem, ⟨1, _⟩ => ⟨S32x8192, .f32⟩
  | .local _ .vmem, ⟨2, _⟩ => ⟨S32x1, .f32⟩
  | .local _ .vmem, ⟨3, _⟩ => ⟨S32x1, .i32⟩
  | .local _ .vmem, ⟨4, _⟩ => ⟨S32x1, .f32⟩
  | .local _ .vmem, ⟨5, _⟩ => ⟨S32x8192, .f32⟩
  | .local _ .vmem, ⟨6, _⟩ => ⟨S32x8192, .f32⟩
  | .local _ .vmem, ⟨7, _⟩ => ⟨S32x1, .f32⟩
  | .local _ .vmem, ⟨8, _⟩ => ⟨S32x1, .i32⟩
  | .local _ .vmem, ⟨9, _⟩ => ⟨S32x8192, .f32⟩
  | .local _ .vmem, ⟨10, _⟩ => ⟨S32x8192, .f32⟩
  | .local _ .vmem, ⟨11, _⟩ => ⟨S32x8192, .f32⟩
  | .local _ .vmem, ⟨12, _⟩ => ⟨S32x8192, .f32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![123], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c122_i32 : BitVec 32 := 122#32
  let v8 : BitVec 1 := Scalar.cmpi .slt arg0 c122_i32
  let v9 : BitVec 32 := Scalar.extui v8
  let c0_i32_2 : BitVec 32 := 0#32
  let v10 : BitVec 1 := Scalar.cmpi .ne v9 c0_i32_2
  v10

def k0_cond3 (i : grid0.Coords) : BitVec 1 :=
  let arg0 : BitVec 32 := BitVec.ofNat 32 (i 0).val
  let c122_i32_3 : BitVec 32 := 122#32
  let v11 : BitVec 1 := Scalar.cmpi .eq arg0 c122_i32_3
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![123], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S32x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S32x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S32x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S32x1000000 : Shape := ⟨2, ![32, 1000000]⟩
abbrev S_ : Shape := ⟨0, ![]⟩
abbrev S32 : Shape := ⟨1, ![32]⟩
abbrev S32x1 : Shape := ⟨2, ![32, 1]⟩
abbrev S1 : Shape := ⟨1, ![1]⟩
abbrev S2 : Shape := ⟨1, ![2]⟩
abbrev S32x2 : Shape := ⟨2, ![32, 2]⟩

abbrev nBuf : Space → Nat
  | .hbm => 574
  | .vmem => 0
  | .smem => 0
  | _ => 0

abbrev hbmTy0_0 (i : Nat) : BufTy := match i % 128 with
  | 0 => ⟨S32x1000000, .f32⟩
  | 1 => ⟨S_, .f32⟩
  | 2 => ⟨S32, .f32⟩
  | 3 => ⟨S_, .f32⟩
  | 4 => ⟨S32, .f32⟩
  | 5 => ⟨S32, .f32⟩
  | 6 => ⟨S32x1, .f32⟩
  | 7 => ⟨S32x1000000, .f32⟩
  | 8 => ⟨S32x1000000, .f32⟩
  | 9 => ⟨S32x1000000, .f32⟩
  | 10 => ⟨S_, .f32⟩
  | 11 => ⟨S32, .f32⟩
  | 12 => ⟨S32x1, .f32⟩
  | 13 => ⟨S32x1000000, .f32⟩
  | 14 => ⟨S32x1000000, .f32⟩
  | 15 => ⟨S_, .i32⟩
  | 16 => ⟨S_, .i32⟩
  | 17 => ⟨S_, .i32⟩
  | 18 => ⟨S_, .i32⟩
  | 19 => ⟨S1, .i32⟩
  | 20 => ⟨S_, .i32⟩
  | 21 => ⟨S_, .i32⟩
  | 22 => ⟨S_, .i32⟩
  | 23 => ⟨S1, .i32⟩
  | 24 => ⟨S2, .i32⟩
  | 25 => ⟨S_, .i32⟩
  | 26 => ⟨S_, .i32⟩
  | 27 => ⟨S_, .i32⟩
  | 28 => ⟨S1, .i32⟩
  | 29 => ⟨S_, .i32⟩
  | 30 => ⟨S_, .i32⟩
  | 31 => ⟨S1, .i32⟩
  | 32 => ⟨S2, .i32⟩
  | 33 => ⟨S1, .i32⟩
  | 34 => ⟨S_, .i32⟩
  | 35 => ⟨S1, .i32⟩
  | 36 => ⟨S_, .i32⟩
  | 37 => ⟨S1, .i32⟩
  | 38 => ⟨S1, .i32⟩
  | 39 => ⟨S_, .i32⟩
  | 40 => ⟨S_, .i32⟩
  | 41 => ⟨S_, .i32⟩
  | 42 => ⟨S1, .i32⟩
  | 43 => ⟨S1, .i32⟩
  | 44 => ⟨S1, .i32⟩
  | 45 => ⟨S1, .i32⟩
  | 46 => ⟨S1, .i32⟩
  | 47 => ⟨S_, .i32⟩
  | 48 => ⟨S1, .i32⟩
  | 49 => ⟨S1, .i32⟩
  | 50 => ⟨S_, .i32⟩
  | 51 => ⟨S1, .i32⟩
  | 52 => ⟨S1, .i32⟩
  | 53 => ⟨S1, .i32⟩
  | 54 => ⟨S1, .i32⟩
  | 55 => ⟨S1, .i32⟩
  | 56 => ⟨S_, .i32⟩
  | 57 => ⟨S1, .i32⟩
  | 58 => ⟨S1, .i32⟩
  | 59 => ⟨S_, .i32⟩
  | 60 => ⟨S1, .i32⟩
  | 61 => ⟨S1, .i32⟩
  | 62 => ⟨S1, .i32⟩
  | 63 => ⟨S1, .i32⟩
  | 64 => ⟨S1, .i32⟩
  | 65 => ⟨S_, .i32⟩
  | 66 => ⟨S1, .i32⟩
  | 67 => ⟨S1, .i32⟩
  | 68 => ⟨S_, .i32⟩
  | 69 => ⟨S1, .i32⟩
  | 70 => ⟨S1, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S_, .i32⟩
  | 78 => ⟨S1, .i32⟩
  | 79 => ⟨S1, .i32⟩
  | 80 => ⟨S1, .i32⟩
  | 81 => ⟨S1, .i32⟩
  | 82 => ⟨S1, .i32⟩
  | 83 => ⟨S1, .i32⟩
  | 84 => ⟨S1, .i32⟩
  | 85 => ⟨S1, .i32⟩
  | 86 => ⟨S_, .i32⟩
  | 87 => ⟨S1, .i32⟩
  | 88 => ⟨S1, .i32⟩
  | 89 => ⟨S1, .i32⟩
  | 90 => ⟨S_, .i32⟩
  | 91 => ⟨S1, .i32⟩
  | 92 => ⟨S1, .i32⟩
  | 93 => ⟨S_, .i32⟩
  | 94 => ⟨S1, .i32⟩
  | 95 => ⟨S1, .i32⟩
  | 96 => ⟨S1, .i32⟩
  | 97 => ⟨S1, .i32⟩
  | 98 => ⟨S1, .i32⟩
  | 99 => ⟨S_, .i32⟩
  | 100 => ⟨S1, .i32⟩
  | 101 => ⟨S1, .i32⟩
  | 102 => ⟨S_, .i32⟩
  | 103 => ⟨S1, .i32⟩
  | 104 => ⟨S1, .i32⟩
  | 105 => ⟨S1, .i32⟩
  | 106 => ⟨S1, .i32⟩
  | 107 => ⟨S1, .i32⟩
  | 108 => ⟨S_, .i32⟩
  | 109 => ⟨S1, .i32⟩
  | 110 => ⟨S1, .i32⟩
  | 111 => ⟨S_, .i32⟩
  | 112 => ⟨S1, .i32⟩
  | 113 => ⟨S1, .i32⟩
  | 114 => ⟨S1, .i32⟩
  | 115 => ⟨S1, .i32⟩
  | 116 => ⟨S1, .i32⟩
  | 117 => ⟨S_, .i32⟩
  | 118 => ⟨S1, .i32⟩
  | 119 => ⟨S1, .i32⟩
  | 120 => ⟨S_, .i32⟩
  | 121 => ⟨S1, .i32⟩
  | 122 => ⟨S1, .i32⟩
  | 123 => ⟨S1, .i32⟩
  | 124 => ⟨S1, .i32⟩
  | 125 => ⟨S1, .i32⟩
  | 126 => ⟨S1, .i32⟩
  | 127 => ⟨S1, .i32⟩
  | _ => ⟨S32x1000000, .f32⟩

abbrev hbmTy0_1 (i : Nat) : BufTy := match i % 128 with
  | 0 => ⟨S1, .i32⟩
  | 1 => ⟨S_, .i32⟩
  | 2 => ⟨S1, .i32⟩
  | 3 => ⟨S1, .i32⟩
  | 4 => ⟨S1, .i32⟩
  | 5 => ⟨S_, .i32⟩
  | 6 => ⟨S1, .i32⟩
  | 7 => ⟨S1, .i32⟩
  | 8 => ⟨S_, .i32⟩
  | 9 => ⟨S1, .i32⟩
  | 10 => ⟨S1, .i32⟩
  | 11 => ⟨S1, .i32⟩
  | 12 => ⟨S1, .i32⟩
  | 13 => ⟨S1, .i32⟩
  | 14 => ⟨S_, .i32⟩
  | 15 => ⟨S1, .i32⟩
  | 16 => ⟨S1, .i32⟩
  | 17 => ⟨S_, .i32⟩
  | 18 => ⟨S1, .i32⟩
  | 19 => ⟨S1, .i32⟩
  | 20 => ⟨S1, .i32⟩
  | 21 => ⟨S1, .i32⟩
  | 22 => ⟨S1, .i32⟩
  | 23 => ⟨S_, .i32⟩
  | 24 => ⟨S1, .i32⟩
  | 25 => ⟨S1, .i32⟩
  | 26 => ⟨S_, .i32⟩
  | 27 => ⟨S1, .i32⟩
  | 28 => ⟨S1, .i32⟩
  | 29 => ⟨S1, .i32⟩
  | 30 => ⟨S1, .i32⟩
  | 31 => ⟨S1, .i32⟩
  | 32 => ⟨S_, .i32⟩
  | 33 => ⟨S1, .i32⟩
  | 34 => ⟨S1, .i32⟩
  | 35 => ⟨S_, .i32⟩
  | 36 => ⟨S1, .i32⟩
  | 37 => ⟨S1, .i32⟩
  | 38 => ⟨S1, .i32⟩
  | 39 => ⟨S1, .i32⟩
  | 40 => ⟨S1, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S1, .i32⟩
  | 48 => ⟨S_, .i32⟩
  | 49 => ⟨S1, .i32⟩
  | 50 => ⟨S1, .i32⟩
  | 51 => ⟨S_, .i32⟩
  | 52 => ⟨S1, .i32⟩
  | 53 => ⟨S1, .i32⟩
  | 54 => ⟨S1, .i32⟩
  | 55 => ⟨S1, .i32⟩
  | 56 => ⟨S1, .i32⟩
  | 57 => ⟨S_, .i32⟩
  | 58 => ⟨S1, .i32⟩
  | 59 => ⟨S1, .i32⟩
  | 60 => ⟨S_, .i32⟩
  | 61 => ⟨S1, .i32⟩
  | 62 => ⟨S1, .i32⟩
  | 63 => ⟨S1, .i32⟩
  | 64 => ⟨S1, .i32⟩
  | 65 => ⟨S1, .i32⟩
  | 66 => ⟨S_, .i32⟩
  | 67 => ⟨S1, .i32⟩
  | 68 => ⟨S1, .i32⟩
  | 69 => ⟨S_, .i32⟩
  | 70 => ⟨S1, .i32⟩
  | 71 => ⟨S1, .i32⟩
  | 72 => ⟨S1, .i32⟩
  | 73 => ⟨S1, .i32⟩
  | 74 => ⟨S1, .i32⟩
  | 75 => ⟨S_, .i32⟩
  | 76 => ⟨S1, .i32⟩
  | 77 => ⟨S1, .i32⟩
  | 78 => ⟨S_, .i32⟩
  | 79 => ⟨S1, .i32⟩
  | 80 => ⟨S1, .i32⟩
  | 81 => ⟨S1, .i32⟩
  | 82 => ⟨S1, .i32⟩
  | 83 => ⟨S1, .i32⟩
  | 84 => ⟨S1, .i32⟩
  | 85 => ⟨S1, .i32⟩
  | 86 => ⟨S1, .i32⟩
  | 87 => ⟨S_, .i32⟩
  | 88 => ⟨S1, .i32⟩
  | 89 => ⟨S1, .i32⟩
  | 90 => ⟨S1, .i32⟩
  | 91 => ⟨S_, .i32⟩
  | 92 => ⟨S1, .i32⟩
  | 93 => ⟨S1, .i32⟩
  | 94 => ⟨S_, .i32⟩
  | 95 => ⟨S1, .i32⟩
  | 96 => ⟨S1, .i32⟩
  | 97 => ⟨S1, .i32⟩
  | 98 => ⟨S1, .i32⟩
  | 99 => ⟨S1, .i32⟩
  | 100 => ⟨S_, .i32⟩
  | 101 => ⟨S1, .i32⟩
  | 102 => ⟨S1, .i32⟩
  | 103 => ⟨S_, .i32⟩
  | 104 => ⟨S1, .i32⟩
  | 105 => ⟨S1, .i32⟩
  | 106 => ⟨S1, .i32⟩
  | 107 => ⟨S1, .i32⟩
  | 108 => ⟨S1, .i32⟩
  | 109 => ⟨S_, .i32⟩
  | 110 => ⟨S1, .i32⟩
  | 111 => ⟨S1, .i32⟩
  | 112 => ⟨S_, .i32⟩
  | 113 => ⟨S1, .i32⟩
  | 114 => ⟨S1, .i32⟩
  | 115 => ⟨S1, .i32⟩
  | 116 => ⟨S1, .i32⟩
  | 117 => ⟨S1, .i32⟩
  | 118 => ⟨S_, .i32⟩
  | 119 => ⟨S1, .i32⟩
  | 120 => ⟨S1, .i32⟩
  | 121 => ⟨S_, .i32⟩
  | 122 => ⟨S1, .i32⟩
  | 123 => ⟨S1, .i32⟩
  | 124 => ⟨S1, .i32⟩
  | 125 => ⟨S1, .i32⟩
  | 126 => ⟨S1, .i32⟩
  | 127 => ⟨S1, .i32⟩
  | _ => ⟨S32x1000000, .f32⟩

abbrev hbmTy0_2 (i : Nat) : BufTy := match i % 128 with
  | 0 => ⟨S1, .i32⟩
  | 1 => ⟨S1, .i32⟩
  | 2 => ⟨S_, .i32⟩
  | 3 => ⟨S1, .i32⟩
  | 4 => ⟨S1, .i32⟩
  | 5 => ⟨S2, .i32⟩
  | 6 => ⟨S1, .i32⟩
  | 7 => ⟨S_, .i32⟩
  | 8 => ⟨S1, .i32⟩
  | 9 => ⟨S_, .i32⟩
  | 10 => ⟨S32x1000000, .i64⟩
  | 11 => ⟨S32x1000000, .i64⟩
  | 12 => ⟨S_, .i64⟩
  | 13 => ⟨S32x1000000, .i64⟩
  | 14 => ⟨S32x1000000, .i64⟩
  | 15 => ⟨S_, .i64⟩
  | 16 => ⟨S32x1000000, .i64⟩
  | 17 => ⟨S32x1000000, .i64⟩
  | 18 => ⟨S32x1000000, .i64⟩
  | 19 => ⟨S_, .i64⟩
  | 20 => ⟨S32x1000000, .i64⟩
  | 21 => ⟨S32x1000000, .i64⟩
  | 22 => ⟨S32x1000000, .i32⟩
  | 23 => ⟨S32x1000000, .i32⟩
  | 24 => ⟨S_, .i32⟩
  | 25 => ⟨S_, .i32⟩
  | 26 => ⟨S_, .i32⟩
  | 27 => ⟨S32x1000000, .i32⟩
  | 28 => ⟨S32x1000000, .i32⟩
  | 29 => ⟨S32x1000000, .i32⟩
  | 30 => ⟨S32x1000000, .i32⟩
  | 31 => ⟨S32x1000000, .i32⟩
  | 32 => ⟨S_, .i32⟩
  | 33 => ⟨S32x1000000, .i32⟩
  | 34 => ⟨S32x1000000, .i32⟩
  | 35 => ⟨S_, .i32⟩
  | 36 => ⟨S32x1000000, .i32⟩
  | 37 => ⟨S32x1000000, .i32⟩
  | 38 => ⟨S32x1000000, .i32⟩
  | 39 => ⟨S32x1000000, .i32⟩
  | 40 => ⟨S32x1000000, .i32⟩
  | 41 => ⟨S_, .i32⟩
  | 42 => ⟨S32x1000000, .i32⟩
  | 43 => ⟨S32x1000000, .i32⟩
  | 44 => ⟨S_, .i32⟩
  | 45 => ⟨S32x1000000, .i32⟩
  | 46 => ⟨S32x1000000, .i32⟩
  | 47 => ⟨S32x1000000, .i32⟩
  | 48 => ⟨S32x1000000, .i32⟩
  | 49 => ⟨S32x1000000, .i32⟩
  | 50 => ⟨S_, .i32⟩
  | 51 => ⟨S32x1000000, .i32⟩
  | 52 => ⟨S32x1000000, .i32⟩
  | 53 => ⟨S_, .i32⟩
  | 54 => ⟨S32x1000000, .i32⟩
  | 55 => ⟨S32x1000000, .i32⟩
  | 56 => ⟨S32x1000000, .i32⟩
  | 57 => ⟨S32x1000000, .i32⟩
  | 58 => ⟨S32x1000000, .i32⟩
  | 59 => ⟨S_, .i32⟩
  | 60 => ⟨S32x1000000, .i32⟩
  | 61 => ⟨S32x1000000, .i32⟩
  | 62 => ⟨S_, .i32⟩
  | 63 => ⟨S32x1000000, .i32⟩
  | 64 => ⟨S32x1000000, .i32⟩
  | 65 => ⟨S32x1000000, .i32⟩
  | 66 => ⟨S32x1000000, .i32⟩
  | 67 => ⟨S32x1000000, .i32⟩
  | 68 => ⟨S32x1000000, .i32⟩
  | 69 => ⟨S32x1000000, .i32⟩
  | 70 => ⟨S32x1000000, .i32⟩
  | 71 => ⟨S_, .i32⟩
  | 72 => ⟨S32x1000000, .i32⟩
  | 73 => ⟨S32x1000000, .i32⟩
  | 74 => ⟨S32x1000000, .i32⟩
  | 75 => ⟨S_, .i32⟩
  | 76 => ⟨S32x1000000, .i32⟩
  | 77 => ⟨S32x1000000, .i32⟩
  | 78 => ⟨S_, .i32⟩
  | 79 => ⟨S32x1000000, .i32⟩
  | 80 => ⟨S32x1000000, .i32⟩
  | 81 => ⟨S32x1000000, .i32⟩
  | 82 => ⟨S32x1000000, .i32⟩
  | 83 => ⟨S32x1000000, .i32⟩
  | 84 => ⟨S_, .i32⟩
  | 85 => ⟨S32x1000000, .i32⟩
  | 86 => ⟨S32x1000000, .i32⟩
  | 87 => ⟨S_, .i32⟩
  | 88 => ⟨S32x1000000, .i32⟩
  | 89 => ⟨S32x1000000, .i32⟩
  | 90 => ⟨S32x1000000, .i32⟩
  | 91 => ⟨S32x1000000, .i32⟩
  | 92 => ⟨S32x1000000, .i32⟩
  | 93 => ⟨S_, .i32⟩
  | 94 => ⟨S32x1000000, .i32⟩
  | 95 => ⟨S32x1000000, .i32⟩
  | 96 => ⟨S_, .i32⟩
  | 97 => ⟨S32x1000000, .i32⟩
  | 98 => ⟨S32x1000000, .i32⟩
  | 99 => ⟨S32x1000000, .i32⟩
  | 100 => ⟨S32x1000000, .i32⟩
  | 101 => ⟨S32x1000000, .i32⟩
  | 102 => ⟨S_, .i32⟩
  | 103 => ⟨S32x1000000, .i32⟩
  | 104 => ⟨S32x1000000, .i32⟩
  | 105 => ⟨S_, .i32⟩
  | 106 => ⟨S32x1000000, .i32⟩
  | 107 => ⟨S32x1000000, .i32⟩
  | 108 => ⟨S32x1000000, .i32⟩
  | 109 => ⟨S32x1000000, .i32⟩
  | 110 => ⟨S32x1000000, .i32⟩
  | 111 => ⟨S32x1000000, .i32⟩
  | 112 => ⟨S32x1000000, .i32⟩
  | 113 => ⟨S32x1000000, .i32⟩
  | 114 => ⟨S_, .i32⟩
  | 115 => ⟨S32x1000000, .i32⟩
  | 116 => ⟨S32x1000000, .i32⟩
  | 117 => ⟨S32x1000000, .i32⟩
  | 118 => ⟨S_, .i32⟩
  | 119 => ⟨S32x1000000, .i32⟩
  | 120 => ⟨S32x1000000, .i32⟩
  | 121 => ⟨S_, .i32⟩
  | 122 => ⟨S32x1000000, .i32⟩
  | 123 => ⟨S32x1000000, .i32⟩
  | 124 => ⟨S32x1000000, .i32⟩
  | 125 => ⟨S32x1000000, .i32⟩
  | 126 => ⟨S32x1000000, .i32⟩
  | 127 => ⟨S_, .i32⟩
  | _ => ⟨S32x1000000, .f32⟩

abbrev hbmTy0_3 (i : Nat) : BufTy := match i % 128 with
  | 0 => ⟨S32x1000000, .i32⟩
  | 1 => ⟨S32x1000000, .i32⟩
  | 2 => ⟨S_, .i32⟩
  | 3 => ⟨S32x1000000, .i32⟩
  | 4 => ⟨S32x1000000, .i32⟩
  | 5 => ⟨S32x1000000, .i32⟩
  | 6 => ⟨S32x1000000, .i32⟩
  | 7 => ⟨S32x1000000, .i32⟩
  | 8 => ⟨S_, .i32⟩
  | 9 => ⟨S32x1000000, .i32⟩
  | 10 => ⟨S32x1000000, .i32⟩
  | 11 => ⟨S_, .i32⟩
  | 12 => ⟨S32x1000000, .i32⟩
  | 13 => ⟨S32x1000000, .i32⟩
  | 14 => ⟨S32x1000000, .i32⟩
  | 15 => ⟨S32x1000000, .i32⟩
  | 16 => ⟨S32x1000000, .i32⟩
  | 17 => ⟨S_, .i32⟩
  | 18 => ⟨S32x1000000, .i32⟩
  | 19 => ⟨S32x1000000, .i32⟩
  | 20 => ⟨S_, .i32⟩
  | 21 => ⟨S32x1000000, .i32⟩
  | 22 => ⟨S32x1000000, .i32⟩
  | 23 => ⟨S32x1000000, .i32⟩
  | 24 => ⟨S32x1000000, .i32⟩
  | 25 => ⟨S32x1000000, .i32⟩
  | 26 => ⟨S32x1000000, .i32⟩
  | 27 => ⟨S32x1000000, .i32⟩
  | 28 => ⟨S32x1000000, .i32⟩
  | 29 => ⟨S_, .i32⟩
  | 30 => ⟨S32x1000000, .i32⟩
  | 31 => ⟨S32x1000000, .i32⟩
  | 32 => ⟨S32x1000000, .i32⟩
  | 33 => ⟨S_, .i32⟩
  | 34 => ⟨S32x1000000, .i32⟩
  | 35 => ⟨S32x1000000, .i32⟩
  | 36 => ⟨S_, .i32⟩
  | 37 => ⟨S32x1000000, .i32⟩
  | 38 => ⟨S32x1000000, .i32⟩
  | 39 => ⟨S32x1000000, .i32⟩
  | 40 => ⟨S32x1000000, .i32⟩
  | 41 => ⟨S32x1000000, .i32⟩
  | 42 => ⟨S_, .i32⟩
  | 43 => ⟨S32x1000000, .i32⟩
  | 44 => ⟨S32x1000000, .i32⟩
  | 45 => ⟨S_, .i32⟩
  | 46 => ⟨S32x1000000, .i32⟩
  | 47 => ⟨S32x1000000, .i32⟩
  | 48 => ⟨S32x1000000, .i32⟩
  | 49 => ⟨S32x1000000, .i32⟩
  | 50 => ⟨S32x1000000, .i32⟩
  | 51 => ⟨S_, .i32⟩
  | 52 => ⟨S32x1000000, .i32⟩
  | 53 => ⟨S32x1000000, .i32⟩
  | 54 => ⟨S_, .i32⟩
  | 55 => ⟨S32x1000000, .i32⟩
  | 56 => ⟨S32x1000000, .i32⟩
  | 57 => ⟨S32x1000000, .i32⟩
  | 58 => ⟨S32x1000000, .i32⟩
  | 59 => ⟨S32x1000000, .i32⟩
  | 60 => ⟨S_, .i32⟩
  | 61 => ⟨S32x1000000, .i32⟩
  | 62 => ⟨S32x1000000, .i32⟩
  | 63 => ⟨S_, .i32⟩
  | 64 => ⟨S32x1000000, .i32⟩
  | 65 => ⟨S32x1000000, .i32⟩
  | 66 => ⟨S32x1000000, .i32⟩
  | 67 => ⟨S32x1000000, .i32⟩
  | 68 => ⟨S32x1000000, .i32⟩
  | 69 => ⟨S32x1000000, .i32⟩
  | 70 => ⟨S32x1000000, .i32⟩
  | 71 => ⟨S32x1000000, .i32⟩
  | 72 => ⟨S_, .i32⟩
  | 73 => ⟨S32x1000000, .i32⟩
  | 74 => ⟨S32x1000000, .i32⟩
  | 75 => ⟨S32x1000000, .i32⟩
  | 76 => ⟨S_, .i32⟩
  | 77 => ⟨S32x1000000, .i32⟩
  | 78 => ⟨S32x1000000, .i32⟩
  | 79 => ⟨S_, .i32⟩
  | 80 => ⟨S32x1000000, .i32⟩
  | 81 => ⟨S32x1000000, .i32⟩
  | 82 => ⟨S32x1000000, .i32⟩
  | 83 => ⟨S32x1000000, .i32⟩
  | 84 => ⟨S32x1000000, .i32⟩
  | 85 => ⟨S_, .i32⟩
  | 86 => ⟨S32x1000000, .i32⟩
  | 87 => ⟨S32x1000000, .i32⟩
  | 88 => ⟨S_, .i32⟩
  | 89 => ⟨S32x1000000, .i32⟩
  | 90 => ⟨S32x1000000, .i32⟩
  | 91 => ⟨S32x1000000, .i32⟩
  | 92 => ⟨S32x1000000, .i32⟩
  | 93 => ⟨S32x1000000, .i32⟩
  | 94 => ⟨S_, .i32⟩
  | 95 => ⟨S32x1000000, .i32⟩
  | 96 => ⟨S32x1000000, .i32⟩
  | 97 => ⟨S_, .i32⟩
  | 98 => ⟨S32x1000000, .i32⟩
  | 99 => ⟨S32x1000000, .i32⟩
  | 100 => ⟨S32x1000000, .i32⟩
  | 101 => ⟨S32x1000000, .i32⟩
  | 102 => ⟨S32x1000000, .i32⟩
  | 103 => ⟨S_, .i32⟩
  | 104 => ⟨S32x1000000, .i32⟩
  | 105 => ⟨S32x1000000, .i32⟩
  | 106 => ⟨S_, .i32⟩
  | 107 => ⟨S32x1000000, .i32⟩
  | 108 => ⟨S32x1000000, .i32⟩
  | 109 => ⟨S32x1000000, .i32⟩
  | 110 => ⟨S32x1000000, .i32⟩
  | 111 => ⟨S32x1000000, .i32⟩
  | 112 => ⟨S32x1000000, .i32⟩
  | 113 => ⟨S32x1000000, .i32⟩
  | 114 => ⟨S32x1000000, .i32⟩
  | 115 => ⟨S_, .i32⟩
  | 116 => ⟨S32x1000000, .i32⟩
  | 117 => ⟨S32x1000000, .i32⟩
  | 118 => ⟨S32x1000000, .i32⟩
  | 119 => ⟨S_, .i32⟩
  | 120 => ⟨S32x1000000, .i32⟩
  | 121 => ⟨S32x1000000, .i32⟩
  | 122 => ⟨S_, .i32⟩
  | 123 => ⟨S32x1000000, .i32⟩
  | 124 => ⟨S32x1000000, .i32⟩
  | 125 => ⟨S32x1000000, .f32⟩
  | 126 => ⟨S_, .f32⟩
  | 127 => ⟨S32x1000000, .f32⟩
  | _ => ⟨S32x1000000, .f32⟩

abbrev hbmTy0_4 (i : Nat) : BufTy := match i % 128 with
  | 0 => ⟨S32x1000000, .f32⟩
  | 1 => ⟨S_, .f32⟩
  | 2 => ⟨S32x1000000, .f32⟩
  | 3 => ⟨S32x1000000, .f32⟩
  | 4 => ⟨S_, .f32⟩
  | 5 => ⟨S32x1000000, .f32⟩
  | 6 => ⟨S32x1000000, .f32⟩
  | 7 => ⟨S_, .f32⟩
  | 8 => ⟨S32x1000000, .f32⟩
  | 9 => ⟨S32x1000000, .f32⟩
  | 10 => ⟨S32x1000000, .f32⟩
  | 11 => ⟨S32x1000000, .f32⟩
  | 12 => ⟨S32x1000000, .f32⟩
  | 13 => ⟨S32x1000000, .f32⟩
  | 14 => ⟨S32x1000000, .f32⟩
  | 15 => ⟨S_, .f32⟩
  | 16 => ⟨S32x1000000, .f32⟩
  | 17 => ⟨S32x1000000, .f32⟩
  | 18 => ⟨S_, .f32⟩
  | 19 => ⟨S32, .f32⟩
  | 20 => ⟨S_, .f32⟩
  | 21 => ⟨S32, .f32⟩
  | 22 => ⟨S32, .f32⟩
  | 23 => ⟨S32x1, .f32⟩
  | 24 => ⟨S32x1000000, .f32⟩
  | 25 => ⟨S32x1000000, .f32⟩
  | 26 => ⟨S32x1000000, .f32⟩
  | 27 => ⟨S_, .f32⟩
  | 28 => ⟨S32, .f32⟩
  | 29 => ⟨S32x1, .f32⟩
  | 30 => ⟨S32x1000000, .f32⟩
  | 31 => ⟨S32x1000000, .f32⟩
  | 32 => ⟨S32x1000000, .i32⟩
  | 33 => ⟨S_, .f32⟩
  | 34 => ⟨S_, .i32⟩
  | 35 => ⟨S32, .f32⟩
  | 36 => ⟨S32, .i32⟩
  | 37 => ⟨S_, .f32⟩
  | 38 => ⟨S32x1000000, .f32⟩
  | 39 => ⟨S32, .i32⟩
  | 40 => ⟨S_, .i32⟩
  | 41 => ⟨S32, .i32⟩
  | 42 => ⟨S32, .i1⟩
  | 43 => ⟨S_, .i32⟩
  | 44 => ⟨S32, .i32⟩
  | 45 => ⟨S32, .i32⟩
  | 46 => ⟨S32, .i32⟩
  | 47 => ⟨S_, .i32⟩
  | 48 => ⟨S32, .i32⟩
  | 49 => ⟨S32, .i1⟩
  | 50 => ⟨S_, .i32⟩
  | 51 => ⟨S32, .i32⟩
  | 52 => ⟨S32, .i32⟩
  | 53 => ⟨S32, .i32⟩
  | 54 => ⟨S32x1, .i32⟩
  | 55 => ⟨S32x1, .i32⟩
  | 56 => ⟨S32x2, .i32⟩
  | 57 => ⟨S_, .f32⟩
  | 58 => ⟨S32, .f32⟩
  | 59 => ⟨S32x1000000, .f32⟩
  | 60 => ⟨S32x1000000, .f32⟩
  | 61 => ⟨S32x1000000, .f32⟩
  | _ => ⟨S32x1000000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_4 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_call0_v0 : Ref sig .tc := ⟨.hbm, 39, rfl⟩
abbrev main_call0_call0_c : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_c_0 : Ref sig .tc := ⟨.hbm, 47, rfl⟩
abbrev main_call0_call0_v7 : Ref sig .tc := ⟨.hbm, 48, rfl⟩
abbrev main_call0_call0_v8 : Ref sig .tc := ⟨.hbm, 49, rfl⟩
abbrev main_call0_call0_c_1 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_call0_v12 : Ref sig .tc := ⟨.hbm, 54, rfl⟩
abbrev main_call0_call0_v13 : Ref sig .tc := ⟨.hbm, 55, rfl⟩
abbrev main_call0_call0_c_2 : Ref sig .tc := ⟨.hbm, 56, rfl⟩
abbrev main_call0_call0_v14 : Ref sig .tc := ⟨.hbm, 57, rfl⟩
abbrev main_call0_call0_v15 : Ref sig .tc := ⟨.hbm, 58, rfl⟩
abbrev main_call0_call0_c_3 : Ref sig .tc := ⟨.hbm, 59, rfl⟩
abbrev main_call0_call0_v16 : Ref sig .tc := ⟨.hbm, 60, rfl⟩
abbrev main_call0_call0_v17 : Ref sig .tc := ⟨.hbm, 61, rfl⟩
abbrev main_call0_call0_v18 : Ref sig .tc := ⟨.hbm, 62, rfl⟩
abbrev main_call0_call0_v19 : Ref sig .tc := ⟨.hbm, 63, rfl⟩
abbrev main_call0_call0_v20 : Ref sig .tc := ⟨.hbm, 64, rfl⟩
abbrev main_call0_call0_c_4 : Ref sig .tc := ⟨.hbm, 65, rfl⟩
abbrev main_call0_call0_v21 : Ref sig .tc := ⟨.hbm, 66, rfl⟩
abbrev main_call0_call0_v22 : Ref sig .tc := ⟨.hbm, 67, rfl⟩
abbrev main_call0_call0_c_5 : Ref sig .tc := ⟨.hbm, 68, rfl⟩
abbrev main_call0_call0_v23 : Ref sig .tc := ⟨.hbm, 69, rfl⟩
abbrev main_call0_call0_v24 : Ref sig .tc := ⟨.hbm, 70, rfl⟩
abbrev main_call0_call0_v25 : Ref sig .tc := ⟨.hbm, 71, rfl⟩
abbrev main_call0_call0_v26 : Ref sig .tc := ⟨.hbm, 72, rfl⟩
abbrev main_call0_call0_v27 : Ref sig .tc := ⟨.hbm, 73, rfl⟩
abbrev main_call0_call0_c_6 : Ref sig .tc := ⟨.hbm, 74, rfl⟩
abbrev main_call0_call0_v28 : Ref sig .tc := ⟨.hbm, 75, rfl⟩
abbrev main_call0_call0_v29 : Ref sig .tc := ⟨.hbm, 76, rfl⟩
abbrev main_call0_call0_c_7 : Ref sig .tc := ⟨.hbm, 77, rfl⟩
abbrev main_call0_call0_v30 : Ref sig .tc := ⟨.hbm, 78, rfl⟩
abbrev main_call0_call0_v31 : Ref sig .tc := ⟨.hbm, 79, rfl⟩
abbrev main_call0_call0_v32 : Ref sig .tc := ⟨.hbm, 80, rfl⟩
abbrev main_call0_call0_v33 : Ref sig .tc := ⟨.hbm, 81, rfl⟩
abbrev main_call0_call0_v34 : Ref sig .tc := ⟨.hbm, 82, rfl⟩
abbrev main_call0_call0_v35 : Ref sig .tc := ⟨.hbm, 83, rfl⟩
abbrev main_call0_call0_v36 : Ref sig .tc := ⟨.hbm, 84, rfl⟩
abbrev main_call0_call0_v37 : Ref sig .tc := ⟨.hbm, 85, rfl⟩
abbrev main_call0_call0_c_8 : Ref sig .tc := ⟨.hbm, 86, rfl⟩
abbrev main_call0_call0_v38 : Ref sig .tc := ⟨.hbm, 87, rfl⟩
abbrev main_call0_call0_v39 : Ref sig .tc := ⟨.hbm, 88, rfl⟩
abbrev main_call0_call0_v40 : Ref sig .tc := ⟨.hbm, 89, rfl⟩
abbrev main_call0_call0_c_9 : Ref sig .tc := ⟨.hbm, 90, rfl⟩
abbrev main_call0_call0_v41 : Ref sig .tc := ⟨.hbm, 91, rfl⟩
abbrev main_call0_call0_v42 : Ref sig .tc := ⟨.hbm, 92, rfl⟩
abbrev main_call0_call0_c_10 : Ref sig .tc := ⟨.hbm, 93, rfl⟩
abbrev main_call0_call0_v43 : Ref sig .tc := ⟨.hbm, 94, rfl⟩
abbrev main_call0_call0_v44 : Ref sig .tc := ⟨.hbm, 95, rfl⟩
abbrev main_call0_call0_v45 : Ref sig .tc := ⟨.hbm, 96, rfl⟩
abbrev main_call0_call0_v46 : Ref sig .tc := ⟨.hbm, 97, rfl⟩
abbrev main_call0_call0_v47 : Ref sig .tc := ⟨.hbm, 98, rfl⟩
abbrev main_call0_call0_c_11 : Ref sig .tc := ⟨.hbm, 99, rfl⟩
abbrev main_call0_call0_v48 : Ref sig .tc := ⟨.hbm, 100, rfl⟩
abbrev main_call0_call0_v49 : Ref sig .tc := ⟨.hbm, 101, rfl⟩
abbrev main_call0_call0_c_12 : Ref sig .tc := ⟨.hbm, 102, rfl⟩
abbrev main_call0_call0_v50 : Ref sig .tc := ⟨.hbm, 103, rfl⟩
abbrev main_call0_call0_v51 : Ref sig .tc := ⟨.hbm, 104, rfl⟩
abbrev main_call0_call0_v52 : Ref sig .tc := ⟨.hbm, 105, rfl⟩
abbrev main_call0_call0_v53 : Ref sig .tc := ⟨.hbm, 106, rfl⟩
abbrev main_call0_call0_v54 : Ref sig .tc := ⟨.hbm, 107, rfl⟩
abbrev main_call0_call0_c_13 : Ref sig .tc := ⟨.hbm, 108, rfl⟩
abbrev main_call0_call0_v55 : Ref sig .tc := ⟨.hbm, 109, rfl⟩
abbrev main_call0_call0_v56 : Ref sig .tc := ⟨.hbm, 110, rfl⟩
abbrev main_call0_call0_c_14 : Ref sig .tc := ⟨.hbm, 111, rfl⟩
abbrev main_call0_call0_v57 : Ref sig .tc := ⟨.hbm, 112, rfl⟩
abbrev main_call0_call0_v58 : Ref sig .tc := ⟨.hbm, 113, rfl⟩
abbrev main_call0_call0_v59 : Ref sig .tc := ⟨.hbm, 114, rfl⟩
abbrev main_call0_call0_v60 : Ref sig .tc := ⟨.hbm, 115, rfl⟩
abbrev main_call0_call0_v61 : Ref sig .tc := ⟨.hbm, 116, rfl⟩
abbrev main_call0_call0_c_15 : Ref sig .tc := ⟨.hbm, 117, rfl⟩
abbrev main_call0_call0_v62 : Ref sig .tc := ⟨.hbm, 118, rfl⟩
abbrev main_call0_call0_v63 : Ref sig .tc := ⟨.hbm, 119, rfl⟩
abbrev main_call0_call0_c_16 : Ref sig .tc := ⟨.hbm, 120, rfl⟩
abbrev main_call0_call0_v64 : Ref sig .tc := ⟨.hbm, 121, rfl⟩
abbrev main_call0_call0_v65 : Ref sig .tc := ⟨.hbm, 122, rfl⟩
abbrev main_call0_call0_v66 : Ref sig .tc := ⟨.hbm, 123, rfl⟩
abbrev main_call0_call0_v67 : Ref sig .tc := ⟨.hbm, 124, rfl⟩
abbrev main_call0_call0_v68 : Ref sig .tc := ⟨.hbm, 125, rfl⟩
abbrev main_call0_call0_v69 : Ref sig .tc := ⟨.hbm, 126, rfl⟩
abbrev main_call0_call0_v70 : Ref sig .tc := ⟨.hbm, 127, rfl⟩
abbrev main_call0_call0_v71 : Ref sig .tc := ⟨.hbm, 128, rfl⟩
abbrev main_call0_call0_c_17 : Ref sig .tc := ⟨.hbm, 129, rfl⟩
abbrev main_call0_call0_v72 : Ref sig .tc := ⟨.hbm, 130, rfl⟩
abbrev main_call0_call0_v73 : Ref sig .tc := ⟨.hbm, 131, rfl⟩
abbrev main_call0_call0_v74 : Ref sig .tc := ⟨.hbm, 132, rfl⟩
abbrev main_call0_call0_c_18 : Ref sig .tc := ⟨.hbm, 133, rfl⟩
abbrev main_call0_call0_v75 : Ref sig .tc := ⟨.hbm, 134, rfl⟩
abbrev main_call0_call0_v76 : Ref sig .tc := ⟨.hbm, 135, rfl⟩
abbrev main_call0_call0_c_19 : Ref sig .tc := ⟨.hbm, 136, rfl⟩
abbrev main_call0_call0_v77 : Ref sig .tc := ⟨.hbm, 137, rfl⟩
abbrev main_call0_call0_v78 : Ref sig .tc := ⟨.hbm, 138, rfl⟩
abbrev main_call0_call0_v79 : Ref sig .tc := ⟨.hbm, 139, rfl⟩
abbrev main_call0_call0_v80 : Ref sig .tc := ⟨.hbm, 140, rfl⟩
abbrev main_call0_call0_v81 : Ref sig .tc := ⟨.hbm, 141, rfl⟩
abbrev main_call0_call0_c_20 : Ref sig .tc := ⟨.hbm, 142, rfl⟩
abbrev main_call0_call0_v82 : Ref sig .tc := ⟨.hbm, 143, rfl⟩
abbrev main_call0_call0_v83 : Ref sig .tc := ⟨.hbm, 144, rfl⟩
abbrev main_call0_call0_c_21 : Ref sig .tc := ⟨.hbm, 145, rfl⟩
abbrev main_call0_call0_v84 : Ref sig .tc := ⟨.hbm, 146, rfl⟩
abbrev main_call0_call0_v85 : Ref sig .tc := ⟨.hbm, 147, rfl⟩
abbrev main_call0_call0_v86 : Ref sig .tc := ⟨.hbm, 148, rfl⟩
abbrev main_call0_call0_v87 : Ref sig .tc := ⟨.hbm, 149, rfl⟩
abbrev main_call0_call0_v88 : Ref sig .tc := ⟨.hbm, 150, rfl⟩
abbrev main_call0_call0_c_22 : Ref sig .tc := ⟨.hbm, 151, rfl⟩
abbrev main_call0_call0_v89 : Ref sig .tc := ⟨.hbm, 152, rfl⟩
abbrev main_call0_call0_v90 : Ref sig .tc := ⟨.hbm, 153, rfl⟩
abbrev main_call0_call0_c_23 : Ref sig .tc := ⟨.hbm, 154, rfl⟩
abbrev main_call0_call0_v91 : Ref sig .tc := ⟨.hbm, 155, rfl⟩
abbrev main_call0_call0_v92 : Ref sig .tc := ⟨.hbm, 156, rfl⟩
abbrev main_call0_call0_v93 : Ref sig .tc := ⟨.hbm, 157, rfl⟩
abbrev main_call0_call0_v94 : Ref sig .tc := ⟨.hbm, 158, rfl⟩
abbrev main_call0_call0_v95 : Ref sig .tc := ⟨.hbm, 159, rfl⟩
abbrev main_call0_call0_c_24 : Ref sig .tc := ⟨.hbm, 160, rfl⟩
abbrev main_call0_call0_v96 : Ref sig .tc := ⟨.hbm, 161, rfl⟩
abbrev main_call0_call0_v97 : Ref sig .tc := ⟨.hbm, 162, rfl⟩
abbrev main_call0_call0_c_25 : Ref sig .tc := ⟨.hbm, 163, rfl⟩
abbrev main_call0_call0_v98 : Ref sig .tc := ⟨.hbm, 164, rfl⟩
abbrev main_call0_call0_v99 : Ref sig .tc := ⟨.hbm, 165, rfl⟩
abbrev main_call0_call0_v100 : Ref sig .tc := ⟨.hbm, 166, rfl⟩
abbrev main_call0_call0_v101 : Ref sig .tc := ⟨.hbm, 167, rfl⟩
abbrev main_call0_call0_v102 : Ref sig .tc := ⟨.hbm, 168, rfl⟩
abbrev main_call0_call0_v103 : Ref sig .tc := ⟨.hbm, 169, rfl⟩
abbrev main_call0_call0_v104 : Ref sig .tc := ⟨.hbm, 170, rfl⟩
abbrev main_call0_call0_v105 : Ref sig .tc := ⟨.hbm, 171, rfl⟩
abbrev main_call0_call0_c_26 : Ref sig .tc := ⟨.hbm, 172, rfl⟩
abbrev main_call0_call0_v106 : Ref sig .tc := ⟨.hbm, 173, rfl⟩
abbrev main_call0_call0_v107 : Ref sig .tc := ⟨.hbm, 174, rfl⟩
abbrev main_call0_call0_v108 : Ref sig .tc := ⟨.hbm, 175, rfl⟩
abbrev main_call0_call0_c_27 : Ref sig .tc := ⟨.hbm, 176, rfl⟩
abbrev main_call0_call0_v109 : Ref sig .tc := ⟨.hbm, 177, rfl⟩
abbrev main_call0_call0_v110 : Ref sig .tc := ⟨.hbm, 178, rfl⟩
abbrev main_call0_call0_c_28 : Ref sig .tc := ⟨.hbm, 179, rfl⟩
abbrev main_call0_call0_v111 : Ref sig .tc := ⟨.hbm, 180, rfl⟩
abbrev main_call0_call0_v112 : Ref sig .tc := ⟨.hbm, 181, rfl⟩
abbrev main_call0_call0_v113 : Ref sig .tc := ⟨.hbm, 182, rfl⟩
abbrev main_call0_call0_v114 : Ref sig .tc := ⟨.hbm, 183, rfl⟩
abbrev main_call0_call0_v115 : Ref sig .tc := ⟨.hbm, 184, rfl⟩
abbrev main_call0_call0_c_29 : Ref sig .tc := ⟨.hbm, 185, rfl⟩
abbrev main_call0_call0_v116 : Ref sig .tc := ⟨.hbm, 186, rfl⟩
abbrev main_call0_call0_v117 : Ref sig .tc := ⟨.hbm, 187, rfl⟩
abbrev main_call0_call0_c_30 : Ref sig .tc := ⟨.hbm, 188, rfl⟩
abbrev main_call0_call0_v118 : Ref sig .tc := ⟨.hbm, 189, rfl⟩
abbrev main_call0_call0_v119 : Ref sig .tc := ⟨.hbm, 190, rfl⟩
abbrev main_call0_call0_v120 : Ref sig .tc := ⟨.hbm, 191, rfl⟩
abbrev main_call0_call0_v121 : Ref sig .tc := ⟨.hbm, 192, rfl⟩
abbrev main_call0_call0_v122 : Ref sig .tc := ⟨.hbm, 193, rfl⟩
abbrev main_call0_call0_c_31 : Ref sig .tc := ⟨.hbm, 194, rfl⟩
abbrev main_call0_call0_v123 : Ref sig .tc := ⟨.hbm, 195, rfl⟩
abbrev main_call0_call0_v124 : Ref sig .tc := ⟨.hbm, 196, rfl⟩
abbrev main_call0_call0_c_32 : Ref sig .tc := ⟨.hbm, 197, rfl⟩
abbrev main_call0_call0_v125 : Ref sig .tc := ⟨.hbm, 198, rfl⟩
abbrev main_call0_call0_v126 : Ref sig .tc := ⟨.hbm, 199, rfl⟩
abbrev main_call0_call0_v127 : Ref sig .tc := ⟨.hbm, 200, rfl⟩
abbrev main_call0_call0_v128 : Ref sig .tc := ⟨.hbm, 201, rfl⟩
abbrev main_call0_call0_v129 : Ref sig .tc := ⟨.hbm, 202, rfl⟩
abbrev main_call0_call0_c_33 : Ref sig .tc := ⟨.hbm, 203, rfl⟩
abbrev main_call0_call0_v130 : Ref sig .tc := ⟨.hbm, 204, rfl⟩
abbrev main_call0_call0_v131 : Ref sig .tc := ⟨.hbm, 205, rfl⟩
abbrev main_call0_call0_c_34 : Ref sig .tc := ⟨.hbm, 206, rfl⟩
abbrev main_call0_call0_v132 : Ref sig .tc := ⟨.hbm, 207, rfl⟩
abbrev main_call0_call0_v133 : Ref sig .tc := ⟨.hbm, 208, rfl⟩
abbrev main_call0_call0_v134 : Ref sig .tc := ⟨.hbm, 209, rfl⟩
abbrev main_call0_call0_v135 : Ref sig .tc := ⟨.hbm, 210, rfl⟩
abbrev main_call0_call0_v136 : Ref sig .tc := ⟨.hbm, 211, rfl⟩
abbrev main_call0_call0_v137 : Ref sig .tc := ⟨.hbm, 212, rfl⟩
abbrev main_call0_call0_v138 : Ref sig .tc := ⟨.hbm, 213, rfl⟩
abbrev main_call0_call0_v139 : Ref sig .tc := ⟨.hbm, 214, rfl⟩
abbrev main_call0_call0_c_35 : Ref sig .tc := ⟨.hbm, 215, rfl⟩
abbrev main_call0_call0_v140 : Ref sig .tc := ⟨.hbm, 216, rfl⟩
abbrev main_call0_call0_v141 : Ref sig .tc := ⟨.hbm, 217, rfl⟩
abbrev main_call0_call0_v142 : Ref sig .tc := ⟨.hbm, 218, rfl⟩
abbrev main_call0_call0_c_36 : Ref sig .tc := ⟨.hbm, 219, rfl⟩
abbrev main_call0_call0_v143 : Ref sig .tc := ⟨.hbm, 220, rfl⟩
abbrev main_call0_call0_v144 : Ref sig .tc := ⟨.hbm, 221, rfl⟩
abbrev main_call0_call0_c_37 : Ref sig .tc := ⟨.hbm, 222, rfl⟩
abbrev main_call0_call0_v145 : Ref sig .tc := ⟨.hbm, 223, rfl⟩
abbrev main_call0_call0_v146 : Ref sig .tc := ⟨.hbm, 224, rfl⟩
abbrev main_call0_call0_v147 : Ref sig .tc := ⟨.hbm, 225, rfl⟩
abbrev main_call0_call0_v148 : Ref sig .tc := ⟨.hbm, 226, rfl⟩
abbrev main_call0_call0_v149 : Ref sig .tc := ⟨.hbm, 227, rfl⟩
abbrev main_call0_call0_c_38 : Ref sig .tc := ⟨.hbm, 228, rfl⟩
abbrev main_call0_call0_v150 : Ref sig .tc := ⟨.hbm, 229, rfl⟩
abbrev main_call0_call0_v151 : Ref sig .tc := ⟨.hbm, 230, rfl⟩
abbrev main_call0_call0_c_39 : Ref sig .tc := ⟨.hbm, 231, rfl⟩
abbrev main_call0_call0_v152 : Ref sig .tc := ⟨.hbm, 232, rfl⟩
abbrev main_call0_call0_v153 : Ref sig .tc := ⟨.hbm, 233, rfl⟩
abbrev main_call0_call0_v154 : Ref sig .tc := ⟨.hbm, 234, rfl⟩
abbrev main_call0_call0_v155 : Ref sig .tc := ⟨.hbm, 235, rfl⟩
abbrev main_call0_call0_v156 : Ref sig .tc := ⟨.hbm, 236, rfl⟩
abbrev main_call0_call0_c_40 : Ref sig .tc := ⟨.hbm, 237, rfl⟩
abbrev main_call0_call0_v157 : Ref sig .tc := ⟨.hbm, 238, rfl⟩
abbrev main_call0_call0_v158 : Ref sig .tc := ⟨.hbm, 239, rfl⟩
abbrev main_call0_call0_c_41 : Ref sig .tc := ⟨.hbm, 240, rfl⟩
abbrev main_call0_call0_v159 : Ref sig .tc := ⟨.hbm, 241, rfl⟩
abbrev main_call0_call0_v160 : Ref sig .tc := ⟨.hbm, 242, rfl⟩
abbrev main_call0_call0_v161 : Ref sig .tc := ⟨.hbm, 243, rfl⟩
abbrev main_call0_call0_v162 : Ref sig .tc := ⟨.hbm, 244, rfl⟩
abbrev main_call0_call0_v163 : Ref sig .tc := ⟨.hbm, 245, rfl⟩
abbrev main_call0_call0_c_42 : Ref sig .tc := ⟨.hbm, 246, rfl⟩
abbrev main_call0_call0_v164 : Ref sig .tc := ⟨.hbm, 247, rfl⟩
abbrev main_call0_call0_v165 : Ref sig .tc := ⟨.hbm, 248, rfl⟩
abbrev main_call0_call0_c_43 : Ref sig .tc := ⟨.hbm, 249, rfl⟩
abbrev main_call0_call0_v166 : Ref sig .tc := ⟨.hbm, 250, rfl⟩
abbrev main_call0_call0_v167 : Ref sig .tc := ⟨.hbm, 251, rfl⟩
abbrev main_call0_call0_v168 : Ref sig .tc := ⟨.hbm, 252, rfl⟩
abbrev main_call0_call0_v169 : Ref sig .tc := ⟨.hbm, 253, rfl⟩
abbrev main_call0_call0_v170 : Ref sig .tc := ⟨.hbm, 254, rfl⟩
abbrev main_call0_v11_0 : Ref sig .tc := ⟨.hbm, 255, rfl⟩
abbrev main_call0_call0_v172 : Ref sig .tc := ⟨.hbm, 256, rfl⟩
abbrev main_call0_call0_v173 : Ref sig .tc := ⟨.hbm, 257, rfl⟩
abbrev main_call0_call0_c_44 : Ref sig .tc := ⟨.hbm, 258, rfl⟩
abbrev main_call0_call0_v174 : Ref sig .tc := ⟨.hbm, 259, rfl⟩
abbrev main_call0_v11_1 : Ref sig .tc := ⟨.hbm, 260, rfl⟩
abbrev main_v18 : Ref sig .tc := ⟨.hbm, 261, rfl⟩
abbrev main_v19 : Ref sig .tc := ⟨.hbm, 262, rfl⟩
abbrev main_v20 : Ref sig .tc := ⟨.hbm, 263, rfl⟩
abbrev main_v21 : Ref sig .tc := ⟨.hbm, 264, rfl⟩
abbrev main_v22 : Ref sig .tc := ⟨.hbm, 265, rfl⟩
abbrev main_v23 : Ref sig .tc := ⟨.hbm, 266, rfl⟩
abbrev main_v24 : Ref sig .tc := ⟨.hbm, 267, rfl⟩
abbrev main_c_5 : Ref sig .tc := ⟨.hbm, 268, rfl⟩
abbrev main_v25 : Ref sig .tc := ⟨.hbm, 269, rfl⟩
abbrev main_v26 : Ref sig .tc := ⟨.hbm, 270, rfl⟩
abbrev main_c_6 : Ref sig .tc := ⟨.hbm, 271, rfl⟩
abbrev main_v27 : Ref sig .tc := ⟨.hbm, 272, rfl⟩
abbrev main_v28 : Ref sig .tc := ⟨.hbm, 273, rfl⟩
abbrev main_v29 : Ref sig .tc := ⟨.hbm, 274, rfl⟩
abbrev main_c_7 : Ref sig .tc := ⟨.hbm, 275, rfl⟩
abbrev main_v30 : Ref sig .tc := ⟨.hbm, 276, rfl⟩
abbrev main_v31 : Ref sig .tc := ⟨.hbm, 277, rfl⟩
abbrev main_v32 : Ref sig .tc := ⟨.hbm, 278, rfl⟩
abbrev main_v33 : Ref sig .tc := ⟨.hbm, 279, rfl⟩
abbrev main_call1_v0 : Ref sig .tc := ⟨.hbm, 280, rfl⟩
abbrev main_call1_c : Ref sig .tc := ⟨.hbm, 281, rfl⟩
abbrev main_call1_v1 : Ref sig .tc := ⟨.hbm, 282, rfl⟩
abbrev main_call1_v2 : Ref sig .tc := ⟨.hbm, 283, rfl⟩
abbrev main_call1_v3 : Ref sig .tc := ⟨.hbm, 284, rfl⟩
abbrev main_call1_v4 : Ref sig .tc := ⟨.hbm, 285, rfl⟩
abbrev main_call1_v5 : Ref sig .tc := ⟨.hbm, 286, rfl⟩
abbrev main_call1_v6 : Ref sig .tc := ⟨.hbm, 287, rfl⟩
abbrev main_call1_c_0 : Ref sig .tc := ⟨.hbm, 288, rfl⟩
abbrev main_call1_v7 : Ref sig .tc := ⟨.hbm, 289, rfl⟩
abbrev main_call1_v8 : Ref sig .tc := ⟨.hbm, 290, rfl⟩
abbrev main_call1_c_1 : Ref sig .tc := ⟨.hbm, 291, rfl⟩
abbrev main_call1_v9 : Ref sig .tc := ⟨.hbm, 292, rfl⟩
abbrev main_call1_v10 : Ref sig .tc := ⟨.hbm, 293, rfl⟩
abbrev main_call1_v11 : Ref sig .tc := ⟨.hbm, 294, rfl⟩
abbrev main_call1_v12 : Ref sig .tc := ⟨.hbm, 295, rfl⟩
abbrev main_call1_v13 : Ref sig .tc := ⟨.hbm, 296, rfl⟩
abbrev main_call1_c_2 : Ref sig .tc := ⟨.hbm, 297, rfl⟩
abbrev main_call1_v14 : Ref sig .tc := ⟨.hbm, 298, rfl⟩
abbrev main_call1_v15 : Ref sig .tc := ⟨.hbm, 299, rfl⟩
abbrev main_call1_c_3 : Ref sig .tc := ⟨.hbm, 300, rfl⟩
abbrev main_call1_v16 : Ref sig .tc := ⟨.hbm, 301, rfl⟩
abbrev main_call1_v17 : Ref sig .tc := ⟨.hbm, 302, rfl⟩
abbrev main_call1_v18 : Ref sig .tc := ⟨.hbm, 303, rfl⟩
abbrev main_call1_v19 : Ref sig .tc := ⟨.hbm, 304, rfl⟩
abbrev main_call1_v20 : Ref sig .tc := ⟨.hbm, 305, rfl⟩
abbrev main_call1_c_4 : Ref sig .tc := ⟨.hbm, 306, rfl⟩
abbrev main_call1_v21 : Ref sig .tc := ⟨.hbm, 307, rfl⟩
abbrev main_call1_v22 : Ref sig .tc := ⟨.hbm, 308, rfl⟩
abbrev main_call1_c_5 : Ref sig .tc := ⟨.hbm, 309, rfl⟩
abbrev main_call1_v23 : Ref sig .tc := ⟨.hbm, 310, rfl⟩
abbrev main_call1_v24 : Ref sig .tc := ⟨.hbm, 311, rfl⟩
abbrev main_call1_v25 : Ref sig .tc := ⟨.hbm, 312, rfl⟩
abbrev main_call1_v26 : Ref sig .tc := ⟨.hbm, 313, rfl⟩
abbrev main_call1_v27 : Ref sig .tc := ⟨.hbm, 314, rfl⟩
abbrev main_call1_c_6 : Ref sig .tc := ⟨.hbm, 315, rfl⟩
abbrev main_call1_v28 : Ref sig .tc := ⟨.hbm, 316, rfl⟩
abbrev main_call1_v29 : Ref sig .tc := ⟨.hbm, 317, rfl⟩
abbrev main_call1_c_7 : Ref sig .tc := ⟨.hbm, 318, rfl⟩
abbrev main_call1_v30 : Ref sig .tc := ⟨.hbm, 319, rfl⟩
abbrev main_call1_v31 : Ref sig .tc := ⟨.hbm, 320, rfl⟩
abbrev main_call1_v32 : Ref sig .tc := ⟨.hbm, 321, rfl⟩
abbrev main_call1_v33 : Ref sig .tc := ⟨.hbm, 322, rfl⟩
abbrev main_call1_v34 : Ref sig .tc := ⟨.hbm, 323, rfl⟩
abbrev main_call1_v35 : Ref sig .tc := ⟨.hbm, 324, rfl⟩
abbrev main_call1_v36 : Ref sig .tc := ⟨.hbm, 325, rfl⟩
abbrev main_call1_v37 : Ref sig .tc := ⟨.hbm, 326, rfl⟩
abbrev main_call1_c_8 : Ref sig .tc := ⟨.hbm, 327, rfl⟩
abbrev main_call1_v38 : Ref sig .tc := ⟨.hbm, 328, rfl⟩
abbrev main_call1_v39 : Ref sig .tc := ⟨.hbm, 329, rfl⟩
abbrev main_call1_v40 : Ref sig .tc := ⟨.hbm, 330, rfl⟩
abbrev main_call1_c_9 : Ref sig .tc := ⟨.hbm, 331, rfl⟩
abbrev main_call1_v41 : Ref sig .tc := ⟨.hbm, 332, rfl⟩
abbrev main_call1_v42 : Ref sig .tc := ⟨.hbm, 333, rfl⟩
abbrev main_call1_c_10 : Ref sig .tc := ⟨.hbm, 334, rfl⟩
abbrev main_call1_v43 : Ref sig .tc := ⟨.hbm, 335, rfl⟩
abbrev main_call1_v44 : Ref sig .tc := ⟨.hbm, 336, rfl⟩
abbrev main_call1_v45 : Ref sig .tc := ⟨.hbm, 337, rfl⟩
abbrev main_call1_v46 : Ref sig .tc := ⟨.hbm, 338, rfl⟩
abbrev main_call1_v47 : Ref sig .tc := ⟨.hbm, 339, rfl⟩
abbrev main_call1_c_11 : Ref sig .tc := ⟨.hbm, 340, rfl⟩
abbrev main_call1_v48 : Ref sig .tc := ⟨.hbm, 341, rfl⟩
abbrev main_call1_v49 : Ref sig .tc := ⟨.hbm, 342, rfl⟩
abbrev main_call1_c_12 : Ref sig .tc := ⟨.hbm, 343, rfl⟩
abbrev main_call1_v50 : Ref sig .tc := ⟨.hbm, 344, rfl⟩
abbrev main_call1_v51 : Ref sig .tc := ⟨.hbm, 345, rfl⟩
abbrev main_call1_v52 : Ref sig .tc := ⟨.hbm, 346, rfl⟩
abbrev main_call1_v53 : Ref sig .tc := ⟨.hbm, 347, rfl⟩
abbrev main_call1_v54 : Ref sig .tc := ⟨.hbm, 348, rfl⟩
abbrev main_call1_c_13 : Ref sig .tc := ⟨.hbm, 349, rfl⟩
abbrev main_call1_v55 : Ref sig .tc := ⟨.hbm, 350, rfl⟩
abbrev main_call1_v56 : Ref sig .tc := ⟨.hbm, 351, rfl⟩
abbrev main_call1_c_14 : Ref sig .tc := ⟨.hbm, 352, rfl⟩
abbrev main_call1_v57 : Ref sig .tc := ⟨.hbm, 353, rfl⟩
abbrev main_call1_v58 : Ref sig .tc := ⟨.hbm, 354, rfl⟩
abbrev main_call1_v59 : Ref sig .tc := ⟨.hbm, 355, rfl⟩
abbrev main_call1_v60 : Ref sig .tc := ⟨.hbm, 356, rfl⟩
abbrev main_call1_v61 : Ref sig .tc := ⟨.hbm, 357, rfl⟩
abbrev main_call1_c_15 : Ref sig .tc := ⟨.hbm, 358, rfl⟩
abbrev main_call1_v62 : Ref sig .tc := ⟨.hbm, 359, rfl⟩
abbrev main_call1_v63 : Ref sig .tc := ⟨.hbm, 360, rfl⟩
abbrev main_call1_c_16 : Ref sig .tc := ⟨.hbm, 361, rfl⟩
abbrev main_call1_v64 : Ref sig .tc := ⟨.hbm, 362, rfl⟩
abbrev main_call1_v65 : Ref sig .tc := ⟨.hbm, 363, rfl⟩
abbrev main_call1_v66 : Ref sig .tc := ⟨.hbm, 364, rfl⟩
abbrev main_call1_v67 : Ref sig .tc := ⟨.hbm, 365, rfl⟩
abbrev main_call1_v68 : Ref sig .tc := ⟨.hbm, 366, rfl⟩
abbrev main_call1_v69 : Ref sig .tc := ⟨.hbm, 367, rfl⟩
abbrev main_call1_v70 : Ref sig .tc := ⟨.hbm, 368, rfl⟩
abbrev main_call1_v71 : Ref sig .tc := ⟨.hbm, 369, rfl⟩
abbrev main_call1_c_17 : Ref sig .tc := ⟨.hbm, 370, rfl⟩
abbrev main_call1_v72 : Ref sig .tc := ⟨.hbm, 371, rfl⟩
abbrev main_call1_v73 : Ref sig .tc := ⟨.hbm, 372, rfl⟩
abbrev main_call1_v74 : Ref sig .tc := ⟨.hbm, 373, rfl⟩
abbrev main_call1_c_18 : Ref sig .tc := ⟨.hbm, 374, rfl⟩
abbrev main_call1_v75 : Ref sig .tc := ⟨.hbm, 375, rfl⟩
abbrev main_call1_v76 : Ref sig .tc := ⟨.hbm, 376, rfl⟩
abbrev main_call1_c_19 : Ref sig .tc := ⟨.hbm, 377, rfl⟩
abbrev main_call1_v77 : Ref sig .tc := ⟨.hbm, 378, rfl⟩
abbrev main_call1_v78 : Ref sig .tc := ⟨.hbm, 379, rfl⟩
abbrev main_call1_v79 : Ref sig .tc := ⟨.hbm, 380, rfl⟩
abbrev main_call1_v80 : Ref sig .tc := ⟨.hbm, 381, rfl⟩
abbrev main_call1_v81 : Ref sig .tc := ⟨.hbm, 382, rfl⟩
abbrev main_call1_c_20 : Ref sig .tc := ⟨.hbm, 383, rfl⟩
abbrev main_call1_v82 : Ref sig .tc := ⟨.hbm, 384, rfl⟩
abbrev main_call1_v83 : Ref sig .tc := ⟨.hbm, 385, rfl⟩
abbrev main_call1_c_21 : Ref sig .tc := ⟨.hbm, 386, rfl⟩
abbrev main_call1_v84 : Ref sig .tc := ⟨.hbm, 387, rfl⟩
abbrev main_call1_v85 : Ref sig .tc := ⟨.hbm, 388, rfl⟩
abbrev main_call1_v86 : Ref sig .tc := ⟨.hbm, 389, rfl⟩
abbrev main_call1_v87 : Ref sig .tc := ⟨.hbm, 390, rfl⟩
abbrev main_call1_v88 : Ref sig .tc := ⟨.hbm, 391, rfl⟩
abbrev main_call1_c_22 : Ref sig .tc := ⟨.hbm, 392, rfl⟩
abbrev main_call1_v89 : Ref sig .tc := ⟨.hbm, 393, rfl⟩
abbrev main_call1_v90 : Ref sig .tc := ⟨.hbm, 394, rfl⟩
abbrev main_call1_c_23 : Ref sig .tc := ⟨.hbm, 395, rfl⟩
abbrev main_call1_v91 : Ref sig .tc := ⟨.hbm, 396, rfl⟩
abbrev main_call1_v92 : Ref sig .tc := ⟨.hbm, 397, rfl⟩
abbrev main_call1_v93 : Ref sig .tc := ⟨.hbm, 398, rfl⟩
abbrev main_call1_v94 : Ref sig .tc := ⟨.hbm, 399, rfl⟩
abbrev main_call1_v95 : Ref sig .tc := ⟨.hbm, 400, rfl⟩
abbrev main_call1_c_24 : Ref sig .tc := ⟨.hbm, 401, rfl⟩
abbrev main_call1_v96 : Ref sig .tc := ⟨.hbm, 402, rfl⟩
abbrev main_call1_v97 : Ref sig .tc := ⟨.hbm, 403, rfl⟩
abbrev main_call1_c_25 : Ref sig .tc := ⟨.hbm, 404, rfl⟩
abbrev main_call1_v98 : Ref sig .tc := ⟨.hbm, 405, rfl⟩
abbrev main_call1_v99 : Ref sig .tc := ⟨.hbm, 406, rfl⟩
abbrev main_call1_v100 : Ref sig .tc := ⟨.hbm, 407, rfl⟩
abbrev main_call1_v101 : Ref sig .tc := ⟨.hbm, 408, rfl⟩
abbrev main_call1_v102 : Ref sig .tc := ⟨.hbm, 409, rfl⟩
abbrev main_call1_v103 : Ref sig .tc := ⟨.hbm, 410, rfl⟩
abbrev main_call1_v104 : Ref sig .tc := ⟨.hbm, 411, rfl⟩
abbrev main_call1_v105 : Ref sig .tc := ⟨.hbm, 412, rfl⟩
abbrev main_call1_c_26 : Ref sig .tc := ⟨.hbm, 413, rfl⟩
abbrev main_call1_v106 : Ref sig .tc := ⟨.hbm, 414, rfl⟩
abbrev main_call1_v107 : Ref sig .tc := ⟨.hbm, 415, rfl⟩
abbrev main_call1_v108 : Ref sig .tc := ⟨.hbm, 416, rfl⟩
abbrev main_call1_c_27 : Ref sig .tc := ⟨.hbm, 417, rfl⟩
abbrev main_call1_v109 : Ref sig .tc := ⟨.hbm, 418, rfl⟩
abbrev main_call1_v110 : Ref sig .tc := ⟨.hbm, 419, rfl⟩
abbrev main_call1_c_28 : Ref sig .tc := ⟨.hbm, 420, rfl⟩
abbrev main_call1_v111 : Ref sig .tc := ⟨.hbm, 421, rfl⟩
abbrev main_call1_v112 : Ref sig .tc := ⟨.hbm, 422, rfl⟩
abbrev main_call1_v113 : Ref sig .tc := ⟨.hbm, 423, rfl⟩
abbrev main_call1_v114 : Ref sig .tc := ⟨.hbm, 424, rfl⟩
abbrev main_call1_v115 : Ref sig .tc := ⟨.hbm, 425, rfl⟩
abbrev main_call1_c_29 : Ref sig .tc := ⟨.hbm, 426, rfl⟩
abbrev main_call1_v116 : Ref sig .tc := ⟨.hbm, 427, rfl⟩
abbrev main_call1_v117 : Ref sig .tc := ⟨.hbm, 428, rfl⟩
abbrev main_call1_c_30 : Ref sig .tc := ⟨.hbm, 429, rfl⟩
abbrev main_call1_v118 : Ref sig .tc := ⟨.hbm, 430, rfl⟩
abbrev main_call1_v119 : Ref sig .tc := ⟨.hbm, 431, rfl⟩
abbrev main_call1_v120 : Ref sig .tc := ⟨.hbm, 432, rfl⟩
abbrev main_call1_v121 : Ref sig .tc := ⟨.hbm, 433, rfl⟩
abbrev main_call1_v122 : Ref sig .tc := ⟨.hbm, 434, rfl⟩
abbrev main_call1_c_31 : Ref sig .tc := ⟨.hbm, 435, rfl⟩
abbrev main_call1_v123 : Ref sig .tc := ⟨.hbm, 436, rfl⟩
abbrev main_call1_v124 : Ref sig .tc := ⟨.hbm, 437, rfl⟩
abbrev main_call1_c_32 : Ref sig .tc := ⟨.hbm, 438, rfl⟩
abbrev main_call1_v125 : Ref sig .tc := ⟨.hbm, 439, rfl⟩
abbrev main_call1_v126 : Ref sig .tc := ⟨.hbm, 440, rfl⟩
abbrev main_call1_v127 : Ref sig .tc := ⟨.hbm, 441, rfl⟩
abbrev main_call1_v128 : Ref sig .tc := ⟨.hbm, 442, rfl⟩
abbrev main_call1_v129 : Ref sig .tc := ⟨.hbm, 443, rfl⟩
abbrev main_call1_c_33 : Ref sig .tc := ⟨.hbm, 444, rfl⟩
abbrev main_call1_v130 : Ref sig .tc := ⟨.hbm, 445, rfl⟩
abbrev main_call1_v131 : Ref sig .tc := ⟨.hbm, 446, rfl⟩
abbrev main_call1_c_34 : Ref sig .tc := ⟨.hbm, 447, rfl⟩
abbrev main_call1_v132 : Ref sig .tc := ⟨.hbm, 448, rfl⟩
abbrev main_call1_v133 : Ref sig .tc := ⟨.hbm, 449, rfl⟩
abbrev main_call1_v134 : Ref sig .tc := ⟨.hbm, 450, rfl⟩
abbrev main_call1_v135 : Ref sig .tc := ⟨.hbm, 451, rfl⟩
abbrev main_call1_v136 : Ref sig .tc := ⟨.hbm, 452, rfl⟩
abbrev main_call1_v137 : Ref sig .tc := ⟨.hbm, 453, rfl⟩
abbrev main_call1_v138 : Ref sig .tc := ⟨.hbm, 454, rfl⟩
abbrev main_call1_v139 : Ref sig .tc := ⟨.hbm, 455, rfl⟩
abbrev main_call1_c_35 : Ref sig .tc := ⟨.hbm, 456, rfl⟩
abbrev main_call1_v140 : Ref sig .tc := ⟨.hbm, 457, rfl⟩
abbrev main_call1_v141 : Ref sig .tc := ⟨.hbm, 458, rfl⟩
abbrev main_call1_v142 : Ref sig .tc := ⟨.hbm, 459, rfl⟩
abbrev main_call1_c_36 : Ref sig .tc := ⟨.hbm, 460, rfl⟩
abbrev main_call1_v143 : Ref sig .tc := ⟨.hbm, 461, rfl⟩
abbrev main_call1_v144 : Ref sig .tc := ⟨.hbm, 462, rfl⟩
abbrev main_call1_c_37 : Ref sig .tc := ⟨.hbm, 463, rfl⟩
abbrev main_call1_v145 : Ref sig .tc := ⟨.hbm, 464, rfl⟩
abbrev main_call1_v146 : Ref sig .tc := ⟨.hbm, 465, rfl⟩
abbrev main_call1_v147 : Ref sig .tc := ⟨.hbm, 466, rfl⟩
abbrev main_call1_v148 : Ref sig .tc := ⟨.hbm, 467, rfl⟩
abbrev main_call1_v149 : Ref sig .tc := ⟨.hbm, 468, rfl⟩
abbrev main_call1_c_38 : Ref sig .tc := ⟨.hbm, 469, rfl⟩
abbrev main_call1_v150 : Ref sig .tc := ⟨.hbm, 470, rfl⟩
abbrev main_call1_v151 : Ref sig .tc := ⟨.hbm, 471, rfl⟩
abbrev main_call1_c_39 : Ref sig .tc := ⟨.hbm, 472, rfl⟩
abbrev main_call1_v152 : Ref sig .tc := ⟨.hbm, 473, rfl⟩
abbrev main_call1_v153 : Ref sig .tc := ⟨.hbm, 474, rfl⟩
abbrev main_call1_v154 : Ref sig .tc := ⟨.hbm, 475, rfl⟩
abbrev main_call1_v155 : Ref sig .tc := ⟨.hbm, 476, rfl⟩
abbrev main_call1_v156 : Ref sig .tc := ⟨.hbm, 477, rfl⟩
abbrev main_call1_c_40 : Ref sig .tc := ⟨.hbm, 478, rfl⟩
abbrev main_call1_v157 : Ref sig .tc := ⟨.hbm, 479, rfl⟩
abbrev main_call1_v158 : Ref sig .tc := ⟨.hbm, 480, rfl⟩
abbrev main_call1_c_41 : Ref sig .tc := ⟨.hbm, 481, rfl⟩
abbrev main_call1_v159 : Ref sig .tc := ⟨.hbm, 482, rfl⟩
abbrev main_call1_v160 : Ref sig .tc := ⟨.hbm, 483, rfl⟩
abbrev main_call1_v161 : Ref sig .tc := ⟨.hbm, 484, rfl⟩
abbrev main_call1_v162 : Ref sig .tc := ⟨.hbm, 485, rfl⟩
abbrev main_call1_v163 : Ref sig .tc := ⟨.hbm, 486, rfl⟩
abbrev main_call1_c_42 : Ref sig .tc := ⟨.hbm, 487, rfl⟩
abbrev main_call1_v164 : Ref sig .tc := ⟨.hbm, 488, rfl⟩
abbrev main_call1_v165 : Ref sig .tc := ⟨.hbm, 489, rfl⟩
abbrev main_call1_c_43 : Ref sig .tc := ⟨.hbm, 490, rfl⟩
abbrev main_call1_v166 : Ref sig .tc := ⟨.hbm, 491, rfl⟩
abbrev main_call1_v167 : Ref sig .tc := ⟨.hbm, 492, rfl⟩
abbrev main_call1_v168 : Ref sig .tc := ⟨.hbm, 493, rfl⟩
abbrev main_call1_v169 : Ref sig .tc := ⟨.hbm, 494, rfl⟩
abbrev main_call1_v170 : Ref sig .tc := ⟨.hbm, 495, rfl⟩
abbrev main_v34_0 : Ref sig .tc := ⟨.hbm, 496, rfl⟩
abbrev main_call1_v172 : Ref sig .tc := ⟨.hbm, 497, rfl⟩
abbrev main_call1_v173 : Ref sig .tc := ⟨.hbm, 498, rfl⟩
abbrev main_call1_c_44 : Ref sig .tc := ⟨.hbm, 499, rfl⟩
abbrev main_call1_v174 : Ref sig .tc := ⟨.hbm, 500, rfl⟩
abbrev main_v34_1 : Ref sig .tc := ⟨.hbm, 501, rfl⟩
abbrev main_v35 : Ref sig .tc := ⟨.hbm, 502, rfl⟩
abbrev main_c_8 : Ref sig .tc := ⟨.hbm, 503, rfl⟩
abbrev main_v36 : Ref sig .tc := ⟨.hbm, 504, rfl⟩
abbrev main_v37 : Ref sig .tc := ⟨.hbm, 505, rfl⟩
abbrev main_c_9 : Ref sig .tc := ⟨.hbm, 506, rfl⟩
abbrev main_v38 : Ref sig .tc := ⟨.hbm, 507, rfl⟩
abbrev main_v39 : Ref sig .tc := ⟨.hbm, 508, rfl⟩
abbrev main_v40 : Ref sig .tc := ⟨.hbm, 509, rfl⟩
abbrev main_cst_10 : Ref sig .tc := ⟨.hbm, 510, rfl⟩
abbrev main_v41 : Ref sig .tc := ⟨.hbm, 511, rfl⟩
abbrev main_v42 : Ref sig .tc := ⟨.hbm, 512, rfl⟩
abbrev main_cst_11 : Ref sig .tc := ⟨.hbm, 513, rfl⟩
abbrev main_v43 : Ref sig .tc := ⟨.hbm, 514, rfl⟩
abbrev main_v44 : Ref sig .tc := ⟨.hbm, 515, rfl⟩
abbrev main_cst_12 : Ref sig .tc := ⟨.hbm, 516, rfl⟩
abbrev main_v45 : Ref sig .tc := ⟨.hbm, 517, rfl⟩
abbrev main_v46 : Ref sig .tc := ⟨.hbm, 518, rfl⟩
abbrev main_cst_13 : Ref sig .tc := ⟨.hbm, 519, rfl⟩
abbrev main_v47 : Ref sig .tc := ⟨.hbm, 520, rfl⟩
abbrev main_v48 : Ref sig .tc := ⟨.hbm, 521, rfl⟩
abbrev main_v49 : Ref sig .tc := ⟨.hbm, 522, rfl⟩
abbrev main_v50 : Ref sig .tc := ⟨.hbm, 523, rfl⟩
abbrev main_v51 : Ref sig .tc := ⟨.hbm, 524, rfl⟩
abbrev main_v52 : Ref sig .tc := ⟨.hbm, 525, rfl⟩
abbrev main_v53 : Ref sig .tc := ⟨.hbm, 526, rfl⟩
abbrev main_cst_14 : Ref sig .tc := ⟨.hbm, 527, rfl⟩
abbrev main_v54 : Ref sig .tc := ⟨.hbm, 528, rfl⟩
abbrev main_v55 : Ref sig .tc := ⟨.hbm, 529, rfl⟩
abbrev main_cst_15 : Ref sig .tc := ⟨.hbm, 530, rfl⟩
abbrev main_v56 : Ref sig .tc := ⟨.hbm, 531, rfl⟩
abbrev main_cst_16 : Ref sig .tc := ⟨.hbm, 532, rfl⟩
abbrev main_v57 : Ref sig .tc := ⟨.hbm, 533, rfl⟩
abbrev main_v58 : Ref sig .tc := ⟨.hbm, 534, rfl⟩
abbrev main_v59 : Ref sig .tc := ⟨.hbm, 535, rfl⟩
abbrev main_v60 : Ref sig .tc := ⟨.hbm, 536, rfl⟩
abbrev main_v61 : Ref sig .tc := ⟨.hbm, 537, rfl⟩
abbrev main_v62 : Ref sig .tc := ⟨.hbm, 538, rfl⟩
abbrev main_cst_17 : Ref sig .tc := ⟨.hbm, 539, rfl⟩
abbrev main_v63 : Ref sig .tc := ⟨.hbm, 540, rfl⟩
abbrev main_v64 : Ref sig .tc := ⟨.hbm, 541, rfl⟩
abbrev main_v65 : Ref sig .tc := ⟨.hbm, 542, rfl⟩
abbrev main_v66 : Ref sig .tc := ⟨.hbm, 543, rfl⟩
abbrev main_call2_v0 : Ref sig .tc := ⟨.hbm, 544, rfl⟩
abbrev main_call2_cst : Ref sig .tc := ⟨.hbm, 545, rfl⟩
abbrev main_call2_c : Ref sig .tc := ⟨.hbm, 546, rfl⟩
abbrev main_call2_v1_0 : Ref sig .tc := ⟨.hbm, 547, rfl⟩
abbrev main_v67 : Ref sig .tc := ⟨.hbm, 548, rfl⟩
abbrev main_cst_18 : Ref sig .tc := ⟨.hbm, 549, rfl⟩
abbrev main_v68 : Ref sig .tc := ⟨.hbm, 550, rfl⟩
abbrev main_v69 : Ref sig .tc := ⟨.hbm, 551, rfl⟩
abbrev main_c_19 : Ref sig .tc := ⟨.hbm, 552, rfl⟩
abbrev main_v70 : Ref sig .tc := ⟨.hbm, 553, rfl⟩
abbrev main_v71 : Ref sig .tc := ⟨.hbm, 554, rfl⟩
abbrev main_c_20 : Ref sig .tc := ⟨.hbm, 555, rfl⟩
abbrev main_v72 : Ref sig .tc := ⟨.hbm, 556, rfl⟩
abbrev main_v73 : Ref sig .tc := ⟨.hbm, 557, rfl⟩
abbrev main_v74 : Ref sig .tc := ⟨.hbm, 558, rfl⟩
abbrev main_c_21 : Ref sig .tc := ⟨.hbm, 559, rfl⟩
abbrev main_v75 : Ref sig .tc := ⟨.hbm, 560, rfl⟩
abbrev main_v76 : Ref sig .tc := ⟨.hbm, 561, rfl⟩
abbrev main_c_22 : Ref sig .tc := ⟨.hbm, 562, rfl⟩
abbrev main_v77 : Ref sig .tc := ⟨.hbm, 563, rfl⟩
abbrev main_v78 : Ref sig .tc := ⟨.hbm, 564, rfl⟩
abbrev main_v79 : Ref sig .tc := ⟨.hbm, 565, rfl⟩
abbrev main_v80 : Ref sig .tc := ⟨.hbm, 566, rfl⟩
abbrev main_v81 : Ref sig .tc := ⟨.hbm, 567, rfl⟩
abbrev main_v82 : Ref sig .tc := ⟨.hbm, 568, rfl⟩
abbrev main_cst_23 : Ref sig .tc := ⟨.hbm, 569, rfl⟩
abbrev main_v83 : Ref sig .tc := ⟨.hbm, 570, rfl⟩
abbrev main_v84 : Ref sig .tc := ⟨.hbm, 571, rfl⟩
abbrev main_v85 : Ref sig .tc := ⟨.hbm, 572, rfl⟩
abbrev main_v86 : Ref sig .tc := ⟨.hbm, 573, rfl⟩

abbrev nD : Nat := 1
abbrev τ : Topo := Topo.v7x

variable {F : FTy → Type} [FloatOps F]
-- ==== Proof.Stats.lean ====
/- The first kernel function, run at one grid point: from the three running statistics (the sum of the exponentials, the
   index of the best column so far, its score) and the point's block of logits to the next three. -/
module

public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.Frame
public import Idealize.ShloMosaic.Lib.Pipeline.Value
public import Idealize.ShloMosaic.Lib.Tactic

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- No recursive variant is used. -/
abbrev 𝒱₀ : Variants := Variants.none

/-- The three running statistics of each row. -/
structure St (F : FTy → Type) where
  s : S32x1.Idx → Elt F .f32
  bi : S32x1.Idx → Elt F .i32
  bv : S32x1.Idx → Elt F .f32

/-- The statistics the first point starts from. -/
def stInit : St F := ⟨k0_pay1 (F := F), k0_pay2, k0_pay3 (F := F)⟩

/-- The random words of a block of columns, at a point that is not the last. -/
def wordsFull (v7 : IVec S32x8192 32) : IVec S32x8192 32 :=
  let v54 := k0_pay17 v7
  let v55 := k0_pay18 v7
  let v57 := k0_pay19 v7
  let v102 := k0_pay30 v54 v55 v57 15#32
  let v103 := k0_pay31 v54 v55 v57 15#32
  let v144 := k0_pay41 v102 v103 26#32
  let v149 := k0_pay42 v102 v103 26#32
  k0_pay43 v144 v149

/-- One step of the statistics at a point that is not the last. -/
def stepFull (i : grid0.Coords) (x : S32x8192.Idx → Elt F .f32) (S : St F) : St F :=
  let w := wordsFull (k0_pay4 i)
  ⟨k0_pay45 x S.s, k0_pay5 (k0_pay47 x (k0_pay4 i) w 1065353216#32) (k0_pay48 x w 1065353216#32 S.bv) S.bi,
    k0_pay49 x w 1065353216#32 S.bv S.bv⟩

/-- The first of the three words the last point's noise is read from. -/
def wordA (v7 : IVec S32x8192 32) : IVec S32x8192 32 × IVec S32x8192 32 × IVec S32x8192 32 :=
  let v54 := k0_pay60 v7
  let v56 := k0_pay61 v7
  let v57 := k0_pay62
  let v99 := k0_pay73 v54 v56 v57
  let v100 := k0_pay74 v54 v56 v57
  let v102 := k0_pay75 v54 v56 v57
  let v147 := k0_pay86 v99 v100 v102 17#32
  let v148 := k0_pay87 v99 v100 v102 17#32
  (k0_pay96 v147 v148 24#32, k0_pay97 v147 v148 24#32, k0_pay98)

/-- One step of the statistics at the last point, whose block is cut. -/
def stepEdge (i : grid0.Coords) (x : S32x8192.Idx → Elt F .f32) (S : St F) : St F :=
  let v7 := k0_pay4 i
  let w := wordA v7
  let g := k0_pay101 x (k0_pay50 v7) w.1 w.2.1 w.2.2
  let k := k0_pay102 x v7 (k0_pay50 v7) w.1 w.2.1 w.2.2
  ⟨k0_pay100 (k0_pay51 x v7) S.s, k0_pay8 g k S.bv S.bi, k0_pay7 g S.bv S.bv⟩

theorem hz2 : (![0, 0] : Fin 2 → Nat) = fun _ => 0 := funext fun a => by fin_cases a <;> rfl

theorem rd00 : (Memref.whole cc0_stg0_0 : Memref sig .tc _ _ _).view.readAt (Elt F) (Rect.unit (s := S32x8192) ![0, 0] S32x8192.size inb_S32x8192_S32x8192_0_0).toLoadRect = id :=
  funext (Memref.readAt_unit_zero (Elt F) cc0_stg0_0 hz2 _)
theorem rd01 : (Memref.whole cc0_stg0_1 : Memref sig .tc _ _ _).view.readAt (Elt F) (Rect.unit (s := S32x8192) ![0, 0] S32x8192.size inb_S32x8192_S32x8192_0_0).toLoadRect = id :=
  funext (Memref.readAt_unit_zero (Elt F) cc0_stg0_1 hz2 _)
theorem rd1 : (Memref.whole cc0_stg1_0 : Memref sig .tc _ _ _).view.readAt (Elt F) (Rect.unit (s := S32x1) ![0, 0] S32x1.size inb_S32x1_S32x1_0_0).toLoadRect = id :=
  funext (Memref.readAt_unit_zero (Elt F) cc0_stg1_0 hz2 _)
theorem rd2 : (Memref.whole cc0_stg2_0 : Memref sig .tc _ _ _).view.readAt (Elt F) (Rect.unit (s := S32x1) ![0, 0] S32x1.size inb_S32x1_S32x1_0_0).toLoadRect = id :=
  funext (Memref.readAt_unit_zero (Elt F) cc0_stg2_0 hz2 _)
theorem rd3 : (Memref.whole cc0_stg3_0 : Memref sig .tc _ _ _).view.readAt (Elt F) (Rect.unit (s := S32x1) ![0, 0] S32x1.size inb_S32x1_S32x1_0_0).toLoadRect = id :=
  funext (Memref.readAt_unit_zero (Elt F) cc0_stg3_0 hz2 _)
theorem wr1 : ∀ f w, (((Memref.whole cc0_stg1_0).access (Rect.unit (s := S32x1) ![0, 0] S32x1.size inb_S32x1_S32x1_0_0)) :
    View sig .tc _ _ _).write (Elt F) f w Finset.univ = w := Memref.write_access_unit_zero_univ (Elt F) cc0_stg1_0 hz2 _
theorem wr2 : ∀ f w, (((Memref.whole cc0_stg2_0).access (Rect.unit (s := S32x1) ![0, 0] S32x1.size inb_S32x1_S32x1_0_0)) :
    View sig .tc _ _ _).write (Elt F) f w Finset.univ = w := Memref.write_access_unit_zero_univ (Elt F) cc0_stg2_0 hz2 _
theorem wr3 : ∀ f w, (((Memref.whole cc0_stg3_0).access (Rect.unit (s := S32x1) ![0, 0] S32x1.size inb_S32x1_S32x1_0_0)) :
    View sig .tc _ _ _).write (Elt F) f w Finset.univ = w := Memref.write_access_unit_zero_univ (Elt F) cc0_stg3_0 hz2 _

theorem ws1 : ∀ f w L, (View.whole cc0_stg1_0).writes (Elt F) f (⟨Rect.unit (s := S32x1) ![0, 0] S32x1.size inb_S32x1_S32x1_0_0, w⟩ :: L) = w :=
  fun f w L => wr1 ((View.whole cc0_stg1_0).writes (Elt F) f L) w
theorem ws2 : ∀ f w L, (View.whole cc0_stg2_0).writes (Elt F) f (⟨Rect.unit (s := S32x1) ![0, 0] S32x1.size inb_S32x1_S32x1_0_0, w⟩ :: L) = w :=
  fun f w L => wr2 ((View.whole cc0_stg2_0).writes (Elt F) f L) w
theorem ws3 : ∀ f w L, (View.whole cc0_stg3_0).writes (Elt F) f (⟨Rect.unit (s := S32x1) ![0, 0] S32x1.size inb_S32x1_S32x1_0_0, w⟩ :: L) = w :=
  fun f w L => wr3 ((View.whole cc0_stg3_0).writes (Elt F) f L) w

set_option maxHeartbeats 2000000 in
/-- The kernel at a middle point: the block of logits is read, the three statistics take one full step. -/
theorem run_mid (c : Dev nD) (E : Set ℕ) (i : grid0.Coords) (h1 : ¬ k0_cond1 i = 1#1) (h2 : k0_cond2 i = 1#1) (h3 : ¬ k0_cond3 i = 1#1)
    (s0 : Fin 2) (s1 s2 s3 : Fin 1) (X : S32x8192.Idx → Elt F .f32) (S : St F) (K : PUnit → sProp 𝕄) :
    iprop((owns (c : Thread nD τ) (stage0_0 s0) fullShare X ∗ owns (c : Thread nD τ) (stage0_1 s1) fullShare S.s
            ∗ owns (c : Thread nD τ) (stage0_2 s2) fullShare S.bi ∗ owns (c : Thread nD τ) (stage0_3 s3) fullShare S.bv)
          ∗ (iprop(owns (c : Thread nD τ) (stage0_0 s0) fullShare X ∗ owns (c : Thread nD τ) (stage0_1 s1) fullShare (stepFull i X S).s
            ∗ owns (c : Thread nD τ) (stage0_2 s2) fullShare (stepFull i X S).bi ∗ owns (c : Thread nD τ) (stage0_3 s3) fullShare (stepFull i X S).bv) -∗ K ⟨⟩))
      ⊢ wp frame (wpE (defs₀ (F := F)) 𝒱₀ c none) E
          (cc0__stats_kernel i (stage0_0 s0) (hstage0_0 s0) (stage0_1 s1) (hstage0_1 s1) (stage0_2 s2) (hstage0_2 s2) (stage0_3 s3) (hstage0_3 s3)) K := by
  fin_cases s0 <;> fin_cases s1 <;> fin_cases s2 <;> fin_cases s3
  all_goals
    simp only [owns_whole_eq, cc0__stats_kernel_eq_skeleton]; unfold cc0__stats_kernel_skel
    simp only [k0_part1_eq_skeleton, k0_part2_eq_skeleton, k0_part3_eq_skeleton, k0_part4_eq_skeleton, k0_part5_eq_skeleton]
    unfold k0_part1_skel k0_part2_skel k0_part3_skel k0_part4_skel k0_part5_skel
    simp only [dif_neg h1, dif_pos h2, dif_neg h3, Prog.lift, Prog.bind_op, Prog.bind_ret, Prog.pure_eq_ret]
    iintro ⟨⟨⟨%f0, %hf0, H0⟩, ⟨%f1, %hf1, H1⟩, ⟨%f2, %hf2, H2⟩, ⟨%f3, %hf3, H3⟩⟩, Hk⟩
    sl_steps
    iapply Hk
    repeat (first | rw [rd00] | rw [rd01] | rw [rd1] | rw [rd2] | rw [rd3] | rw [wr1] | rw [wr2] | rw [wr3])
    simp only [id]
    subst hf0 hf1 hf2 hf3
    dsimp only [stepFull, wordsFull]
    isplitl [H0]
    · iexists _; isplitr; · ipureintro; rfl
      iexact H0
    isplitl [H1]
    · iexists _; isplitr; · ipureintro; rfl
      iexact H1
    isplitl [H2]
    · iexists _; isplitr; · ipureintro; rfl
      iexact H2
    · iexists _; isplitr; · ipureintro; rfl
      iexact H3

set_option maxHeartbeats 2000000 in
/-- The kernel at the first point: the statistics are set to their start and take one full step, whatever they held. -/
theorem run_first (c : Dev nD) (E : Set ℕ) (i : grid0.Coords) (h1 : k0_cond1 i = 1#1) (h2 : k0_cond2 i = 1#1) (h3 : ¬ k0_cond3 i = 1#1)
    (s0 : Fin 2) (s1 s2 s3 : Fin 1) (X : S32x8192.Idx → Elt F .f32) (Y1 Y3 : S32x1.Idx → Elt F .f32) (Y2 : S32x1.Idx → Elt F .i32) (K : PUnit → sProp 𝕄) :
    iprop((owns (c : Thread nD τ) (stage0_0 s0) fullShare X ∗ owns (c : Thread nD τ) (stage0_1 s1) fullShare Y1
            ∗ owns (c : Thread nD τ) (stage0_2 s2) fullShare Y2 ∗ owns (c : Thread nD τ) (stage0_3 s3) fullShare Y3)
          ∗ (iprop(owns (c : Thread nD τ) (stage0_0 s0) fullShare X ∗ owns (c : Thread nD τ) (stage0_1 s1) fullShare (stepFull i X stInit).s
            ∗ owns (c : Thread nD τ) (stage0_2 s2) fullShare (stepFull i X stInit).bi ∗ owns (c : Thread nD τ) (stage0_3 s3) fullShare (stepFull i X stInit).bv) -∗ K ⟨⟩))
      ⊢ wp frame (wpE (defs₀ (F := F)) 𝒱₀ c none) E
          (cc0__stats_kernel i (stage0_0 s0) (hstage0_0 s0) (stage0_1 s1) (hstage0_1 s1) (stage0_2 s2) (hstage0_2 s2) (stage0_3 s3) (hstage0_3 s3)) K := by
  fin_cases s0 <;> fin_cases s1 <;> fin_cases s2 <;> fin_cases s3
  all_goals
    simp only [owns_whole_eq, cc0__stats_kernel_eq_skeleton]; unfold cc0__stats_kernel_skel
    simp only [k0_part1_eq_skeleton, k0_part2_eq_skeleton, k0_part3_eq_skeleton, k0_part4_eq_skeleton, k0_part5_eq_skeleton]
    unfold k0_part1_skel k0_part2_skel k0_part3_skel k0_part4_skel k0_part5_skel
    simp only [dif_pos h1, dif_pos h2, dif_neg h3, Prog.lift, Prog.bind_op, Prog.bind_ret, Prog.pure_eq_ret]
    iintro ⟨⟨⟨%f0, %hf0, H0⟩, ⟨%f1, %hf1, H1⟩, ⟨%f2, %hf2, H2⟩, ⟨%f3, %hf3, H3⟩⟩, Hk⟩
    sl_steps
    iapply Hk
    repeat (first | rw [rd00] | rw [rd01] | rw [rd1] | rw [rd2] | rw [rd3] | rw [wr1] | rw [wr2] | rw [wr3] | rw [ws1] | rw [ws2] | rw [ws3])
    simp only [id]
    subst hf0 hf1 hf2 hf3
    dsimp only [stepFull, wordsFull, stInit]
    isplitl [H0]
    · iexists _; isplitr; · ipureintro; rfl
      iexact H0
    isplitl [H1]
    · iexists _; isplitr; · ipureintro; rfl
      iexact H1
    isplitl [H2]
    · iexists _; isplitr; · ipureintro; rfl
      iexact H2
    · iexists _; isplitr; · ipureintro; rfl
      iexact H3

set_option maxHeartbeats 2000000 in
/-- The kernel at the last point: the statistics take one step over the columns inside the array. -/
theorem run_last (c : Dev nD) (E : Set ℕ) (i : grid0.Coords) (h1 : ¬ k0_cond1 i = 1#1) (h2 : ¬ k0_cond2 i = 1#1) (h3 : k0_cond3 i = 1#1)
    (s0 : Fin 2) (s1 s2 s3 : Fin 1) (X : S32x8192.Idx → Elt F .f32) (S : St F) (K : PUnit → sProp 𝕄) :
    iprop((owns (c : Thread nD τ) (stage0_0 s0) fullShare X ∗ owns (c : Thread nD τ) (stage0_1 s1) fullShare S.s
            ∗ owns (c : Thread nD τ) (stage0_2 s2) fullShare S.bi ∗ owns (c : Thread nD τ) (stage0_3 s3) fullShare S.bv)
          ∗ (iprop(owns (c : Thread nD τ) (stage0_0 s0) fullShare X ∗ owns (c : Thread nD τ) (stage0_1 s1) fullShare (stepEdge i X S).s
            ∗ owns (c : Thread nD τ) (stage0_2 s2) fullShare (stepEdge i X S).bi ∗ owns (c : Thread nD τ) (stage0_3 s3) fullShare (stepEdge i X S).bv) -∗ K ⟨⟩))
      ⊢ wp frame (wpE (defs₀ (F := F)) 𝒱₀ c none) E
          (cc0__stats_kernel i (stage0_0 s0) (hstage0_0 s0) (stage0_1 s1) (hstage0_1 s1) (stage0_2 s2) (hstage0_2 s2) (stage0_3 s3) (hstage0_3 s3)) K := by
  fin_cases s0 <;> fin_cases s1 <;> fin_cases s2 <;> fin_cases s3
  all_goals
    simp only [owns_whole_eq, cc0__stats_kernel_eq_skeleton]; unfold cc0__stats_kernel_skel
    simp only [k0_part6_eq_skeleton, k0_part7_eq_skeleton, k0_part8_eq_skeleton, k0_part9_eq_skeleton, k0_part10_eq_skeleton]
    unfold k0_part6_skel k0_part7_skel k0_part8_skel k0_part9_skel k0_part10_skel
    simp only [dif_neg h1, dif_neg h2, dif_pos h3, Prog.lift, Prog.bind_op, Prog.bind_ret, Prog.pure_eq_ret]
    iintro ⟨⟨⟨%f0, %hf0, H0⟩, ⟨%f1, %hf1, H1⟩, ⟨%f2, %hf2, H2⟩, ⟨%f3, %hf3, H3⟩⟩, Hk⟩
    sl_steps
    iapply Hk
    repeat (first | rw [rd00] | rw [rd01] | rw [rd1] | rw [rd2] | rw [rd3] | rw [wr1] | rw [wr2] | rw [wr3])
    simp only [id]
    subst hf0 hf1 hf2 hf3
    dsimp only [stepEdge, wordA]
    isplitl [H0]
    · iexists _; isplitr; · ipureintro; rfl
      iexact H0
    isplitl [H1]
    · iexists _; isplitr; · ipureintro; rfl
      iexact H1
    isplitl [H2]
    · iexists _; isplitr; · ipureintro; rfl
      iexact H2
    · iexists _; isplitr; · ipureintro; rfl
      iexact H3

end Cert.Proof.KI

end
-- ==== Proof.Geom.lean ====
/- Where the two grids' points sit in the array: the columns of each block, which of them are inside, and the kernel's
   conditions on the point. -/
module

public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.Frame
public import Idealize.ShloMosaic.Lib.Pipeline.Value
public import Idealize.ShloMosaic.Lib.Tactic
public import Idealize.ShloMosaic.Lib.WordCmp
public import proofs.«01_k».proof.Proof.Stats

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem coords0_val (t : Fin grid0.N) : (grid0.coords t 0).val = t.val := by
  have := Pipeline.Grid.coords_val t (0 : Fin grid0.rank) (S := 1) (B := 123) (by decide) (by decide)
  have ht : t.val < 123 := lt_of_lt_of_eq t.isLt N_0
  omega

theorem coords1_val (t : Fin grid1.N) : (grid1.coords t 0).val = t.val := by
  have := Pipeline.Grid.coords_val t (0 : Fin grid1.rank) (S := 1) (B := 123) (by decide) (by decide)
  have ht : t.val < 123 := lt_of_lt_of_eq t.isLt N_1
  omega

theorem cond1_iff (i : grid0.Coords) : k0_cond1 i = 1#1 ↔ (i 0).val = 0 :=
  (by decide : ∀ n : Fin 123, Scalar.cmpi .ne (Scalar.extui (Scalar.cmpi .eq (BitVec.ofNat 32 n.val) 0#32) : BitVec 32) 0#32 = 1#1 ↔ n.val = 0) (i 0)

theorem cond2_iff (i : grid0.Coords) : k0_cond2 i = 1#1 ↔ (i 0).val < 122 :=
  (by decide : ∀ n : Fin 123, Scalar.cmpi .ne (Scalar.extui (Scalar.cmpi .slt (BitVec.ofNat 32 n.val) 122#32) : BitVec 32) 0#32 = 1#1 ↔ n.val < 122) (i 0)

theorem cond3_iff (i : grid0.Coords) : k0_cond3 i = 1#1 ↔ (i 0).val = 122 :=
  (by decide : ∀ n : Fin 123, Scalar.cmpi .ne (Scalar.extui (Scalar.cmpi .eq (BitVec.ofNat 32 n.val) 122#32) : BitVec 32) 0#32 = 1#1 ↔ n.val = 122) (i 0)

/-- No point is idle: every point satisfies one of the conditions. -/
theorem idle0_false (w : Fin 4) (i : grid0.Coords) : idle0 w i = false := by
  have hi : (i 0).val < 123 := (i 0).isLt
  have h : (!(k0_cond1 i == 1#1) && !(k0_cond2 i == 1#1) && !(k0_cond3 i == 1#1)) = false := by
    rcases Nat.lt_or_ge (i 0).val 122 with h | h
    · have h2 := (cond2_iff i).mpr h; simp [h2]
    · have h3 := (cond3_iff i).mpr (by omega); simp [h3]
  fin_cases w
  · rfl
  · exact h
  · exact h
  · exact h

theorem tr00 (i : grid0.Coords) : cc0_transform_0 i = ![0, (i 0).val] := by
  have hi : (i 0).val < 123 := (i 0).isLt
  unfold cc0_transform_0; simp only [BitVec.toNat_ofNat]
  rw [Nat.mod_eq_of_lt (a := (i 0).val) (by omega)]

/-- Which columns of the block at a point are inside the array. -/
theorem moved_iff0 (i : grid0.Coords) (j : S32x8192.Idx) : win0_0.moved i j = true ↔ (i 0).val * 8192 + (j 1).val < 1000000 := by
  have hi : (i 0).val < 123 := (i 0).isLt
  have hj0 : (j 0).val < 32 := (j 0).isLt
  have hj1 : (j 1).val < 8192 := (j 1).isLt
  have e0 : win0_0.xsize i 0 = (Pipeline.Clip.of (cc0_transform_0 i 0) 32 32).extent 32 := rfl
  have e1 : win0_0.xsize i 1 = (Pipeline.Clip.of (cc0_transform_0 i 1) 8192 1000000).extent 8192 := rfl
  rw [tr00] at e0 e1
  simp only [Matrix.cons_val_zero, Matrix.cons_val_one] at e0 e1
  rw [Pipeline.Window.moved_iff]
  have hx0 : win0_0.xsize i 0 = 32 := by rw [e0]; rfl
  constructor
  · intro h
    have h1 := h 1
    change (j 1).val < win0_0.xsize i 1 at h1
    rw [e1] at h1; unfold Pipeline.Clip.of at h1
    split at h1
    · omega
    · simp only [Pipeline.Clip.extent] at h1; omega
  · intro h a
    fin_cases a
    · change (j 0).val < win0_0.xsize i 0; rw [hx0]; exact hj0
    · change (j 1).val < win0_0.xsize i 1
      rw [e1]; unfold Pipeline.Clip.of
      split
      · exact hj1
      · simp only [Pipeline.Clip.extent]; omega

/-- At a point that is not the last the block is inside the array: what fills the rest of the buffer does not matter. -/
theorem fill_mid {α : Type} (i : grid0.Coords) (h : (i 0).val < 122) (d d' : S32x8192.Idx → α) (g : (win0_0.xblock i).Idx → α) :
    win0_0.fill i d g = win0_0.fill i d' g := by
  funext j
  have hj1 : (j 1).val < 8192 := (j 1).isLt
  have hm := (moved_iff0 i j).mpr (by omega)
  unfold Pipeline.Window.fill; rw [dif_pos hm, dif_pos hm]

theorem col_apply (i : grid0.Coords) (j : S32x8192.Idx) : (k0_pay4 i j : BitVec 32) = BitVec.ofNat 32 ((i 0).val * 8192 + (j 1).val) := by
  unfold k0_pay4
  change iota .tc S32x8192 32 [1] iota_S32x8192_d1_w32 j + BitVec.ofNat 32 (i 0).val * 8192#32 = _
  rw [iota_single_apply]
  apply BitVec.eq_of_toNat_eq
  have hi : (i 0).val < 123 := (i 0).isLt
  have hj1 : (j 1).val < 8192 := (j 1).isLt
  simp only [BitVec.toNat_add, BitVec.toNat_mul, BitVec.toNat_ofNat]
  omega

/-- The last point's mask is the columns inside the array. -/
theorem valid_iff (i : grid0.Coords) (j : S32x8192.Idx) : k0_pay50 (k0_pay4 i) j = 1#1 ↔ (i 0).val * 8192 + (j 1).val < 1000000 := by
  have hi : (i 0).val < 123 := (i 0).isLt
  have hj1 : (j 1).val < 8192 := (j 1).isLt
  unfold k0_pay50
  change Scalar.cmpi .slt (k0_pay4 i j) 1000000#32 = 1#1 ↔ _
  rw [col_apply]
  exact WordCmp.cmpi_slt_ofNat_eq_one_iff (by omega) (by omega)

/-- A masked choice reads its first operand only where the mask is one. -/
theorem select_congr {s : Shape} {α : Type} (v : IVec s 1) (x y z : s.Idx → α) (h : ∀ j, v j = 1#1 → x j = y j) : select v x z = select v y z := by
  funext j
  change (if v j = 1#1 then x j else z j) = (if v j = 1#1 then y j else z j)
  by_cases hv : v j = 1#1
  · rw [if_pos hv, if_pos hv, h j hv]
  · rw [if_neg hv, if_neg hv]

end Cert.Proof.KI

end
-- ==== Proof.Region0.lean ====
/- The first kernel call as a region of the program: the statistics after each point, what its body needs and leaves, and
   the three arrays it leaves behind. -/
module

public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.Frame
public import Idealize.ShloMosaic.Lib.Pipeline.Value
public import Idealize.ShloMosaic.Lib.Tactic
public import Idealize.ShloMosaic.Lib.Pipeline.RegionsLoop
public import proofs.«01_k».proof.Proof.Geom

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- What a buffer of the given contents type holds, on the core. -/
abbrev Cts (F : FTy → Type) (c : Dev nD) (b : Ref sig .tc) : Type := Buf (Elt F) ((c : Thread nD τ).loc b)

/-- The block of logits at a point, as the fetch reads it. -/
def xblk (c : Dev nD) (A : Cts F c main_arg0) (t : Fin cfg0.N) : (win0_0.xblock (grid0.coords t)).Idx → Elt F .f32 :=
  (win0_0.blk t).view.read (Elt F) A

/-- The same on the whole buffer, zero where nothing was fetched. -/
def xbuf (c : Dev nD) (A : Cts F c main_arg0) (t : Fin cfg0.N) : S32x8192.Idx → Elt F .f32 :=
  win0_0.fill (grid0.coords t) (fun _ => Scalar.ofBits .f32 0#32) (xblk c A t)

/-- The statistics after the first `n` points. -/
def st (c : Dev nD) (A : Cts F c main_arg0) : ℕ → St F
  | 0 => stInit
  | n + 1 => if h : n < cfg0.N then
      (if n < 122 then stepFull (grid0.coords ⟨n, h⟩) (xbuf c A ⟨n, h⟩) (st c A n) else stepEdge (grid0.coords ⟨n, h⟩) (xbuf c A ⟨n, h⟩) (st c A n))
    else st c A n

theorem st_succ (c : Dev nD) (A : Cts F c main_arg0) (t : Fin cfg0.N) : st c A (t.val + 1) =
    if t.val < 122 then stepFull (grid0.coords t) (xbuf c A t) (st c A t.val) else stepEdge (grid0.coords t) (xbuf c A t) (st c A t.val) := by
  rw [st, dif_pos t.isLt]

/-- The last point's step reads its block only inside the array. -/
theorem stepEdge_fill (i : grid0.Coords) (d d' : S32x8192.Idx → Elt F .f32) (g : (win0_0.xblock i).Idx → Elt F .f32) (S : St F) :
    stepEdge i (win0_0.fill i d g) S = stepEdge i (win0_0.fill i d' g) S := by
  have hx : ∀ j, k0_pay50 (k0_pay4 i) j = 1#1 → win0_0.fill i d g j = win0_0.fill i d' g j := fun j hj => by
    have hm := (moved_iff0 i j).mpr ((valid_iff i j).mp hj)
    unfold Pipeline.Window.fill; rw [dif_pos hm, dif_pos hm]
  have e51 : k0_pay51 (win0_0.fill i d g) (k0_pay4 i) = k0_pay51 (win0_0.fill i d' g) (k0_pay4 i) := select_congr _ _ _ _ hx
  have e99 : ∀ a b e, k0_pay99 (win0_0.fill i d g) (k0_pay50 (k0_pay4 i)) a b e = k0_pay99 (win0_0.fill i d' g) (k0_pay50 (k0_pay4 i)) a b e :=
    fun a b e => select_congr _ _ _ _ fun j hj => by
      change FloatOps.addf (win0_0.fill i d g j) _ = FloatOps.addf (win0_0.fill i d' g j) _
      rw [hx j hj]
  have e101 : ∀ a b e, k0_pay101 (win0_0.fill i d g) (k0_pay50 (k0_pay4 i)) a b e = k0_pay101 (win0_0.fill i d' g) (k0_pay50 (k0_pay4 i)) a b e :=
    fun a b e => by unfold k0_pay101; rw [e99]
  have e102 : ∀ a b e, k0_pay102 (win0_0.fill i d g) (k0_pay4 i) (k0_pay50 (k0_pay4 i)) a b e = k0_pay102 (win0_0.fill i d' g) (k0_pay4 i) (k0_pay50 (k0_pay4 i)) a b e :=
    fun a b e => by unfold k0_pay102; rw [e99, e101]
  unfold stepEdge
  dsimp only
  rw [e51, e101, e102]

/-- The proof data of the first call, entered with the buffers at `V`. -/
def dat0 (V : (c : Dev nD) → (b : Ref sig .tc) → Cts F c b) (c : Dev nD) : Dat τ (Elt F) Unit ℕ (UR sig nD τ) ℕ cfg0 c where
  A w := V c (Pipeline.arrRef spec0 w)
  after w t := match w with
    | ⟨0, _⟩ => xbuf c (V c main_arg0) t
    | ⟨1, _⟩ => (st c (V c main_arg0) (t.val + 1)).s
    | ⟨2, _⟩ => (st c (V c main_arg0) (t.val + 1)).bi
    | ⟨3, _⟩ => (st c (V c main_arg0) (t.val + 1)).bv
  Φ _ := Pipeline.scopedRest (Ix := Unit) (Name := ℕ) (U := UR sig nD τ) (Lvl := ℕ) (Val := Elt F) spec0 c
  q _ := fullShare
  owed _ := 0

variable (V : (c : Dev nD) → (b : Ref sig .tc) → Cts F c b)

theorem before0_0 (c : Dev nD) (t : Fin cfg0.N) (d) :
    (dat0 V c).before (0 : Fin 4) t d = win0_0.fill (grid0.coords t) d (xblk c (V c main_arg0) t) := by
  unfold Dat.before; rw [if_pos (fetch0_0 t)]; rfl

theorem flush0_false {t : Fin cfg0.N} (ht : t.val ≠ 0) (w : Fin 4) (hw : w ≠ 0) :
    (cfg0.win w).flush ⟨t.val - 1, Nat.lt_of_le_of_lt (Nat.sub_le _ _) t.isLt⟩ = false := by
  have h123 : t.val < 123 := lt_of_lt_of_eq t.isLt N_0
  have hm : ¬ (t.val - 1) % 123 = 122 := by omega
  rw [Bool.eq_false_iff]
  fin_cases w
  · exact absurd rfl hw
  · exact fun h => hm ((flush0_1 _).mp h)
  · exact fun h => hm ((flush0_2 _).mp h)
  · exact fun h => hm ((flush0_3 _).mp h)

theorem before0_1 (c : Dev nD) (t : Fin cfg0.N) (ht : t.val ≠ 0) (d) : (dat0 V c).before (1 : Fin 4) t d = (st c (V c main_arg0) t.val).s := by
  rw [(dat0 V c).before_out_kept (1 : Fin 4) rfl t ht (flush0_false ht 1 (by decide)) (fun i => idle0_false 1 i) (fun _ _ => rfl)]
  change (st c (V c main_arg0) (t.val - 1 + 1)).s = _
  rw [Nat.sub_add_cancel (Nat.one_le_iff_ne_zero.mpr ht)]
theorem before0_2 (c : Dev nD) (t : Fin cfg0.N) (ht : t.val ≠ 0) (d) : (dat0 V c).before (2 : Fin 4) t d = (st c (V c main_arg0) t.val).bi := by
  rw [(dat0 V c).before_out_kept (2 : Fin 4) rfl t ht (flush0_false ht 2 (by decide)) (fun i => idle0_false 2 i) (fun _ _ => rfl)]
  change (st c (V c main_arg0) (t.val - 1 + 1)).bi = _
  rw [Nat.sub_add_cancel (Nat.one_le_iff_ne_zero.mpr ht)]
theorem before0_3 (c : Dev nD) (t : Fin cfg0.N) (ht : t.val ≠ 0) (d) : (dat0 V c).before (3 : Fin 4) t d = (st c (V c main_arg0) t.val).bv := by
  rw [(dat0 V c).before_out_kept (3 : Fin 4) rfl t ht (flush0_false ht 3 (by decide)) (fun i => idle0_false 3 i) (fun _ _ => rfl)]
  change (st c (V c main_arg0) (t.val - 1 + 1)).bv = _
  rw [Nat.sub_add_cancel (Nat.one_le_iff_ne_zero.mpr ht)]

/-- The body's obligation at a point: from the statistics after the points before it, it leaves those after this one. -/
theorem body0 (c : Dev nD) : BodyObligationLoose (dat0 V c) (defs₀ (F := F)) 𝒱₀ () Set.univ := fun t => by
  rw [bigSep_W0, bigSep_W0]
  have hc := coords0_val t
  have h123 : t.val < 123 := lt_of_lt_of_eq t.isLt N_0
  have hi1 : idle0 1 (grid0.coords t) = false := idle0_false 1 _
  simp only
  rw [hi1]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩⟩
  rw [before0_0 V c t d0]
  have hx : win0_0.cut (grid0.coords t) (xbuf c (V c main_arg0) t) = xblk c (V c main_arg0) t := win0_0.cut_fill _ _ _
  rcases Nat.eq_zero_or_pos t.val with ht | ht
  · -- the first point
    have e : st c (V c main_arg0) (t.val + 1) = stepFull (grid0.coords t) (win0_0.fill (grid0.coords t) d0 (xblk c (V c main_arg0) t)) stInit := by
      rw [st_succ, if_pos (by omega), fill_mid _ (by omega) d0 (fun _ => Scalar.ofBits .f32 0#32), ht]; rfl
    iapply (run_first (F := F) c Set.univ (grid0.coords t) ((cond1_iff _).mpr (by omega)) ((cond2_iff _).mpr (by omega)) (fun h => by have := (cond3_iff _).mp h; omega)
      (cfg0.slots t 0) (cfg0.slots t 1) (cfg0.slots t 2) (cfg0.slots t 3) (win0_0.fill (grid0.coords t) d0 (xblk c (V c main_arg0) t))
      ((dat0 V c).before (1 : Fin 4) t d1) ((dat0 V c).before (3 : Fin 4) t d3) ((dat0 V c).before (2 : Fin 4) t d2) _)
    rw [← e]
    isplitl [H0 H1 H2 H3]
    · isplitl [H0]
      · iexact H0
      isplitl [H1]
      · iexact H1
      isplitl [H2]
      · iexact H2
      · iexact H3
    iintro ⟨H0, H1, H2, H3⟩
    isplitl [HΦ]; · iexact HΦ
    isplitl [Ho]; · iexact Ho
    isplitl [H0]
    · iexists d0
      change _ ⊢ owns (c : Thread nD τ) (stage0_0 (cfg0.slots t 0)) fullShare (win0_0.fill (grid0.coords t) d0 (win0_0.cut (grid0.coords t) (xbuf c (V c main_arg0) t)))
      rw [hx]; try iexact H0
    isplitl [H1]
    · iexact H1
    isplitl [H2]
    · iexact H2
    · iexact H3
  · rw [before0_1 V c t (by omega) d1, before0_2 V c t (by omega) d2, before0_3 V c t (by omega) d3]
    rcases Nat.lt_or_ge t.val 122 with hl | hl
    · -- a middle point
      have e : st c (V c main_arg0) (t.val + 1) = stepFull (grid0.coords t) (win0_0.fill (grid0.coords t) d0 (xblk c (V c main_arg0) t)) (st c (V c main_arg0) t.val) := by
        rw [st_succ, if_pos hl, fill_mid _ (by omega) d0 (fun _ => Scalar.ofBits .f32 0#32)]; rfl
      iapply (run_mid (F := F) c Set.univ (grid0.coords t) (fun h => by have := (cond1_iff _).mp h; omega) ((cond2_iff _).mpr (by omega)) (fun h => by have := (cond3_iff _).mp h; omega)
        (cfg0.slots t 0) (cfg0.slots t 1) (cfg0.slots t 2) (cfg0.slots t 3) (win0_0.fill (grid0.coords t) d0 (xblk c (V c main_arg0) t)) (st c (V c main_arg0) t.val) _)
      rw [← e]
      isplitl [H0 H1 H2 H3]
      · isplitl [H0]
        · iexact H0
        isplitl [H1]
        · iexact H1
        isplitl [H2]
        · iexact H2
        · iexact H3
      iintro ⟨H0, H1, H2, H3⟩
      isplitl [HΦ]; · iexact HΦ
      isplitl [Ho]; · iexact Ho
      isplitl [H0]
      · iexists d0
        change _ ⊢ owns (c : Thread nD τ) (stage0_0 (cfg0.slots t 0)) fullShare (win0_0.fill (grid0.coords t) d0 (win0_0.cut (grid0.coords t) (xbuf c (V c main_arg0) t)))
        rw [hx]; try iexact H0
      isplitl [H1]
      · iexact H1
      isplitl [H2]
      · iexact H2
      · iexact H3
    · -- the last point
      have e : st c (V c main_arg0) (t.val + 1) = stepEdge (grid0.coords t) (win0_0.fill (grid0.coords t) d0 (xblk c (V c main_arg0) t)) (st c (V c main_arg0) t.val) := by
        rw [st_succ, if_neg (by omega)]; exact stepEdge_fill _ _ _ _ _
      iapply (run_last (F := F) c Set.univ (grid0.coords t) (fun h => by have := (cond1_iff _).mp h; omega) (fun h => by have := (cond2_iff _).mp h; omega) ((cond3_iff _).mpr (by omega))
        (cfg0.slots t 0) (cfg0.slots t 1) (cfg0.slots t 2) (cfg0.slots t 3) (win0_0.fill (grid0.coords t) d0 (xblk c (V c main_arg0) t)) (st c (V c main_arg0) t.val) _)
      rw [← e]
      isplitl [H0 H1 H2 H3]
      · isplitl [H0]
        · iexact H0
        isplitl [H1]
        · iexact H1
        isplitl [H2]
        · iexact H2
        · iexact H3
      iintro ⟨H0, H1, H2, H3⟩
      isplitl [HΦ]; · iexact HΦ
      isplitl [Ho]; · iexact Ho
      isplitl [H0]
      · iexists d0
        change _ ⊢ owns (c : Thread nD τ) (stage0_0 (cfg0.slots t 0)) fullShare (win0_0.fill (grid0.coords t) d0 (win0_0.cut (grid0.coords t) (xbuf c (V c main_arg0) t)))
        rw [hx]; try iexact H0
      isplitl [H1]
      · iexact H1
      isplitl [H2]
      · iexact H2
      · iexact H3

end Cert.Proof.KI

end
-- ==== Proof.Emit.lean ====
/- The second kernel function, run at one grid point: from the point's block of logits and the row statistics to the
   point's blocks of the two results. -/
module

public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.Frame
public import Idealize.ShloMosaic.Lib.Pipeline.Value
public import Idealize.ShloMosaic.Lib.Tactic
public import proofs.«01_k».proof.Proof.Stats

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem erd_stg0_0 : (Memref.whole cc1_stg0_0 : Memref sig .tc _ _ _).view.readAt (Elt F) (Rect.unit (s := S32x8192) ![0, 0] S32x8192.size inb_S32x8192_S32x8192_0_0).toLoadRect = id :=
  funext (Memref.readAt_unit_zero (Elt F) cc1_stg0_0 hz2 _)
theorem erd_stg0_1 : (Memref.whole cc1_stg0_1 : Memref sig .tc _ _ _).view.readAt (Elt F) (Rect.unit (s := S32x8192) ![0, 0] S32x8192.size inb_S32x8192_S32x8192_0_0).toLoadRect = id :=
  funext (Memref.readAt_unit_zero (Elt F) cc1_stg0_1 hz2 _)
theorem erd_stg1_0 : (Memref.whole cc1_stg1_0 : Memref sig .tc _ _ _).view.readAt (Elt F) (Rect.unit (s := S32x1) ![0, 0] S32x1.size inb_S32x1_S32x1_0_0).toLoadRect = id :=
  funext (Memref.readAt_unit_zero (Elt F) cc1_stg1_0 hz2 _)
theorem erd_stg2_0 : (Memref.whole cc1_stg2_0 : Memref sig .tc _ _ _).view.readAt (Elt F) (Rect.unit (s := S32x1) ![0, 0] S32x1.size inb_S32x1_S32x1_0_0).toLoadRect = id :=
  funext (Memref.readAt_unit_zero (Elt F) cc1_stg2_0 hz2 _)
theorem ewr_stg3_0 : ∀ f w, (((Memref.whole cc1_stg3_0).access (Rect.unit (s := S32x8192) ![0, 0] S32x8192.size inb_S32x8192_S32x8192_0_0)) :
    View sig .tc _ _ _).write (Elt F) f w Finset.univ = w := Memref.write_access_unit_zero_univ (Elt F) cc1_stg3_0 hz2 _
theorem ewr_stg3_1 : ∀ f w, (((Memref.whole cc1_stg3_1).access (Rect.unit (s := S32x8192) ![0, 0] S32x8192.size inb_S32x8192_S32x8192_0_0)) :
    View sig .tc _ _ _).write (Elt F) f w Finset.univ = w := Memref.write_access_unit_zero_univ (Elt F) cc1_stg3_1 hz2 _
theorem ewr_stg4_0 : ∀ f w, (((Memref.whole cc1_stg4_0).access (Rect.unit (s := S32x8192) ![0, 0] S32x8192.size inb_S32x8192_S32x8192_0_0)) :
    View sig .tc _ _ _).write (Elt F) f w Finset.univ = w := Memref.write_access_unit_zero_univ (Elt F) cc1_stg4_0 hz2 _
theorem ewr_stg4_1 : ∀ f w, (((Memref.whole cc1_stg4_1).access (Rect.unit (s := S32x8192) ![0, 0] S32x8192.size inb_S32x8192_S32x8192_0_0)) :
    View sig .tc _ _ _).write (Elt F) f w Finset.univ = w := Memref.write_access_unit_zero_univ (Elt F) cc1_stg4_1 hz2 _

set_option maxHeartbeats 2000000 in
/-- The second kernel at a grid point: it reads the block of logits and the two row statistics and writes the block of the
    softmax and the block of the one-hot rows. -/
theorem run_emit (c : Dev nD) (E : Set ℕ) (i : grid1.Coords)
    (s0 : Fin 2) (s1 s2 : Fin 1) (s3 s4 : Fin 2) (X Y3 Y4 : S32x8192.Idx → Elt F .f32) (s : S32x1.Idx → Elt F .f32) (bi : S32x1.Idx → Elt F .i32)
    (K : PUnit → sProp 𝕄) :
    iprop((owns (c : Thread nD τ) (stage1_0 s0) fullShare X ∗ owns (c : Thread nD τ) (stage1_1 s1) fullShare s
            ∗ owns (c : Thread nD τ) (stage1_2 s2) fullShare bi ∗ owns (c : Thread nD τ) (stage1_3 s3) fullShare Y3
            ∗ owns (c : Thread nD τ) (stage1_4 s4) fullShare Y4)
          ∗ (iprop(owns (c : Thread nD τ) (stage1_0 s0) fullShare X ∗ owns (c : Thread nD τ) (stage1_1 s1) fullShare s
            ∗ owns (c : Thread nD τ) (stage1_2 s2) fullShare bi ∗ owns (c : Thread nD τ) (stage1_3 s3) fullShare (k1_pay2 (F := F) i bi)
            ∗ owns (c : Thread nD τ) (stage1_4 s4) fullShare (k1_pay1 X s)) -∗ K ⟨⟩))
      ⊢ wp frame (wpE (defs₀ (F := F)) 𝒱₀ c none) E
          (cc1__emit_kernel i (stage1_0 s0) (hstage1_0 s0) (stage1_1 s1) (hstage1_1 s1) (stage1_2 s2) (hstage1_2 s2) (stage1_3 s3) (hstage1_3 s3)
            (stage1_4 s4) (hstage1_4 s4)) K := by
  fin_cases s0 <;> fin_cases s1 <;> fin_cases s2 <;> fin_cases s3 <;> fin_cases s4
  all_goals
    simp only [owns_whole_eq, cc1__emit_kernel_eq_skeleton]; unfold cc1__emit_kernel_skel
    simp only [Prog.lift, Prog.bind_op, Prog.bind_ret, Prog.pure_eq_ret]
    iintro ⟨⟨⟨%f0, %hf0, H0⟩, ⟨%f1, %hf1, H1⟩, ⟨%f2, %hf2, H2⟩, ⟨%f3, %hf3, H3⟩, ⟨%f4, %hf4, H4⟩⟩, Hk⟩
    sl_steps
    iapply Hk
    repeat (first | rw [erd_stg0_0] | rw [erd_stg0_1] | rw [erd_stg1_0] | rw [erd_stg2_0] | rw [ewr_stg3_0] | rw [ewr_stg3_1] | rw [ewr_stg4_0] | rw [ewr_stg4_1])
    simp only [id]
    subst hf0 hf1 hf2 hf3 hf4
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    · iexists _; isplitr; · ipureintro; rfl
      iexact H4

end Cert.Proof.KI

end
-- ==== Proof.Region1.lean ====
/- The second kernel call as a region of the program: what its body needs and leaves at a point, and the two arrays it
   leaves behind, element by element. -/
module

public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.Frame
public import Idealize.ShloMosaic.Lib.Pipeline.Value
public import Idealize.ShloMosaic.Lib.Tactic
public import Idealize.ShloMosaic.Lib.Pipeline.RegionsLoop
public import proofs.«01_k».proof.Proof.Region0
public import proofs.«01_k».proof.Proof.Emit
public import Idealize.ShloMosaic.Lib.Pipeline.ValueKit.Geometry

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The index of a row in a column of 32. -/
def ix1 (r : Fin 32) : S32x1.Idx := fun a => match a with
  | ⟨0, _⟩ => r
  | ⟨1, _⟩ => (0 : Fin 1)

/-- An element of the softmax: the exponential shifted by twelve, times one over the row's sum. -/
def piE (x s : F .f32) : F .f32 :=
  FloatOps.mulf (FloatOps.exp (FloatOps.subf x (Scalar.ofBits .f32 0x41400000#32))) (FloatOps.divf (Scalar.ofBits .f32 0x3F800000#32) s)

/-- An element of the one-hot rows: one at the row's chosen column, zero elsewhere. -/
def ohE (n : ℕ) (b : BitVec 32) : F .f32 :=
  Scalar.select (Scalar.cmpi .eq (BitVec.ofNat 32 n) b) (Scalar.ofBits .f32 0x3F800000#32) (Scalar.ofBits .f32 0x00000000#32)

theorem bto_apply {α : Type} (v : S32x1.Idx → α) (j : S32x8192.Idx) : broadcastTo S32x8192 v broadcasts_S32x1_S32x8192 j = v (ix1 (j 0)) := by
  refine broadcastTo_apply _ _ _ _ fun a => ?_
  fin_cases a <;> rfl

theorem pay1_apply (x : S32x8192.Idx → F .f32) (s : S32x1.Idx → F .f32) (j : S32x8192.Idx) : k1_pay1 x s j = piE (x j) (s (ix1 (j 0))) := by
  unfold k1_pay1 piE
  rw [shapeCast_self]
  change FloatOps.mulf (FloatOps.exp (FloatOps.subf (x j) _)) (broadcastTo S32x8192 _ broadcasts_S32x1_S32x8192 j) = _
  rw [bto_apply]; rfl

theorem pay2_apply (i : grid1.Coords) (b : S32x1.Idx → BitVec 32) (j : S32x8192.Idx) :
    k1_pay2 (F := F) i b j = ohE ((i 0).val * 8192 + (j 1).val) (b (ix1 (j 0))) := by
  unfold k1_pay2 ohE
  rw [shapeCast_self]
  change Scalar.select (Scalar.cmpi .eq (iota .tc S32x8192 32 [1] iota_S32x8192_d1_w32 j + BitVec.ofNat 32 (i 0).val * 8192#32) (broadcastTo S32x8192 _ broadcasts_S32x1_S32x8192 j)) _ _ = _
  rw [bto_apply, iota_single_apply]
  have e : (BitVec.ofNat 32 (j 1).val + BitVec.ofNat 32 (i 0).val * 8192#32 : BitVec 32) = BitVec.ofNat 32 ((i 0).val * 8192 + (j 1).val) := by
    apply BitVec.eq_of_toNat_eq
    simp only [BitVec.toNat_add, BitVec.toNat_mul, BitVec.toNat_ofNat]
    omega
  exact congrArg (fun w => Scalar.select (Scalar.cmpi .eq w (b (ix1 (j 0)))) _ _) e

/-- The block of logits at a point of the second call, on the whole buffer, zero where nothing was fetched. -/
def xbuf1 (c : Dev nD) (A : Cts F c main_arg0) (t : Fin cfg1.N) : S32x8192.Idx → Elt F .f32 :=
  win1_0.fill (grid1.coords t) (fun _ => Scalar.ofBits .f32 0#32) ((win1_0.blk t).view.read (Elt F) A)

/-- The proof data of the second call, entered with the buffers at `V`. -/
def dat1 (V : (c : Dev nD) → (b : Ref sig .tc) → Cts F c b) (c : Dev nD) : Dat τ (Elt F) Unit ℕ (UR sig nD τ) ℕ cfg1 c where
  A w := V c (Pipeline.arrRef spec1 w)
  after w t := match w with
    | ⟨0, _⟩ => xbuf1 c (V c main_arg0) t
    | ⟨1, _⟩ => V c main_v0_0
    | ⟨2, _⟩ => V c main_v0_1
    | ⟨3, _⟩ => k1_pay2 (F := F) (grid1.coords t) (V c main_v0_1)
    | ⟨4, _⟩ => k1_pay1 (xbuf1 c (V c main_arg0) t) (V c main_v0_0)
  Φ _ := Pipeline.scopedRest (Ix := Unit) (Name := ℕ) (U := UR sig nD τ) (Lvl := ℕ) (Val := Elt F) spec1 c
  q _ := fullShare
  owed _ := 0

variable (V : (c : Dev nD) → (b : Ref sig .tc) → Cts F c b)

theorem before1_0 (c : Dev nD) (t : Fin cfg1.N) (d) :
    (dat1 V c).before (0 : Fin 5) t d = win1_0.fill (grid1.coords t) d ((win1_0.blk t).view.read (Elt F) (V c main_arg0)) := by
  unfold Dat.before; rw [if_pos (fetch1_0 t)]; rfl

theorem keep1_1 (c : Dev nD) (t : Fin cfg1.N) : (cfg1.win 1).cut (cfg1.grid.coords t) ((dat1 V c).after (1 : Fin 5) t) = (dat1 V c).blockOf (1 : Fin 5) t := by
  funext y
  change V c main_v0_0 _ = V c main_v0_0 _
  congr 1
  funext a; apply Fin.ext
  exact (Pipeline.Window.rect_emb_val_of_index_zero win1_1 t a (by fin_cases a <;> rfl) y).symm
theorem keep1_2 (c : Dev nD) (t : Fin cfg1.N) : (cfg1.win 2).cut (cfg1.grid.coords t) ((dat1 V c).after (2 : Fin 5) t) = (dat1 V c).blockOf (2 : Fin 5) t := by
  funext y
  change V c main_v0_1 _ = V c main_v0_1 _
  congr 1
  funext a; apply Fin.ext
  exact (Pipeline.Window.rect_emb_val_of_index_zero win1_2 t a (by fin_cases a <;> rfl) y).symm

theorem before1_1 (c : Dev nD) (t : Fin cfg1.N) (d) : (dat1 V c).before (1 : Fin 5) t d = V c main_v0_0 := by
  rw [(dat1 V c).before_in_eq_fetched (1 : Fin 5) rfl (fun _ => rfl) (fun _ _ _ => rfl) (keep1_1 V c) t d]
  unfold Dat.fetched
  rw [← keep1_1 V c t, Pipeline.fill_of_clip_none (1 : Fin 5) (cfg1.grid.coords t) (fun _ => rfl) d ((dat1 V c).after (1 : Fin 5) t), Pipeline.Window.fill_cut]
  rfl
theorem before1_2 (c : Dev nD) (t : Fin cfg1.N) (d) : (dat1 V c).before (2 : Fin 5) t d = V c main_v0_1 := by
  rw [(dat1 V c).before_in_eq_fetched (2 : Fin 5) rfl (fun _ => rfl) (fun _ _ _ => rfl) (keep1_2 V c) t d]
  unfold Dat.fetched
  rw [← keep1_2 V c t, Pipeline.fill_of_clip_none (2 : Fin 5) (cfg1.grid.coords t) (fun _ => rfl) d ((dat1 V c).after (2 : Fin 5) t), Pipeline.Window.fill_cut]
  rfl

/-- The softmax block is the same inside the array whatever fills the rest of the buffer. -/
theorem fill_pay1 (i : grid1.Coords) (d d' : S32x8192.Idx → Elt F .f32) (g : (win1_0.xblock i).Idx → Elt F .f32) (s : S32x1.Idx → Elt F .f32) :
    win1_4.fill i (k1_pay1 (win1_0.fill i d g) s) (win1_4.cut i (k1_pay1 (win1_0.fill i d' g) s)) = k1_pay1 (win1_0.fill i d g) s := by
  funext j
  by_cases hm : win1_4.moved i j = true
  · have hm0 : win1_0.moved i j = true := hm
    have e : win1_4.fill i (k1_pay1 (win1_0.fill i d g) s) (win1_4.cut i (k1_pay1 (win1_0.fill i d' g) s)) j = k1_pay1 (win1_0.fill i d' g) s j := by
      unfold Pipeline.Window.fill; rw [dif_pos hm]
    rw [e, pay1_apply, pay1_apply]
    have : win1_0.fill i d g j = win1_0.fill i d' g j := by unfold Pipeline.Window.fill; rw [dif_pos hm0, dif_pos hm0]
    rw [this]
  · unfold Pipeline.Window.fill; rw [dif_neg hm]

/-- The body's obligation at a point. -/
theorem body1 (c : Dev nD) : BodyObligationLoose (dat1 V c) (defs₀ (F := F)) 𝒱₀ () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩⟩
  rw [before1_0 V c t d0, before1_1 V c t d1, before1_2 V c t d2]
  have hx : win1_0.cut (grid1.coords t) (xbuf1 c (V c main_arg0) t) = (win1_0.blk t).view.read (Elt F) (V c main_arg0) := win1_0.cut_fill _ _ _
  iapply (run_emit (F := F) c Set.univ (grid1.coords t)
    (cfg1.slots t 0) (cfg1.slots t 1) (cfg1.slots t 2) (cfg1.slots t 3) (cfg1.slots t 4)
    (win1_0.fill (grid1.coords t) d0 ((win1_0.blk t).view.read (Elt F) (V c main_arg0)))
    ((dat1 V c).before (3 : Fin 5) t d3) ((dat1 V c).before (4 : Fin 5) t d4) (V c main_v0_0) (V c main_v0_1) _)
  isplitl [H0 H1 H2 H3 H4]
  · isplitl [H0]
    · iexact H0
    isplitl [H1]
    · iexact H1
    isplitl [H2]
    · iexact H2
    isplitl [H3]
    · iexact H3
    · iexact H4
  iintro ⟨H0, H1, H2, H3, H4⟩
  isplitl [HΦ]; · iexact HΦ
  isplitl [Ho]; · iexact Ho
  isplitl [H0]
  · iexists d0
    change _ ⊢ owns (c : Thread nD τ) (stage1_0 (cfg1.slots t 0)) fullShare (win1_0.fill (grid1.coords t) d0 (win1_0.cut (grid1.coords t) (xbuf1 c (V c main_arg0) t)))
    rw [hx]; try iexact H0
  isplitl [H1]
  · iexact H1
  isplitl [H2]
  · iexact H2
  isplitl [H3]
  · iexists (k1_pay2 (F := F) (grid1.coords t) (V c main_v0_1))
    have hl : win1_3.fill (grid1.coords t) (k1_pay2 (F := F) (grid1.coords t) (V c main_v0_1))
        ((cfg1.win 3).cut (cfg1.grid.coords t) ((dat1 V c).after (3 : Fin 5) t)) = k1_pay2 (F := F) (grid1.coords t) (V c main_v0_1) :=
      win1_3.fill_cut _ _
    rw [hl]; try iexact H3
  · iexists (k1_pay1 (win1_0.fill (grid1.coords t) d0 ((win1_0.blk t).view.read (Elt F) (V c main_arg0))) (V c main_v0_0))
    have hl : win1_4.fill (grid1.coords t) (k1_pay1 (win1_0.fill (grid1.coords t) d0 ((win1_0.blk t).view.read (Elt F) (V c main_arg0))) (V c main_v0_0))
        ((cfg1.win 4).cut (cfg1.grid.coords t) ((dat1 V c).after (4 : Fin 5) t))
        = k1_pay1 (win1_0.fill (grid1.coords t) d0 ((win1_0.blk t).view.read (Elt F) (V c main_arg0))) (V c main_v0_0) := fill_pay1 _ _ _ _ _
    rw [hl]; try iexact H4

theorem index3_row (t : Fin cfg1.N) : win1_3.index t 0 = 0 := rfl
theorem index4_row (t : Fin cfg1.N) : win1_4.index t 0 = 0 := rfl
theorem index0_eq (t : Fin cfg1.N) : win1_0.index t = win1_4.index t := rfl
theorem index3_col (t : Fin cfg1.N) : win1_3.index t 1 = (grid1.coords t 0).val := by
  have hi : (grid1.coords t 0).val < 123 := (grid1.coords t 0).isLt
  change (BitVec.ofNat 32 (grid1.coords t 0).val).toNat = _
  rw [BitVec.toNat_ofNat]; exact Nat.mod_eq_of_lt (by omega)

/-- The array of one-hot rows the second call leaves. -/
theorem arr1_3 (c : Dev nD) : (dat1 V c).arrAt (3 : Fin 5) cfg1.N
    = fun i : S32x1000000.Idx => ohE (F := F) (i 1).val (V c main_v0_1 (ix1 (i 0))) := by
  refine (dat1 V c).arrAt_eq_of_covers (3 : Fin 5) _ (by decide +kernel) fun t hf y => ?_
  change k1_pay2 (F := F) (grid1.coords t) (V c main_v0_1) (win1_3.xinj (grid1.coords t) y) = _
  rw [pay2_apply]
  have e0 : (win1_3.blk t).view.emb y 0 = win1_3.xinj (grid1.coords t) y 0 :=
    Fin.ext (Pipeline.Window.rect_emb_val_of_index_zero win1_3 t 0 (index3_row t) y)
  have e1 : ((win1_3.blk t).view.emb y 1 : ℕ) = (grid1.coords t 0).val * 8192 + (win1_3.xinj (grid1.coords t) y 1).val :=
    (Pipeline.Window.rect_emb_val win1_3 t y 1).trans (by rw [index3_col]; rfl)
  change _ = ohE ((win1_3.blk t).view.emb y 1).val (V c main_v0_1 (ix1 ((win1_3.blk t).view.emb y 0)))
  rw [e0, e1]

/-- The array of softmax rows the second call leaves. -/
theorem arr1_4 (c : Dev nD) : (dat1 V c).arrAt (4 : Fin 5) cfg1.N
    = fun i : S32x1000000.Idx => piE (V c main_arg0 i) (V c main_v0_0 (ix1 (i 0))) := by
  refine (dat1 V c).arrAt_eq_of_covers (4 : Fin 5) _ (by decide +kernel) fun t hf y => ?_
  change k1_pay1 (xbuf1 c (V c main_arg0) t) (V c main_v0_0) (win1_4.xinj (grid1.coords t) y) = _
  rw [pay1_apply]
  have e0 : (win1_4.blk t).view.emb y 0 = win1_4.xinj (grid1.coords t) y 0 :=
    Fin.ext (Pipeline.Window.rect_emb_val_of_index_zero win1_4 t 0 (index4_row t) y)
  have ex : xbuf1 c (V c main_arg0) t (win1_4.xinj (grid1.coords t) y) = V c main_arg0 ((win1_4.blk t).view.emb y) := by
    have h := congrFun (win1_0.cut_fill (grid1.coords t) (fun _ => Scalar.ofBits .f32 0#32) ((win1_0.blk t).view.read (Elt F) (V c main_arg0))) y
    exact h
  change _ = piE (V c main_arg0 ((win1_4.blk t).view.emb y)) (V c main_v0_0 (ix1 ((win1_4.blk t).view.emb y 0)))
  rw [e0, ex]

end Cert.Proof.KI

end
-- ==== Proof.Run.lean ====
/- The whole program: the two calls one after the other, from a memory to the two results, with the argument unchanged and
   every semaphore at zero. -/
module

public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.Frame
public import Idealize.ShloMosaic.Lib.Pipeline.Value
public import Idealize.ShloMosaic.Lib.Tactic
public import Idealize.ShloMosaic.Lib.Pipeline.RegionsLoop
public import proofs.«01_k».proof.Proof.Region1
public import proofs.«01_k».proof.Proof.Gen.KernelIdeal.Regions
public import Idealize.ShloMosaic.Lib.Pipeline.ValueKit.Geometry

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.Pipeline (Seg RegionSeg)

/-- The levels and indices of the waits: none is used. -/
abbrev L : GSem nD τ sig → Finset Unit := fun _ => ∅
abbrev lv : GSem nD τ sig → Unit → ℕ := fun _ _ => 0

variable (m : (ℓ : Loc nD τ sig) → Buf (Elt F) ℓ) (ρ : Dev nD → PrngReg)

/-- The statistics after the last point. -/
abbrev stEnd (c : Dev nD) : St F := st c (m ((c : Thread nD τ).loc main_arg0)) 123

/-- The buffers at the start, between the calls and at the end. -/
def U0 (c : Dev nD) (b : Ref sig .tc) : Cts F c b := m ((c : Thread nD τ).loc b)
def U1 (c : Dev nD) : (b : Ref sig .tc) → Cts F c b :=
  Function.update (Function.update (Function.update (U0 m c) main_v0_0 (stEnd m c).s) main_v0_1 (stEnd m c).bi) main_v0_2 (stEnd m c).bv
def U2 (c : Dev nD) : (b : Ref sig .tc) → Cts F c b :=
  Function.update (Function.update (U1 m c) main_v1_0 (fun i : S32x1000000.Idx => ohE (F := F) (i 1).val ((stEnd m c).bi (ix1 (i 0)))))
    main_v1_1 (fun i : S32x1000000.Idx => piE (U0 m c main_arg0 i) ((stEnd m c).s (ix1 (i 0))))

theorem U1_of (c : Dev nD) (b : Ref sig .tc) (h0 : b ≠ main_v0_0) (h1 : b ≠ main_v0_1) (h2 : b ≠ main_v0_2) : U1 m c b = U0 m c b := by
  rw [U1, Function.update_of_ne h2, Function.update_of_ne h1, Function.update_of_ne h0]
theorem U1_0 (c : Dev nD) : U1 m c main_v0_0 = (stEnd m c).s := by
  rw [U1, Function.update_of_ne (by decide), Function.update_of_ne (by decide), Function.update_self]
theorem U1_1 (c : Dev nD) : U1 m c main_v0_1 = (stEnd m c).bi := by
  rw [U1, Function.update_of_ne (by decide), Function.update_self]
theorem U1_2 (c : Dev nD) : U1 m c main_v0_2 = (stEnd m c).bv := by rw [U1, Function.update_self]
theorem U2_of (c : Dev nD) (b : Ref sig .tc) (h0 : b ≠ main_v1_0) (h1 : b ≠ main_v1_1) : U2 m c b = U1 m c b := by
  rw [U2, Function.update_of_ne h1, Function.update_of_ne h0]
theorem U2_0 (c : Dev nD) : U2 m c main_v1_0 = (fun i : S32x1000000.Idx => ohE (F := F) (i 1).val ((stEnd m c).bi (ix1 (i 0)))) := by
  rw [U2, Function.update_of_ne (by decide), Function.update_self]
theorem U2_1 (c : Dev nD) : U2 m c main_v1_1 = (fun i : S32x1000000.Idx => piE (m ((c : Thread nD τ).loc main_arg0) i) ((stEnd m c).s (ix1 (i 0)))) := by
  rw [U2, Function.update_self]; rfl

/-- The three statistics the first call leaves: each is written back once, after the last point. -/
theorem arr0_1 (c : Dev nD) : (dat0 (U0 m) c).arrAt (1 : Fin 4) cfg0.N = (stEnd m c).s :=
  (dat0 (U0 m) c).arrAt_eq_of_after_last (1 : Fin 4) ⟨122, by decide⟩ (by decide +kernel) _ fun _ => rfl
theorem arr0_2 (c : Dev nD) : (dat0 (U0 m) c).arrAt (2 : Fin 4) cfg0.N = (stEnd m c).bi :=
  (dat0 (U0 m) c).arrAt_eq_of_after_last (2 : Fin 4) ⟨122, by decide⟩ (by decide +kernel) _ fun _ => rfl
theorem arr0_3 (c : Dev nD) : (dat0 (U0 m) c).arrAt (3 : Fin 4) cfg0.N = (stEnd m c).bv :=
  (dat0 (U0 m) c).arrAt_eq_of_after_last (3 : Fin 4) ⟨122, by decide⟩ (by decide +kernel) _ fun _ => rfl

/-- The two calls' proof data. -/
def dats : (p : Fin 2) → (c : Dev nD) → Dat τ (Elt F) Unit ℕ (UR sig nD τ) ℕ (cfgs p) c
  | 0 => dat0 (U0 m)
  | 1 => dat1 (U1 m)

/-- What a core owes outside the calls: nothing. -/
abbrev Owe (c : Dev nD) : sProp 𝕄 := iprop(∃ W, owes (c : Thread nD τ) (0 : CellTallies nD τ sig Unit) W)

set_option backward.isDefEq.respectTransparency.types false in
/-- The first call, entered with the buffers as launched and left with the statistics written. -/
def reg0 : RegionSeg (pcfgs (F := F)) adm (dats m) () defs₀ 𝒱₀ L lv 0 where
  win := launch0.win.to₀
  block_pos := launch0.block_pos
  stage_whole := launch0.stage_whole
  K := PEmpty
  osem k := k.elim
  ho := Pipeline.OwnSemFacts.none _
  hbody c := body0 (U0 m) c
  hwaits := Pipeline.hwaits_of_owed_zero _ _ _ _ L lv 0 fun _ _ => rfl
  pre c := iprop(unscopedBufs c (U0 m c) ∗ Owe c)
  post c := iprop(unscopedBufs c (U1 m c) ∗ Owe c)
  X _ := BI.emp
  Y _ := BI.emp
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (dats m) launch0.win launch0.arr_whole c
      ((dats m 0 c).share_full fun _ => rfl) (U0 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m 0 c).Φ (Fin.last _) = Pipeline.scopedRest (Ix := Unit) (Name := ℕ) (U := UR sig nD τ) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (dats m) ((dats m 0 c).share_full fun _ => rfl) (U0 m c) (U1 m c) ((dats m 0 c).arrAt · cfg0.N)
      (fun w => by
        fin_cases w
        · exact ((dats m 0 c).arrAt_in (0 : Fin 4) rfl _).trans (U1_of m c main_arg0 (by decide) (by decide) (by decide)).symm
        · exact (arr0_1 m c).trans (U1_0 m c).symm
        · exact (arr0_2 m c).trans (U1_1 m c).symm
        · exact (arr0_3 m c).trans (U1_2 m c).symm)
      (fun b hb => U1_of m c b (fun h => hb (h ▸ Finset.mem_image.mpr ⟨1, Finset.mem_univ _, rfl⟩))
        (fun h => hb (h ▸ Finset.mem_image.mpr ⟨2, Finset.mem_univ _, rfl⟩)) (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The second call, entered with the statistics written and left with the results. -/
def reg1 : RegionSeg (pcfgs (F := F)) adm (dats m) () defs₀ 𝒱₀ L lv 1 where
  win := launch1.win.to₀
  block_pos := launch1.block_pos
  stage_whole := launch1.stage_whole
  K := PEmpty
  osem k := k.elim
  ho := Pipeline.OwnSemFacts.none _
  hbody c := body1 (U1 m) c
  hwaits := Pipeline.hwaits_of_owed_zero _ _ _ _ L lv 1 fun _ _ => rfl
  pre c := iprop(unscopedBufs c (U1 m c) ∗ Owe c)
  post c := iprop(unscopedBufs c (U2 m c) ∗ Owe c)
  X _ := BI.emp
  Y _ := BI.emp
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) adm (dats m) launch1.win launch1.arr_whole c
      ((dats m 1 c).share_full fun _ => rfl) (U1 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (dats m 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (dats m) ((dats m 1 c).share_full fun _ => rfl) (U1 m c) (U2 m c) ((dats m 1 c).arrAt · cfg1.N)
      (fun w => by
        fin_cases w
        · exact ((dats m 1 c).arrAt_in (0 : Fin 5) rfl _).trans (U2_of m c main_arg0 (by decide) (by decide)).symm
        · exact ((dats m 1 c).arrAt_in (1 : Fin 5) rfl _).trans (U2_of m c main_v0_0 (by decide) (by decide)).symm
        · exact ((dats m 1 c).arrAt_in (2 : Fin 5) rfl _).trans (U2_of m c main_v0_1 (by decide) (by decide)).symm
        · exact (arr1_3 (U1 m) c).trans ((by rw [U1_1] : _ = _).trans (U2_0 m c).symm)
        · exact (arr1_4 (U1 m) c).trans ((by rw [U1_0, U1_of m c main_arg0 (by decide) (by decide) (by decide)]; rfl : _ = _).trans (U2_1 m c).symm))
      (fun b hb => U2_of m c b (fun h => hb (h ▸ Finset.mem_image.mpr ⟨3, Finset.mem_univ _, rfl⟩))
        (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The ghost state at the launch. -/
abbrev u₀ : UR sig nD τ := initOf (Pipeline.cells cfgs cellOf_inj) (Pipeline.launchToks cfgs cellOf_inj)

set_option backward.isDefEq.respectTransparency.types false in
/-- From any memory with zero counters the program ends, with the two results as computed, the argument unchanged and
    every semaphore counter at zero. -/
theorem run : θ_run defs (onTc (τ := τ) (main (F := F))) ⟨m, fun _ => 0, ρ⟩ (fun r => (∀ c : Dev nD,
      r.2.mem ((c : Thread nD τ).loc main_v1_0) = (fun i : S32x1000000.Idx => ohE (F := F) (i 1).val ((stEnd m c).bi (ix1 (i 0))))
      ∧ r.2.mem ((c : Thread nD τ).loc main_v1_1) = (fun i : S32x1000000.Idx => piE (m ((c : Thread nD τ).loc main_arg0) i) ((stEnd m c).s (ix1 (i 0))))
      ∧ r.2.mem ((c : Thread nD τ).loc main_arg0) = m ((c : Thread nD τ).loc main_arg0))
      ∧ r.2.sem = fun _ => 0) := by
  refine Pipeline.θ_run_regions_kit_dev_sems (pcfgs (F := F)) adm (dats m) () cellOf_inj emb₁ defs₀ 𝒱₀ L lv m ρ main
    (fun _ => [.region (reg0 m), .region (reg1 m)])
    (fun c Q => by rw [main_segs adm (dats m) () 𝒱₀ L lv (reg0 m) (reg1 m) c])
    (fun c => by simp only [Seg.pipes_host, Seg.pipes_region, Seg.pipes_nil]; decide) (O₀ := 0) (hL := fun _ _ => rfl)
    (G := fun _ => iprop(emp)) (u₀ := u₀)
    (hu₀ := by
      iintro Hu
      imodintro
      isplitl [Hu]
      · iapply (show (ownU (u₀ : UR sig nD τ) : sProp 𝕄) ⊢ BI.own (emb₁ (u₀ : UR sig nD τ)) from .rfl); iexact Hu
      iapply (show (BI.emp : sProp 𝕄) ⊢ bigSep Finset.univ (fun _ : Dev nD => (BI.emp : sProp 𝕄)) from by rw [BI.bigSep_emp_const])
      iempintro)
    (T₀ := fun c => iprop(unscopedBufs c (U0 m c) ∗ Owe c)) (Tₙ := fun c => unscopedBufs c (U2 m c))
    (hch := fun c => ⟨.rfl, .rfl, .rfl⟩)
    (hinit := by
      refine Pipeline.initEach L lv fun c => ?_
      iintro ⟨⟨Hh, -, HO, -, -, -⟩, -⟩
      imodintro
      isplitl [Hh]; · iexact Hh
      iexists ∅; iexact HO)
    (QY := fun c s => s.mem ((c : Thread nD τ).loc main_v1_0) = (fun i : S32x1000000.Idx => ohE (F := F) (i 1).val ((stEnd m c).bi (ix1 (i 0))))
      ∧ s.mem ((c : Thread nD τ).loc main_v1_1) = (fun i : S32x1000000.Idx => piE (m ((c : Thread nD τ).loc main_arg0) i) ((stEnd m c).s (ix1 (i 0))))
      ∧ s.mem ((c : Thread nD τ).loc main_arg0) = m ((c : Thread nD τ).loc main_arg0))
    (hfin := fun c s' => ?_) (hQ := fun _ h hz => ⟨h, funext fun g => hz g (.inr (regions_no_unscoped g.2))⟩)
  unfold unscopedBufs
  iintro ⟨Hh, HSI⟩
  ihave Hr := (pointsTo_read_all (Finset.univ.filter fun b : Ref sig .tc => ¬ b.isScoped) (fun b => (c : Thread nD τ).loc b) (U2 m c) s') $$ [Hh HSI]
  · isplitl [Hh] <;> iassumption
  icases Hr with ⟨%h, HSI⟩
  imodintro
  isplitr
  · ipureintro
    exact ⟨(h main_v1_0 (Finset.mem_filter.mpr ⟨Finset.mem_univ _, by decide⟩)).trans (U2_0 m c),
      (h main_v1_1 (Finset.mem_filter.mpr ⟨Finset.mem_univ _, by decide⟩)).trans (U2_1 m c),
      (h main_arg0 (Finset.mem_filter.mpr ⟨Finset.mem_univ _, by decide⟩)).trans
        ((U2_of m c main_arg0 (by decide) (by decide)).trans (U1_of m c main_arg0 (by decide) (by decide) (by decide)))⟩
  · iexact HSI

end Cert.Proof.KI

end
-- ==== Proof.RefOps.lean ====
/- The reference program read as a list of host operations: its main function runs them in order, and each touches only buffers of the program. -/
module

public import proofs.«01_k».proof.Proof.Gen.ReferenceIdeal
public import Idealize.ShloMosaic.Lib.StableHlo.Run
public import Idealize.ShloMosaic.Lib.Pipeline.Frame

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v17`, named. It packs its operands into a list of dependent pairs
    whose shapes a later argument's type mentions, so `simp` cannot rewrite an operand where it stands; applied by
    name, the operands are plain arguments, which the window lemmas below rewrite before the name unfolds. -/
def fn_main_v17 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- The function of the operation that writes `main_call0_v4`, named. It packs its operands into a list of dependent pairs
    whose shapes a later argument's type mentions, so `simp` cannot rewrite an operand where it stands; applied by
    name, the operands are plain arguments, which the window lemmas below rewrite before the name unfolds. -/
def fn_main_call0_v4 : (main_call0_v1 : Ref sig .tc).ty.Contents (Elt F) → (main_call0_v3 : Ref sig .tc).ty.Contents (Elt F) → (main_call0_v4 : Ref sig .tc).ty.Contents (Elt F) :=
  (fun a b => concatenate S2 0 [⟨S1, a⟩, ⟨S1, b⟩] concatenates_S1_S1_S2_d0)

/-- The function of the operation that writes `main_v18`, named. It packs its operands into a list of dependent pairs
    whose shapes a later argument's type mentions, so `simp` cannot rewrite an operand where it stands; applied by
    name, the operands are plain arguments, which the window lemmas below rewrite before the name unfolds. -/
def fn_main_v18 : (main_call0_v11_0 : Ref sig .tc).ty.Contents (Elt F) → (main_call0_v11_1 : Ref sig .tc).ty.Contents (Elt F) → (main_v18 : Ref sig .tc).ty.Contents (Elt F) :=
  (fun a b => concatenate S2 0 [⟨S1, a⟩, ⟨S1, b⟩] concatenates_S1_S1_S2_d0)

/-- The function of the operation that writes `main_v82`, named. It packs its operands into a list of dependent pairs
    whose shapes a later argument's type mentions, so `simp` cannot rewrite an operand where it stands; applied by
    name, the operands are plain arguments, which the window lemmas below rewrite before the name unfolds. -/
def fn_main_v82 : (⟨S32x1, .i32⟩ : BufTy).Contents (Elt F) → (⟨S32x1, .i32⟩ : BufTy).Contents (Elt F) → (⟨S32x2, .i32⟩ : BufTy).Contents (Elt F) :=
  (fun a b => concatenate S32x2 1 [⟨S32x1, a⟩, ⟨S32x1, b⟩] concatenates_S32x1_S32x1_S32x2_d1)

/-- @main's operations 1 … 30 of 573 (window `main_part0`). -/
abbrev ops_part0_0 : List (HloOp τ sig (Elt F)) :=
  [ nullary main_cst (constant S_ .f32 0xFF800000#32),
    binary main_arg0 main_cst main_v0 ((fun x v => Host.reduce FloatOps.maximumf x v reducesTo_S32x1000000_S32_d1 h_S_) : (⟨S32x1000000, .f32⟩ : BufTy).Contents (Elt F) → (⟨S_, .f32⟩ : BufTy).Contents (Elt F) → (⟨S32, .f32⟩ : BufTy).Contents (Elt F)),
    nullary main_cst_0 (constant S_ .f32 0xFF800000#32),
    unary main_cst_0 main_v1 (broadcastInDim S32 ![] bcast_S_S32 : (⟨S_, .f32⟩ : BufTy).Contents (Elt F) → (⟨S32, .f32⟩ : BufTy).Contents (Elt F)),
    binary main_v1 main_v0 main_v2 (maximumf : (⟨S32, .f32⟩ : BufTy).Contents (Elt F) → (⟨S32, .f32⟩ : BufTy).Contents (Elt F) → (⟨S32, .f32⟩ : BufTy).Contents (Elt F)),
    unary main_v2 main_v3 (broadcastInDim S32x1 ![0] bcast_S32_S32x1_0 : (⟨S32, .f32⟩ : BufTy).Contents (Elt F) → (⟨S32x1, .f32⟩ : BufTy).Contents (Elt F)),
    unary main_v3 main_v4 (broadcastInDim S32x1000000 ![0, 1] bcast_S32x1_S32x1000000_0_1 : (⟨S32x1, .f32⟩ : BufTy).Contents (Elt F) → (⟨S32x1000000, .f32⟩ : BufTy).Contents (Elt F)),
    binary main_arg0 main_v4 main_v5 (subf : (⟨S32x1000000, .f32⟩ : BufTy).Contents (Elt F) → (⟨S32x1000000, .f32⟩ : BufTy).Contents (Elt F) → (⟨S32x1000000, .f32⟩ : BufTy).Contents (Elt F)),
    unary main_v5 main_v6 (Host.exp : (⟨S32x1000000, .f32⟩ : BufTy).Contents (Elt F) → (⟨S32x1000000, .f32⟩ : BufTy).Contents (Elt F)),
    nullary main_cst_1 (constant S_ .f32 0x00000000#32),
    binary main_v6 main_cst_1 main_v7 ((fun x v => Host.reduceAdd x v reducesTo_S32x1000000_S32_d1 h_S_) : (⟨S32x1000000, .f32⟩ : BufTy).Contents (Elt F) → (⟨S_, .f32⟩ : BufTy).Contents (Elt F) → (⟨S32, .f32⟩ : BufTy).Contents (Elt F)),
    unary main_v7 main_v8 (broadcastInDim S32x1 ![0] bcast_S32_S32x1_0 : (⟨S32, .f32⟩ : BufTy).Contents (Elt F) → (⟨S32x1, .f32⟩ : BufTy).Contents (Elt F)),
    unary main_v8 main_v9 (broadcastInDim S32x1000000 ![0, 1] bcast_S32x1_S32x1000000_0_1 : (⟨S32x1, .f32⟩ : BufTy).Contents (Elt F) → (⟨S32x1000000, .f32⟩ : BufTy).Contents (Elt F)),
    binary main_v6 main_v9 main_v10 (Host.divf : (⟨S32x1000000, .f32⟩ : BufTy).Contents (Elt F) → (⟨S32x1000000, .f32⟩ : BufTy).Contents (Elt F) → (⟨S32x1000000, .f32⟩ : BufTy).Contents (Elt F)),
    nullary main_c (constantI S_ 32 0#32),
    nullary main_c_2 (constantI S_ 32 32#32),
    binary main_c main_c_2 main_v11 (Host.shrui : (⟨S_, .i32⟩ : BufTy).Contents (Elt F) → (⟨S_, .i32⟩ : BufTy).Contents (Elt F) → (⟨S_, .i32⟩ : BufTy).Contents (Elt F)),
    unary main_v11 main_v12 (id : (⟨S_, .i32⟩ : BufTy).Contents (Elt F) → (⟨S_, .i32⟩ : BufTy).Contents (Elt F)),
    unary main_v12 main_v13 (broadcastInDim S1 ![] bcast_S_S1 : (⟨S_, .i32⟩ : BufTy).Contents (Elt F) → (⟨S1, .i32⟩ : BufTy).Contents (Elt F)),
    nullary main_c_3 (constantI S_ 32 4294967295#32),
    binary main_c main_c_3 main_v14 (andi : (⟨S_, .i32⟩ : BufTy).Contents (Elt F) → (⟨S_, .i32⟩ : BufTy).Contents (Elt F) → (⟨S_, .i32⟩ : BufTy).Contents (Elt F)),
    unary main_v14 main_v15 (id : (⟨S_, .i32⟩ : BufTy).Contents (Elt F) → (⟨S_, .i32⟩ : BufTy).Contents (Elt F)),
    unary main_v15 main_v16 (broadcastInDim S1 ![] bcast_S_S1 : (⟨S_, .i32⟩ : BufTy).Contents (Elt F) → (⟨S1, .i32⟩ : BufTy).Contents (Elt F)),
    binary main_v13 main_v16 main_v17 (fn_main_v17 (F := F)),
    nullary main_c_4 (constantI S_ 32 1#32),
    TRef.nullary (TRef.of (T := ⟨S_, .i32⟩) main_call0_c) (constantI S_ 32 32#32),
    TRef.binary (TRef.of (T := ⟨S_, .i32⟩) main_c_4) (TRef.of (T := ⟨S_, .i32⟩) main_call0_c) (TRef.of (T := ⟨S_, .i32⟩) main_call0_v0) Host.shrui,
    TRef.unary (TRef.of (T := ⟨S_, .i32⟩) main_call0_v0) (TRef.of (T := ⟨S1, .i32⟩) main_call0_v1) (broadcastInDim S1 ![] bcast_S_S1),
    TRef.nullary (TRef.of (T := ⟨S_, .i32⟩) main_call0_c_0) (constantI S_ 32 4294967295#32),
    TRef.binary (TRef.of (T := ⟨S_, .i32⟩) main_c_4) (TRef.of (T := ⟨S_, .i32⟩) main_call0_c_0) (TRef.of (T := ⟨S_, .i32⟩) main_call0_v2) andi ]

/-- @main's operations 31 … 60 of 573 (window `main_part0`). -/
abbrev ops_part0_1 : List (HloOp τ sig (Elt F)) :=
  [ TRef.unary (TRef.of (T := ⟨S_, .i32⟩) main_call0_v2) (TRef.of (T := ⟨S1, .i32⟩) main_call0_v3) (broadcastInDim S1 ![] bcast_S_S1),
    TRef.binary (TRef.of (T := ⟨S1, .i32⟩) main_call0_v1) (TRef.of (T := ⟨S1, .i32⟩) main_call0_v3) (TRef.of (T := ⟨S2, .i32⟩) main_call0_v4) (fn_main_call0_v4 (F := F)),
    TRef.unary (TRef.of (T := ⟨S2, .i32⟩) main_v17) (TRef.of (T := ⟨S1, .i32⟩) main_call0_v5) (extractStridedSlice S1 ![0] · slices_S2_S1_0),
    TRef.reshape (TRef.of (T := ⟨S1, .i32⟩) main_call0_v5) (TRef.of (T := ⟨S_, .i32⟩) main_call0_v6) (rfl : (.i32 : EltTy) = .i32) shapeCasts_S1_S_,
    TRef.unary (TRef.of (T := ⟨S2, .i32⟩) main_v17) (TRef.of (T := ⟨S1, .i32⟩) main_call0_v7) (extractStridedSlice S1 ![1] · slices_S2_S1_1),
    TRef.reshape (TRef.of (T := ⟨S1, .i32⟩) main_call0_v7) (TRef.of (T := ⟨S_, .i32⟩) main_call0_v8) (rfl : (.i32 : EltTy) = .i32) shapeCasts_S1_S_,
    TRef.unary (TRef.of (T := ⟨S2, .i32⟩) main_call0_v4) (TRef.of (T := ⟨S1, .i32⟩) main_call0_v9) (extractStridedSlice S1 ![0] · slices_S2_S1_0),
    TRef.unary (TRef.of (T := ⟨S2, .i32⟩) main_call0_v4) (TRef.of (T := ⟨S1, .i32⟩) main_call0_v10) (extractStridedSlice S1 ![1] · slices_S2_S1_1),
    TRef.binary (TRef.of (T := ⟨S_, .i32⟩) main_call0_v6) (TRef.of (T := ⟨S_, .i32⟩) main_call0_v8) (TRef.of (T := ⟨S_, .i32⟩) main_call0_call0_v0) xori,
    TRef.nullary (TRef.of (T := ⟨S_, .i32⟩) main_call0_call0_c) (constantI S_ 32 466688986#32),
    TRef.binary (TRef.of (T := ⟨S_, .i32⟩) main_call0_call0_v0) (TRef.of (T := ⟨S_, .i32⟩) main_call0_call0_c) (TRef.of (T := ⟨S_, .i32⟩) main_call0_call0_v1) xori,
    TRef.unary (TRef.of (T := ⟨S_, .i32⟩) main_call0_v6) (TRef.of (T := ⟨S1, .i32⟩) main_call0_call0_v2) (broadcastInDim S1 ![] bcast_S_S1),
    TRef.binary (TRef.of (T := ⟨S1, .i32⟩) main_call0_v9) (TRef.of (T := ⟨S1, .i32⟩) main_call0_call0_v2) (TRef.of (T := ⟨S1, .i32⟩) main_call0_call0_v3) addi,
    TRef.unary (TRef.of (T := ⟨S_, .i32⟩) main_call0_v8) (TRef.of (T := ⟨S1, .i32⟩) main_call0_call0_v4) (broadcastInDim S1 ![] bcast_S_S1),
    TRef.binary (TRef.of (T := ⟨S1, .i32⟩) main_call0_v10) (TRef.of (T := ⟨S1, .i32⟩) main_call0_call0_v4) (TRef.of (T := ⟨S1, .i32⟩) main_call0_call0_v5) addi,
    TRef.binary (TRef.of (T := ⟨S1, .i32⟩) main_call0_call0_v3) (TRef.of (T := ⟨S1, .i32⟩) main_call0_call0_v5) (TRef.of (T := ⟨S1, .i32⟩) main_call0_call0_v6) addi,
    TRef.nullary (TRef.of (T := ⟨S_, .i32⟩) main_call0_call0_c_0) (constantI S_ 32 13#32),
    TRef.unary (TRef.of (T := ⟨S_, .i32⟩) main_call0_call0_c_0) (TRef.of (T := ⟨S1, .i32⟩) main_call0_call0_v7) (broadcastInDim S1 ![] bcast_S_S1),
    TRef.binary (TRef.of (T := ⟨S1, .i32⟩) main_call0_call0_v5) (TRef.of (T := ⟨S1, .i32⟩) main_call0_call0_v7) (TRef.of (T := ⟨S1, .i32⟩) main_call0_call0_v8) Host.shli,
    TRef.nullary (TRef.of (T := ⟨S_, .i32⟩) main_call0_call0_c_1) (constantI S_ 32 19#32),
    TRef.unary (TRef.of (T := ⟨S_, .i32⟩) main_call0_call0_c_1) (TRef.of (T := ⟨S1, .i32⟩) main_call0_call0_v9) (broadcastInDim S1 ![] bcast_S_S1),
    TRef.binary (TRef.of (T := ⟨S1, .i32⟩) main_call0_call0_v5) (TRef.of (T := ⟨S1, .i32⟩) main_call0_call0_v9) (TRef.of (T := ⟨S1, .i32⟩) main_call0_call0_v10) Host.shrui,
    TRef.binary (TRef.of (T := ⟨S1, .i32⟩) main_call0_call0_v8) (TRef.of (T := ⟨S1, .i32⟩) main_call0_call0_v10) (TRef.of (T := ⟨S1, .i32⟩) main_call0_call0_v11) ori,
    TRef.binary (TRef.of (T := ⟨S1, .i32⟩) main_call0_call0_v6) (TRef.of (T := ⟨S1, .i32⟩) main_call0_call0_v11) (TRef.of (T := ⟨S1, .i32⟩) main_call0_call0_v12) xori,
    TRef.binary (TRef.of (T := ⟨S1, .i32⟩) main_call0_call0_v6) (TRef.of (T := ⟨S1, .i32⟩) main_call0_call0_v12) (TRef.of (T := ⟨S1, .i32⟩) main_call0_call0_v13) addi,
    TRef.nullary (TRef.of (T := ⟨S_, .i32⟩) main_call0_call0_c_2) (constantI S_ 32 15#32),
    TRef.unary (TRef.of (T := ⟨S_, .i32⟩) main_call0_call0_c_2) (TRef.of (T := ⟨S1, .i32⟩) main_call0_call0_v14) (broadcastInDim S1 ![] bcast_S_S1),
    TRef.binary (TRef.of (T := ⟨S1, .i32⟩) main_call0_call0_v12) (TRef.of (T := ⟨S1, .i32⟩) main_call0_call0_v14) (TRef.of (T := ⟨S1, .i32⟩) main_call0_call0_v15) Host.shli,
    TRef.nullary (TRef.of (T := ⟨S_, .i32⟩) main_call0_call0_c_3) (constantI S_ 32 17#32),
    TRef.unary (TRef.of (T := ⟨S_, .i32⟩) main_call0_call0_c_3) (TRef.of (T := ⟨S1, .i32⟩) main_call0_call0_v16) (broadcastInDim S1 ![] bcast_S_S1) ]

/-- @main's operations 61 … 90 of 573 (window `main_part0`). -/
abbrev ops_part0_2 : List (HloOp τ sig (Elt F)) :=
  [ TRef.binary (TRef.of (T := ⟨S1, .i32⟩) main_call0_call0_v12) (TRef.of (T := ⟨S1, .i32⟩) main_call0_call0_v16) (TRef.of (T := ⟨S1, .i32⟩) main_call0_call0_v17) Host.shrui,
    TRef.binary (TRef.of (T := ⟨S1, .i32⟩) main_call0_call0_v15) (TRef.of (T := ⟨S1, .i32⟩) main_call0_call0_v17) (TRef.of (T := ⟨S1, .i32⟩) main_call0_call0_v18) ori,
    TRef.binary (TRef.of (T := ⟨S1, .i32⟩) main_call0_call0_v13) (TRef.of (T := ⟨S1, .i32⟩) main_call0_call0_v18) (TRef.of (T := ⟨S1, .i32⟩) main_call0_call0_v19) xori,
    TRef.binary (TRef.of (T := ⟨S1, .i32⟩) main_call0_call0_v13) (TRef.of (T := ⟨S1, .i32⟩) main_call0_call0_v19) (TRef.of (T := ⟨S1, .i32⟩) main_call0_call0_v20) addi,
    TRef.nullary (TRef.of (T := ⟨S_, .i32⟩) main_call0_call0_c_4) (constantI S_ 32 26#32),
    TRef.unary (TRef.of (T := ⟨S_, .i32⟩) main_call0_call0_c_4) (TRef.of (T := ⟨S1, .i32⟩) main_call0_call0_v21) (broadcastInDim S1 ![] bcast_S_S1),
    TRef.binary (TRef.of (T := ⟨S1, .i32⟩) main_call0_call0_v19) (TRef.of (T := ⟨S1, .i32⟩) main_call0_call0_v21) (TRef.of (T := ⟨S1, .i32⟩) main_call0_call0_v22) Host.shli,
    TRef.nullary (TRef.of (T := ⟨S_, .i32⟩) main_call0_call0_c_5) (constantI S_ 32 6#32),
    TRef.unary (TRef.of (T := ⟨S_, .i32⟩) main_call0_call0_c_5) (TRef.of (T := ⟨S1, .i32⟩) main_call0_call0_v23) (broadcastInDim S1 ![] bcast_S_S1),
    TRef.binary (TRef.of (T := ⟨S1, .i32⟩) main_call0_call0_v19) (TRef.of (T := ⟨S1, .i32⟩) main_call0_call0_v23) (TRef.of (T := ⟨S1, .i32⟩) main_call0_call0_v24) Host.shrui,
    TRef.binary (TRef.of (T := ⟨S1, .i32⟩) main_call0_call0_v22) (TRef.of (T := ⟨S1, .i32⟩) main_call0_call0_v24) (TRef.of (T := ⟨S1, .i32⟩) main_call0_call0_v25) ori,
    TRef.binary (TRef.of (T := ⟨S1, .i32⟩) main_call0_call0_v20) (TRef.of (T := ⟨S1, .i32⟩) main_call0_call0_v25) (TRef.of (T := ⟨S1, .i32⟩) main_call0_call0_v26) xori,
    TRef.binary (TRef.of (T := ⟨S1, .i32⟩) main_call0_call0_v20) (TRef.of (T := ⟨S1, .i32⟩) main_call0_call0_v26) (TRef.of (T := ⟨S1, .i32⟩) main_call0_call0_v27) addi,
    TRef.nullary (TRef.of (T := ⟨S_, .i32⟩) main_call0_call0_c_6) (constantI S_ 32 6#32),
    TRef.unary (TRef.of (T := ⟨S_, .i32⟩) main_call0_call0_c_6) (TRef.of (T := ⟨S1, .i32⟩) main_call0_call0_v28) (broadcastInDim S1 ![] bcast_S_S1),
    TRef.binary (TRef.of (T := ⟨S1, .i32⟩) main_call0_call0_v26) (TRef.of (T := ⟨S1, .i32⟩) main_call0_call0_v28) (TRef.of (T := ⟨S1, .i32⟩) main_call0_call0_v29) Host.shli,
    TRef.nullary (TRef.of (T := ⟨S_, .i32⟩) main_call0_call0_c_7) (constantI S_ 32 26#32),
    TRef.unary (TRef.of (T := ⟨S_, .i32⟩) main_call0_call0_c_7) (TRef.of (T := ⟨S1, .i32⟩) main_call0_call0_v30) (broadcastInDim S1 ![] bcast_S_S1),
    TRef.binary (TRef.of (T := ⟨S1, .i32⟩) main_call0_call0_v26) (TRef.of (T := ⟨S1, .i32⟩) main_call0_call0_v30) (TRef.of (T := ⟨S1, .i32⟩) main_call0_call0_v31) Host.shrui,
    TRef.binary (TRef.of (T := ⟨S1, .i32⟩) main_call0_call0_v29) (TRef.of (T := ⟨S1, .i32⟩) main_call0_call0_v31) (TRef.of (T := ⟨S1, .i32⟩) main_call0_call0_v32) ori,
    TRef.binary (TRef.of (T := ⟨S1, .i32⟩) main_call0_call0_v27) (TRef.of (T := ⟨S1, .i32⟩) main_call0_call0_v32) (TRef.of (T := ⟨S1, .i32⟩) main_call0_call0_v33) xori,
    TRef.unary (TRef.of (T := ⟨S_, .i32⟩) main_call0_v8) (TRef.of (T := ⟨S1, .i32⟩) main_call0_call0_v34) (broadcastInDim S1 ![] bcast_S_S1),
    TRef.binary (TRef.of (T := ⟨S1, .i32⟩) main_call0_call0_v27) (TRef.of (T := ⟨S1, .i32⟩) main_call0_call0_v34) (TRef.of (T := ⟨S1, .i32⟩) main_call0_call0_v35) addi,
    TRef.unary (TRef.of (T := ⟨S_, .i32⟩) main_call0_call0_v1) (TRef.of (T := ⟨S1, .i32⟩) main_call0_call0_v36) (broadcastInDim S1 ![] bcast_S_S1),
    TRef.binary (TRef.of (T := ⟨S1, .i32⟩) main_call0_call0_v33) (TRef.of (T := ⟨S1, .i32⟩) main_call0_call0_v36) (TRef.of (T := ⟨S1, .i32⟩) main_call0_call0_v37) addi,
    TRef.nullary (TRef.of (T := ⟨S_, .i32⟩) main_call0_call0_c_8) (constantI S_ 32 1#32),
    TRef.unary (TRef.of (T := ⟨S_, .i32⟩) main_call0_call0_c_8) (TRef.of (T := ⟨S1, .i32⟩) main_call0_call0_v38) (broadcastInDim S1 ![] bcast_S_S1),
    TRef.binary (TRef.of (T := ⟨S1, .i32⟩) main_call0_call0_v37) (TRef.of (T := ⟨S1, .i32⟩) main_call0_call0_v38) (TRef.of (T := ⟨S1, .i32⟩) main_call0_call0_v39) addi,
    TRef.binary (TRef.of (T := ⟨S1, .i32⟩) main_call0_call0_v35) (TRef.of (T := ⟨S1, .i32⟩) main_call0_call0_v39) (TRef.of (T := ⟨S1, .i32⟩) main_call0_call0_v40) addi,
    TRef.nullary (TRef.of (T := ⟨S_, .i32⟩) main_call0_call0_c_9) (constantI S_ 32 17#32) ]

/-- @main's operations 91 … 120 of 573 (window `main_part0`). -/
abbrev ops_part0_3 : List (HloOp τ sig (Elt F)) :=
  [ TRef.unary (TRef.of (T := ⟨S_, .i32⟩) main_call0_call0_c_9) (TRef.of (T := ⟨S1, .i32⟩) main_call0_call0_v41) (broadcastInDim S1 ![] bcast_S_S1),
    TRef.binary (TRef.of (T := ⟨S1, .i32⟩) main_call0_call0_v39) (TRef.of (T := ⟨S1, .i32⟩) main_call0_call0_v41) (TRef.of (T := ⟨S1, .i32⟩) main_call0_call0_v42) Host.shli,
    TRef.nullary (TRef.of (T := ⟨S_, .i32⟩) main_call0_call0_c_10) (constantI S_ 32 15#32),
    TRef.unary (TRef.of (T := ⟨S_, .i32⟩) main_call0_call0_c_10) (TRef.of (T := ⟨S1, .i32⟩) main_call0_call0_v43) (broadcastInDim S1 ![] bcast_S_S1),
    TRef.binary (TRef.of (T := ⟨S1, .i32⟩) main_call0_call0_v39) (TRef.of (T := ⟨S1, .i32⟩) main_call0_call0_v43) (TRef.of (T := ⟨S1, .i32⟩) main_call0_call0_v44) Host.shrui,
    TRef.binary (TRef.of (T := ⟨S1, .i32⟩) main_call0_call0_v42) (TRef.of (T := ⟨S1, .i32⟩) main_call0_call0_v44) (TRef.of (T := ⟨S1, .i32⟩) main_call0_call0_v45) ori,
    TRef.binary (TRef.of (T := ⟨S1, .i32⟩) main_call0_call0_v40) (TRef.of (T := ⟨S1, .i32⟩) main_call0_call0_v45) (TRef.of (T := ⟨S1, .i32⟩) main_call0_call0_v46) xori,
    TRef.binary (TRef.of (T := ⟨S1, .i32⟩) main_call0_call0_v40) (TRef.of (T := ⟨S1, .i32⟩) main_call0_call0_v46) (TRef.of (T := ⟨S1, .i32⟩) main_call0_call0_v47) addi,
    TRef.nullary (TRef.of (T := ⟨S_, .i32⟩) main_call0_call0_c_11) (constantI S_ 32 29#32),
    TRef.unary (TRef.of (T := ⟨S_, .i32⟩) main_call0_call0_c_11) (TRef.of (T := ⟨S1, .i32⟩) main_call0_call0_v48) (broadcastInDim S1 ![] bcast_S_S1),
    TRef.binary (TRef.of (T := ⟨S1, .i32⟩) main_call0_call0_v46) (TRef.of (T := ⟨S1, .i32⟩) main_call0_call0_v48) (TRef.of (T := ⟨S1, .i32⟩) main_call0_call0_v49) Host.shli,
    TRef.nullary (TRef.of (T := ⟨S_, .i32⟩) main_call0_call0_c_12) (constantI S_ 32 3#32),
    TRef.unary (TRef.of (T := ⟨S_, .i32⟩) main_call0_call0_c_12) (TRef.of (T := ⟨S1, .i32⟩) main_call0_call0_v50) (broadcastInDim S1 ![] bcast_S_S1),
    TRef.binary (TRef.of (T := ⟨S1, .i32⟩) main_call0_call0_v46) (TRef.of (T := ⟨S1, .i32⟩) main_call0_call0_v50) (TRef.of (T := ⟨S1, .i32⟩) main_call0_call0_v51) Host.shrui,
    TRef.binary (TRef.of (T := ⟨S1, .i32⟩) main_call0_call0_v49) (TRef.of (T := ⟨S1, .i32⟩) main_call0_call0_v51) (TRef.of (T := ⟨S1, .i32⟩) main_call0_call0_v52) ori,
    TRef.binary (TRef.of (T := ⟨S1, .i32⟩) main_call0_call0_v47) (TRef.of (T := ⟨S1, .i32⟩) main_call0_call0_v52) (TRef.of (T := ⟨S1, .i32⟩) main_call0_call0_v53) xori,
    TRef.binary (TRef.of (T := ⟨S1, .i32⟩) main_call0_call0_v47) (TRef.of (T := ⟨S1, .i32⟩) main_call0_call0_v53) (TRef.of (T := ⟨S1, .i32⟩) main_call0_call0_v54) addi,
    TRef.nullary (TRef.of (T := ⟨S_, .i32⟩) main_call0_call0_c_13) (constantI S_ 32 16#32),
    TRef.unary (TRef.of (T := ⟨S_, .i32⟩) main_call0_call0_c_13) (TRef.of (T := ⟨S1, .i32⟩) main_call0_call0_v55) (broadcastInDim S1 ![] bcast_S_S1),
    TRef.binary (TRef.of (T := ⟨S1, .i32⟩) main_call0_call0_v53) (TRef.of (T := ⟨S1, .i32⟩) main_call0_call0_v55) (TRef.of (T := ⟨S1, .i32⟩) main_call0_call0_v56) Host.shli,
    TRef.nullary (TRef.of (T := ⟨S_, .i32⟩) main_call0_call0_c_14) (constantI S_ 32 16#32),
    TRef.unary (TRef.of (T := ⟨S_, .i32⟩) main_call0_call0_c_14) (TRef.of (T := ⟨S1, .i32⟩) main_call0_call0_v57) (broadcastInDim S1 ![] bcast_S_S1),
    TRef.binary (TRef.of (T := ⟨S1, .i32⟩) main_call0_call0_v53) (TRef.of (T := ⟨S1, .i32⟩) main_call0_call0_v57) (TRef.of (T := ⟨S1, .i32⟩) main_call0_call0_v58) Host.shrui,
    TRef.binary (TRef.of (T := ⟨S1, .i32⟩) main_call0_call0_v56) (TRef.of (T := ⟨S1, .i32⟩) main_call0_call0_v58) (TRef.of (T := ⟨S1, .i32⟩) main_call0_call0_v59) ori,
    TRef.binary (TRef.of (T := ⟨S1, .i32⟩) main_call0_call0_v54) (TRef.of (T := ⟨S1, .i32⟩) main_call0_call0_v59) (TRef.of (T := ⟨S1, .i32⟩) main_call0_call0_v60) xori,
    TRef.binary (TRef.of (T := ⟨S1, .i32⟩) main_call0_call0_v54) (TRef.of (T := ⟨S1, .i32⟩) main_call0_call0_v60) (TRef.of (T := ⟨S1, .i32⟩) main_call0_call0_v61) addi,
    TRef.nullary (TRef.of (T := ⟨S_, .i32⟩) main_call0_call0_c_15) (constantI S_ 32 24#32),
    TRef.unary (TRef.of (T := ⟨S_, .i32⟩) main_call0_call0_c_15) (TRef.of (T := ⟨S1, .i32⟩) main_call0_call0_v62) (broadcastInDim S1 ![] bcast_S_S1),
    TRef.binary (TRef.of (T := ⟨S1, .i32⟩) main_call0_call0_v60) (TRef.of (T := ⟨S1, .i32⟩) main_call0_call0_v62) (TRef.of (T := ⟨S1, .i32⟩) main_call0_call0_v63) Host.shli,
    TRef.nullary (TRef.of (T := ⟨S_, .i32⟩) main_call0_call0_c_16) (constantI S_ 32 8#32) ]

/-- @main's operations 121 … 150 of 573 (window `main_part0`). -/
abbrev ops_part0_4 : List (HloOp τ sig (Elt F)) :=
  [ TRef.unary (TRef.of (T := ⟨S_, .i32⟩) main_call0_call0_c_16) (TRef.of (T := ⟨S1, .i32⟩) main_call0_call0_v64) (broadcastInDim S1 ![] bcast_S_S1),
    TRef.binary (TRef.of (T := ⟨S1, .i32⟩) main_call0_call0_v60) (TRef.of (T := ⟨S1, .i32⟩) main_call0_call0_v64) (TRef.of (T := ⟨S1, .i32⟩) main_call0_call0_v65) Host.shrui,
    TRef.binary (TRef.of (T := ⟨S1, .i32⟩) main_call0_call0_v63) (TRef.of (T := ⟨S1, .i32⟩) main_call0_call0_v65) (TRef.of (T := ⟨S1, .i32⟩) main_call0_call0_v66) ori,
    TRef.binary (TRef.of (T := ⟨S1, .i32⟩) main_call0_call0_v61) (TRef.of (T := ⟨S1, .i32⟩) main_call0_call0_v66) (TRef.of (T := ⟨S1, .i32⟩) main_call0_call0_v67) xori,
    TRef.unary (TRef.of (T := ⟨S_, .i32⟩) main_call0_call0_v1) (TRef.of (T := ⟨S1, .i32⟩) main_call0_call0_v68) (broadcastInDim S1 ![] bcast_S_S1),
    TRef.binary (TRef.of (T := ⟨S1, .i32⟩) main_call0_call0_v61) (TRef.of (T := ⟨S1, .i32⟩) main_call0_call0_v68) (TRef.of (T := ⟨S1, .i32⟩) main_call0_call0_v69) addi,
    TRef.unary (TRef.of (T := ⟨S_, .i32⟩) main_call0_v6) (TRef.of (T := ⟨S1, .i32⟩) main_call0_call0_v70) (broadcastInDim S1 ![] bcast_S_S1),
    TRef.binary (TRef.of (T := ⟨S1, .i32⟩) main_call0_call0_v67) (TRef.of (T := ⟨S1, .i32⟩) main_call0_call0_v70) (TRef.of (T := ⟨S1, .i32⟩) main_call0_call0_v71) addi,
    TRef.nullary (TRef.of (T := ⟨S_, .i32⟩) main_call0_call0_c_17) (constantI S_ 32 2#32),
    TRef.unary (TRef.of (T := ⟨S_, .i32⟩) main_call0_call0_c_17) (TRef.of (T := ⟨S1, .i32⟩) main_call0_call0_v72) (broadcastInDim S1 ![] bcast_S_S1),
    TRef.binary (TRef.of (T := ⟨S1, .i32⟩) main_call0_call0_v71) (TRef.of (T := ⟨S1, .i32⟩) main_call0_call0_v72) (TRef.of (T := ⟨S1, .i32⟩) main_call0_call0_v73) addi,
    TRef.binary (TRef.of (T := ⟨S1, .i32⟩) main_call0_call0_v69) (TRef.of (T := ⟨S1, .i32⟩) main_call0_call0_v73) (TRef.of (T := ⟨S1, .i32⟩) main_call0_call0_v74) addi,
    TRef.nullary (TRef.of (T := ⟨S_, .i32⟩) main_call0_call0_c_18) (constantI S_ 32 13#32),
    TRef.unary (TRef.of (T := ⟨S_, .i32⟩) main_call0_call0_c_18) (TRef.of (T := ⟨S1, .i32⟩) main_call0_call0_v75) (broadcastInDim S1 ![] bcast_S_S1),
    TRef.binary (TRef.of (T := ⟨S1, .i32⟩) main_call0_call0_v73) (TRef.of (T := ⟨S1, .i32⟩) main_call0_call0_v75) (TRef.of (T := ⟨S1, .i32⟩) main_call0_call0_v76) Host.shli,
    TRef.nullary (TRef.of (T := ⟨S_, .i32⟩) main_call0_call0_c_19) (constantI S_ 32 19#32),
    TRef.unary (TRef.of (T := ⟨S_, .i32⟩) main_call0_call0_c_19) (TRef.of (T := ⟨S1, .i32⟩) main_call0_call0_v77) (broadcastInDim S1 ![] bcast_S_S1),
    TRef.binary (TRef.of (T := ⟨S1, .i32⟩) main_call0_call0_v73) (TRef.of (T := ⟨S1, .i32⟩) main_call0_call0_v77) (TRef.of (T := ⟨S1, .i32⟩) main_call0_call0_v78) Host.shrui,
    TRef.binary (TRef.of (T := ⟨S1, .i32⟩) main_call0_call0_v76) (TRef.of (T := ⟨S1, .i32⟩) main_call0_call0_v78) (TRef.of (T := ⟨S1, .i32⟩) main_call0_call0_v79) ori,
    TRef.binary (TRef.of (T := ⟨S1, .i32⟩) main_call0_call0_v74) (TRef.of (T := ⟨S1, .i32⟩) main_call0_call0_v79) (TRef.of (T := ⟨S1, .i32⟩) main_call0_call0_v80) xori,
    TRef.binary (TRef.of (T := ⟨S1, .i32⟩) main_call0_call0_v74) (TRef.of (T := ⟨S1, .i32⟩) main_call0_call0_v80) (TRef.of (T := ⟨S1, .i32⟩) main_call0_call0_v81) addi,
    TRef.nullary (TRef.of (T := ⟨S_, .i32⟩) main_call0_call0_c_20) (constantI S_ 32 15#32),
    TRef.unary (TRef.of (T := ⟨S_, .i32⟩) main_call0_call0_c_20) (TRef.of (T := ⟨S1, .i32⟩) main_call0_call0_v82) (broadcastInDim S1 ![] bcast_S_S1),
    TRef.binary (TRef.of (T := ⟨S1, .i32⟩) main_call0_call0_v80) (TRef.of (T := ⟨S1, .i32⟩) main_call0_call0_v82) (TRef.of (T := ⟨S1, .i32⟩) main_call0_call0_v83) Host.shli,
    TRef.nullary (TRef.of (T := ⟨S_, .i32⟩) main_call0_call0_c_21) (constantI S_ 32 17#32),
    TRef.unary (TRef.of (T := ⟨S_, .i32⟩) main_call0_call0_c_21) (TRef.of (T := ⟨S1, .i32⟩) main_call0_call0_v84) (broadcastInDim S1 ![] bcast_S_S1),
    TRef.binary (TRef.of (T := ⟨S1, .i32⟩) main_call0_call0_v80) (TRef.of (T := ⟨S1, .i32⟩) main_call0_call0_v84) (TRef.of (T := ⟨S1, .i32⟩) main_call0_call0_v85) Host.shrui,
    TRef.binary (TRef.of (T := ⟨S1, .i32⟩) main_call0_call0_v83) (TRef.of (T := ⟨S1, .i32⟩) main_call0_call0_v85) (TRef.of (T := ⟨S1, .i32⟩) main_call0_call0_v86) ori,
    TRef.binary (TRef.of (T := ⟨S1, .i32⟩) main_call0_call0_v81) (TRef.of (T := ⟨S1, .i32⟩) main_call0_call0_v86) (TRef.of (T := ⟨S1, .i32⟩) main_call0_call0_v87) xori,
    TRef.binary (TRef.of (T := ⟨S1, .i32⟩) main_call0_call0_v81) (TRef.of (T := ⟨S1, .i32⟩) main_call0_call0_v87) (TRef.of (T := ⟨S1, .i32⟩) main_call0_call0_v88) addi ]

/-- @main's operations 151 … 180 of 573 (window `main_part0`). -/
abbrev ops_part0_5 : List (HloOp τ sig (Elt F)) :=
  [ TRef.nullary (TRef.of (T := ⟨S_, .i32⟩) main_call0_call0_c_22) (constantI S_ 32 26#32),
    TRef.unary (TRef.of (T := ⟨S_, .i32⟩) main_call0_call0_c_22) (TRef.of (T := ⟨S1, .i32⟩) main_call0_call0_v89) (broadcastInDim S1 ![] bcast_S_S1),
    TRef.binary (TRef.of (T := ⟨S1, .i32⟩) main_call0_call0_v87) (TRef.of (T := ⟨S1, .i32⟩) main_call0_call0_v89) (TRef.of (T := ⟨S1, .i32⟩) main_call0_call0_v90) Host.shli,
    TRef.nullary (TRef.of (T := ⟨S_, .i32⟩) main_call0_call0_c_23) (constantI S_ 32 6#32),
    TRef.unary (TRef.of (T := ⟨S_, .i32⟩) main_call0_call0_c_23) (TRef.of (T := ⟨S1, .i32⟩) main_call0_call0_v91) (broadcastInDim S1 ![] bcast_S_S1),
    TRef.binary (TRef.of (T := ⟨S1, .i32⟩) main_call0_call0_v87) (TRef.of (T := ⟨S1, .i32⟩) main_call0_call0_v91) (TRef.of (T := ⟨S1, .i32⟩) main_call0_call0_v92) Host.shrui,
    TRef.binary (TRef.of (T := ⟨S1, .i32⟩) main_call0_call0_v90) (TRef.of (T := ⟨S1, .i32⟩) main_call0_call0_v92) (TRef.of (T := ⟨S1, .i32⟩) main_call0_call0_v93) ori,
    TRef.binary (TRef.of (T := ⟨S1, .i32⟩) main_call0_call0_v88) (TRef.of (T := ⟨S1, .i32⟩) main_call0_call0_v93) (TRef.of (T := ⟨S1, .i32⟩) main_call0_call0_v94) xori,
    TRef.binary (TRef.of (T := ⟨S1, .i32⟩) main_call0_call0_v88) (TRef.of (T := ⟨S1, .i32⟩) main_call0_call0_v94) (TRef.of (T := ⟨S1, .i32⟩) main_call0_call0_v95) addi,
    TRef.nullary (TRef.of (T := ⟨S_, .i32⟩) main_call0_call0_c_24) (constantI S_ 32 6#32),
    TRef.unary (TRef.of (T := ⟨S_, .i32⟩) main_call0_call0_c_24) (TRef.of (T := ⟨S1, .i32⟩) main_call0_call0_v96) (broadcastInDim S1 ![] bcast_S_S1),
    TRef.binary (TRef.of (T := ⟨S1, .i32⟩) main_call0_call0_v94) (TRef.of (T := ⟨S1, .i32⟩) main_call0_call0_v96) (TRef.of (T := ⟨S1, .i32⟩) main_call0_call0_v97) Host.shli,
    TRef.nullary (TRef.of (T := ⟨S_, .i32⟩) main_call0_call0_c_25) (constantI S_ 32 26#32),
    TRef.unary (TRef.of (T := ⟨S_, .i32⟩) main_call0_call0_c_25) (TRef.of (T := ⟨S1, .i32⟩) main_call0_call0_v98) (broadcastInDim S1 ![] bcast_S_S1),
    TRef.binary (TRef.of (T := ⟨S1, .i32⟩) main_call0_call0_v94) (TRef.of (T := ⟨S1, .i32⟩) main_call0_call0_v98) (TRef.of (T := ⟨S1, .i32⟩) main_call0_call0_v99) Host.shrui,
    TRef.binary (TRef.of (T := ⟨S1, .i32⟩) main_call0_call0_v97) (TRef.of (T := ⟨S1, .i32⟩) main_call0_call0_v99) (TRef.of (T := ⟨S1, .i32⟩) main_call0_call0_v100) ori,
    TRef.binary (TRef.of (T := ⟨S1, .i32⟩) main_call0_call0_v95) (TRef.of (T := ⟨S1, .i32⟩) main_call0_call0_v100) (TRef.of (T := ⟨S1, .i32⟩) main_call0_call0_v101) xori,
    TRef.unary (TRef.of (T := ⟨S_, .i32⟩) main_call0_v6) (TRef.of (T := ⟨S1, .i32⟩) main_call0_call0_v102) (broadcastInDim S1 ![] bcast_S_S1),
    TRef.binary (TRef.of (T := ⟨S1, .i32⟩) main_call0_call0_v95) (TRef.of (T := ⟨S1, .i32⟩) main_call0_call0_v102) (TRef.of (T := ⟨S1, .i32⟩) main_call0_call0_v103) addi,
    TRef.unary (TRef.of (T := ⟨S_, .i32⟩) main_call0_v8) (TRef.of (T := ⟨S1, .i32⟩) main_call0_call0_v104) (broadcastInDim S1 ![] bcast_S_S1),
    TRef.binary (TRef.of (T := ⟨S1, .i32⟩) main_call0_call0_v101) (TRef.of (T := ⟨S1, .i32⟩) main_call0_call0_v104) (TRef.of (T := ⟨S1, .i32⟩) main_call0_call0_v105) addi,
    TRef.nullary (TRef.of (T := ⟨S_, .i32⟩) main_call0_call0_c_26) (constantI S_ 32 3#32),
    TRef.unary (TRef.of (T := ⟨S_, .i32⟩) main_call0_call0_c_26) (TRef.of (T := ⟨S1, .i32⟩) main_call0_call0_v106) (broadcastInDim S1 ![] bcast_S_S1),
    TRef.binary (TRef.of (T := ⟨S1, .i32⟩) main_call0_call0_v105) (TRef.of (T := ⟨S1, .i32⟩) main_call0_call0_v106) (TRef.of (T := ⟨S1, .i32⟩) main_call0_call0_v107) addi,
    TRef.binary (TRef.of (T := ⟨S1, .i32⟩) main_call0_call0_v103) (TRef.of (T := ⟨S1, .i32⟩) main_call0_call0_v107) (TRef.of (T := ⟨S1, .i32⟩) main_call0_call0_v108) addi,
    TRef.nullary (TRef.of (T := ⟨S_, .i32⟩) main_call0_call0_c_27) (constantI S_ 32 17#32),
    TRef.unary (TRef.of (T := ⟨S_, .i32⟩) main_call0_call0_c_27) (TRef.of (T := ⟨S1, .i32⟩) main_call0_call0_v109) (broadcastInDim S1 ![] bcast_S_S1),
    TRef.binary (TRef.of (T := ⟨S1, .i32⟩) main_call0_call0_v107) (TRef.of (T := ⟨S1, .i32⟩) main_call0_call0_v109) (TRef.of (T := ⟨S1, .i32⟩) main_call0_call0_v110) Host.shli,
    TRef.nullary (TRef.of (T := ⟨S_, .i32⟩) main_call0_call0_c_28) (constantI S_ 32 15#32),
    TRef.unary (TRef.of (T := ⟨S_, .i32⟩) main_call0_call0_c_28) (TRef.of (T := ⟨S1, .i32⟩) main_call0_call0_v111) (broadcastInDim S1 ![] bcast_S_S1) ]

/-- @main's operations 181 … 210 of 573 (window `main_part0`). -/
abbrev ops_part0_6 : List (HloOp τ sig (Elt F)) :=
  [ TRef.binary (TRef.of (T := ⟨S1, .i32⟩) main_call0_call0_v107) (TRef.of (T := ⟨S1, .i32⟩) main_call0_call0_v111) (TRef.of (T := ⟨S1, .i32⟩) main_call0_call0_v112) Host.shrui,
    TRef.binary (TRef.of (T := ⟨S1, .i32⟩) main_call0_call0_v110) (TRef.of (T := ⟨S1, .i32⟩) main_call0_call0_v112) (TRef.of (T := ⟨S1, .i32⟩) main_call0_call0_v113) ori,
    TRef.binary (TRef.of (T := ⟨S1, .i32⟩) main_call0_call0_v108) (TRef.of (T := ⟨S1, .i32⟩) main_call0_call0_v113) (TRef.of (T := ⟨S1, .i32⟩) main_call0_call0_v114) xori,
    TRef.binary (TRef.of (T := ⟨S1, .i32⟩) main_call0_call0_v108) (TRef.of (T := ⟨S1, .i32⟩) main_call0_call0_v114) (TRef.of (T := ⟨S1, .i32⟩) main_call0_call0_v115) addi,
    TRef.nullary (TRef.of (T := ⟨S_, .i32⟩) main_call0_call0_c_29) (constantI S_ 32 29#32),
    TRef.unary (TRef.of (T := ⟨S_, .i32⟩) main_call0_call0_c_29) (TRef.of (T := ⟨S1, .i32⟩) main_call0_call0_v116) (broadcastInDim S1 ![] bcast_S_S1),
    TRef.binary (TRef.of (T := ⟨S1, .i32⟩) main_call0_call0_v114) (TRef.of (T := ⟨S1, .i32⟩) main_call0_call0_v116) (TRef.of (T := ⟨S1, .i32⟩) main_call0_call0_v117) Host.shli,
    TRef.nullary (TRef.of (T := ⟨S_, .i32⟩) main_call0_call0_c_30) (constantI S_ 32 3#32),
    TRef.unary (TRef.of (T := ⟨S_, .i32⟩) main_call0_call0_c_30) (TRef.of (T := ⟨S1, .i32⟩) main_call0_call0_v118) (broadcastInDim S1 ![] bcast_S_S1),
    TRef.binary (TRef.of (T := ⟨S1, .i32⟩) main_call0_call0_v114) (TRef.of (T := ⟨S1, .i32⟩) main_call0_call0_v118) (TRef.of (T := ⟨S1, .i32⟩) main_call0_call0_v119) Host.shrui,
    TRef.binary (TRef.of (T := ⟨S1, .i32⟩) main_call0_call0_v117) (TRef.of (T := ⟨S1, .i32⟩) main_call0_call0_v119) (TRef.of (T := ⟨S1, .i32⟩) main_call0_call0_v120) ori,
    TRef.binary (TRef.of (T := ⟨S1, .i32⟩) main_call0_call0_v115) (TRef.of (T := ⟨S1, .i32⟩) main_call0_call0_v120) (TRef.of (T := ⟨S1, .i32⟩) main_call0_call0_v121) xori,
    TRef.binary (TRef.of (T := ⟨S1, .i32⟩) main_call0_call0_v115) (TRef.of (T := ⟨S1, .i32⟩) main_call0_call0_v121) (TRef.of (T := ⟨S1, .i32⟩) main_call0_call0_v122) addi,
    TRef.nullary (TRef.of (T := ⟨S_, .i32⟩) main_call0_call0_c_31) (constantI S_ 32 16#32),
    TRef.unary (TRef.of (T := ⟨S_, .i32⟩) main_call0_call0_c_31) (TRef.of (T := ⟨S1, .i32⟩) main_call0_call0_v123) (broadcastInDim S1 ![] bcast_S_S1),
    TRef.binary (TRef.of (T := ⟨S1, .i32⟩) main_call0_call0_v121) (TRef.of (T := ⟨S1, .i32⟩) main_call0_call0_v123) (TRef.of (T := ⟨S1, .i32⟩) main_call0_call0_v124) Host.shli,
    TRef.nullary (TRef.of (T := ⟨S_, .i32⟩) main_call0_call0_c_32) (constantI S_ 32 16#32),
    TRef.unary (TRef.of (T := ⟨S_, .i32⟩) main_call0_call0_c_32) (TRef.of (T := ⟨S1, .i32⟩) main_call0_call0_v125) (broadcastInDim S1 ![] bcast_S_S1),
    TRef.binary (TRef.of (T := ⟨S1, .i32⟩) main_call0_call0_v121) (TRef.of (T := ⟨S1, .i32⟩) main_call0_call0_v125) (TRef.of (T := ⟨S1, .i32⟩) main_call0_call0_v126) Host.shrui,
    TRef.binary (TRef.of (T := ⟨S1, .i32⟩) main_call0_call0_v124) (TRef.of (T := ⟨S1, .i32⟩) main_call0_call0_v126) (TRef.of (T := ⟨S1, .i32⟩) main_call0_call0_v127) ori,
    TRef.binary (TRef.of (T := ⟨S1, .i32⟩) main_call0_call0_v122) (TRef.of (T := ⟨S1, .i32⟩) main_call0_call0_v127) (TRef.of (T := ⟨S1, .i32⟩) main_call0_call0_v128) xori,
    TRef.binary (TRef.of (T := ⟨S1, .i32⟩) main_call0_call0_v122) (TRef.of (T := ⟨S1, .i32⟩) main_call0_call0_v128) (TRef.of (T := ⟨S1, .i32⟩) main_call0_call0_v129) addi,
    TRef.nullary (TRef.of (T := ⟨S_, .i32⟩) main_call0_call0_c_33) (constantI S_ 32 24#32),
    TRef.unary (TRef.of (T := ⟨S_, .i32⟩) main_call0_call0_c_33) (TRef.of (T := ⟨S1, .i32⟩) main_call0_call0_v130) (broadcastInDim S1 ![] bcast_S_S1),
    TRef.binary (TRef.of (T := ⟨S1, .i32⟩) main_call0_call0_v128) (TRef.of (T := ⟨S1, .i32⟩) main_call0_call0_v130) (TRef.of (T := ⟨S1, .i32⟩) main_call0_call0_v131) Host.shli,
    TRef.nullary (TRef.of (T := ⟨S_, .i32⟩) main_call0_call0_c_34) (constantI S_ 32 8#32),
    TRef.unary (TRef.of (T := ⟨S_, .i32⟩) main_call0_call0_c_34) (TRef.of (T := ⟨S1, .i32⟩) main_call0_call0_v132) (broadcastInDim S1 ![] bcast_S_S1),
    TRef.binary (TRef.of (T := ⟨S1, .i32⟩) main_call0_call0_v128) (TRef.of (T := ⟨S1, .i32⟩) main_call0_call0_v132) (TRef.of (T := ⟨S1, .i32⟩) main_call0_call0_v133) Host.shrui,
    TRef.binary (TRef.of (T := ⟨S1, .i32⟩) main_call0_call0_v131) (TRef.of (T := ⟨S1, .i32⟩) main_call0_call0_v133) (TRef.of (T := ⟨S1, .i32⟩) main_call0_call0_v134) ori,
    TRef.binary (TRef.of (T := ⟨S1, .i32⟩) main_call0_call0_v129) (TRef.of (T := ⟨S1, .i32⟩) main_call0_call0_v134) (TRef.of (T := ⟨S1, .i32⟩) main_call0_call0_v135) xori ]

/-- @main's operations 211 … 240 of 573 (window `main_part0`). -/
abbrev ops_part0_7 : List (HloOp τ sig (Elt F)) :=
  [ TRef.unary (TRef.of (T := ⟨S_, .i32⟩) main_call0_v8) (TRef.of (T := ⟨S1, .i32⟩) main_call0_call0_v136) (broadcastInDim S1 ![] bcast_S_S1),
    TRef.binary (TRef.of (T := ⟨S1, .i32⟩) main_call0_call0_v129) (TRef.of (T := ⟨S1, .i32⟩) main_call0_call0_v136) (TRef.of (T := ⟨S1, .i32⟩) main_call0_call0_v137) addi,
    TRef.unary (TRef.of (T := ⟨S_, .i32⟩) main_call0_call0_v1) (TRef.of (T := ⟨S1, .i32⟩) main_call0_call0_v138) (broadcastInDim S1 ![] bcast_S_S1),
    TRef.binary (TRef.of (T := ⟨S1, .i32⟩) main_call0_call0_v135) (TRef.of (T := ⟨S1, .i32⟩) main_call0_call0_v138) (TRef.of (T := ⟨S1, .i32⟩) main_call0_call0_v139) addi,
    TRef.nullary (TRef.of (T := ⟨S_, .i32⟩) main_call0_call0_c_35) (constantI S_ 32 4#32),
    TRef.unary (TRef.of (T := ⟨S_, .i32⟩) main_call0_call0_c_35) (TRef.of (T := ⟨S1, .i32⟩) main_call0_call0_v140) (broadcastInDim S1 ![] bcast_S_S1),
    TRef.binary (TRef.of (T := ⟨S1, .i32⟩) main_call0_call0_v139) (TRef.of (T := ⟨S1, .i32⟩) main_call0_call0_v140) (TRef.of (T := ⟨S1, .i32⟩) main_call0_call0_v141) addi,
    TRef.binary (TRef.of (T := ⟨S1, .i32⟩) main_call0_call0_v137) (TRef.of (T := ⟨S1, .i32⟩) main_call0_call0_v141) (TRef.of (T := ⟨S1, .i32⟩) main_call0_call0_v142) addi,
    TRef.nullary (TRef.of (T := ⟨S_, .i32⟩) main_call0_call0_c_36) (constantI S_ 32 13#32),
    TRef.unary (TRef.of (T := ⟨S_, .i32⟩) main_call0_call0_c_36) (TRef.of (T := ⟨S1, .i32⟩) main_call0_call0_v143) (broadcastInDim S1 ![] bcast_S_S1),
    TRef.binary (TRef.of (T := ⟨S1, .i32⟩) main_call0_call0_v141) (TRef.of (T := ⟨S1, .i32⟩) main_call0_call0_v143) (TRef.of (T := ⟨S1, .i32⟩) main_call0_call0_v144) Host.shli,
    TRef.nullary (TRef.of (T := ⟨S_, .i32⟩) main_call0_call0_c_37) (constantI S_ 32 19#32),
    TRef.unary (TRef.of (T := ⟨S_, .i32⟩) main_call0_call0_c_37) (TRef.of (T := ⟨S1, .i32⟩) main_call0_call0_v145) (broadcastInDim S1 ![] bcast_S_S1),
    TRef.binary (TRef.of (T := ⟨S1, .i32⟩) main_call0_call0_v141) (TRef.of (T := ⟨S1, .i32⟩) main_call0_call0_v145) (TRef.of (T := ⟨S1, .i32⟩) main_call0_call0_v146) Host.shrui,
    TRef.binary (TRef.of (T := ⟨S1, .i32⟩) main_call0_call0_v144) (TRef.of (T := ⟨S1, .i32⟩) main_call0_call0_v146) (TRef.of (T := ⟨S1, .i32⟩) main_call0_call0_v147) ori,
    TRef.binary (TRef.of (T := ⟨S1, .i32⟩) main_call0_call0_v142) (TRef.of (T := ⟨S1, .i32⟩) main_call0_call0_v147) (TRef.of (T := ⟨S1, .i32⟩) main_call0_call0_v148) xori,
    TRef.binary (TRef.of (T := ⟨S1, .i32⟩) main_call0_call0_v142) (TRef.of (T := ⟨S1, .i32⟩) main_call0_call0_v148) (TRef.of (T := ⟨S1, .i32⟩) main_call0_call0_v149) addi,
    TRef.nullary (TRef.of (T := ⟨S_, .i32⟩) main_call0_call0_c_38) (constantI S_ 32 15#32),
    TRef.unary (TRef.of (T := ⟨S_, .i32⟩) main_call0_call0_c_38) (TRef.of (T := ⟨S1, .i32⟩) main_call0_call0_v150) (broadcastInDim S1 ![] bcast_S_S1),
    TRef.binary (TRef.of (T := ⟨S1, .i32⟩) main_call0_call0_v148) (TRef.of (T := ⟨S1, .i32⟩) main_call0_call0_v150) (TRef.of (T := ⟨S1, .i32⟩) main_call0_call0_v151) Host.shli,
    TRef.nullary (TRef.of (T := ⟨S_, .i32⟩) main_call0_call0_c_39) (constantI S_ 32 17#32),
    TRef.unary (TRef.of (T := ⟨S_, .i32⟩) main_call0_call0_c_39) (TRef.of (T := ⟨S1, .i32⟩) main_call0_call0_v152) (broadcastInDim S1 ![] bcast_S_S1),
    TRef.binary (TRef.of (T := ⟨S1, .i32⟩) main_call0_call0_v148) (TRef.of (T := ⟨S1, .i32⟩) main_call0_call0_v152) (TRef.of (T := ⟨S1, .i32⟩) main_call0_call0_v153) Host.shrui,
    TRef.binary (TRef.of (T := ⟨S1, .i32⟩) main_call0_call0_v151) (TRef.of (T := ⟨S1, .i32⟩) main_call0_call0_v153) (TRef.of (T := ⟨S1, .i32⟩) main_call0_call0_v154) ori,
    TRef.binary (TRef.of (T := ⟨S1, .i32⟩) main_call0_call0_v149) (TRef.of (T := ⟨S1, .i32⟩) main_call0_call0_v154) (TRef.of (T := ⟨S1, .i32⟩) main_call0_call0_v155) xori,
    TRef.binary (TRef.of (T := ⟨S1, .i32⟩) main_call0_call0_v149) (TRef.of (T := ⟨S1, .i32⟩) main_call0_call0_v155) (TRef.of (T := ⟨S1, .i32⟩) main_call0_call0_v156) addi,
    TRef.nullary (TRef.of (T := ⟨S_, .i32⟩) main_call0_call0_c_40) (constantI S_ 32 26#32),
    TRef.unary (TRef.of (T := ⟨S_, .i32⟩) main_call0_call0_c_40) (TRef.of (T := ⟨S1, .i32⟩) main_call0_call0_v157) (broadcastInDim S1 ![] bcast_S_S1),
    TRef.binary (TRef.of (T := ⟨S1, .i32⟩) main_call0_call0_v155) (TRef.of (T := ⟨S1, .i32⟩) main_call0_call0_v157) (TRef.of (T := ⟨S1, .i32⟩) main_call0_call0_v158) Host.shli,
    TRef.nullary (TRef.of (T := ⟨S_, .i32⟩) main_call0_call0_c_41) (constantI S_ 32 6#32) ]

/-- @main's operations 241 … 270 of 573 (window `main_part0`). -/
abbrev ops_part0_8 : List (HloOp τ sig (Elt F)) :=
  [ TRef.unary (TRef.of (T := ⟨S_, .i32⟩) main_call0_call0_c_41) (TRef.of (T := ⟨S1, .i32⟩) main_call0_call0_v159) (broadcastInDim S1 ![] bcast_S_S1),
    TRef.binary (TRef.of (T := ⟨S1, .i32⟩) main_call0_call0_v155) (TRef.of (T := ⟨S1, .i32⟩) main_call0_call0_v159) (TRef.of (T := ⟨S1, .i32⟩) main_call0_call0_v160) Host.shrui,
    TRef.binary (TRef.of (T := ⟨S1, .i32⟩) main_call0_call0_v158) (TRef.of (T := ⟨S1, .i32⟩) main_call0_call0_v160) (TRef.of (T := ⟨S1, .i32⟩) main_call0_call0_v161) ori,
    TRef.binary (TRef.of (T := ⟨S1, .i32⟩) main_call0_call0_v156) (TRef.of (T := ⟨S1, .i32⟩) main_call0_call0_v161) (TRef.of (T := ⟨S1, .i32⟩) main_call0_call0_v162) xori,
    TRef.binary (TRef.of (T := ⟨S1, .i32⟩) main_call0_call0_v156) (TRef.of (T := ⟨S1, .i32⟩) main_call0_call0_v162) (TRef.of (T := ⟨S1, .i32⟩) main_call0_call0_v163) addi,
    TRef.nullary (TRef.of (T := ⟨S_, .i32⟩) main_call0_call0_c_42) (constantI S_ 32 6#32),
    TRef.unary (TRef.of (T := ⟨S_, .i32⟩) main_call0_call0_c_42) (TRef.of (T := ⟨S1, .i32⟩) main_call0_call0_v164) (broadcastInDim S1 ![] bcast_S_S1),
    TRef.binary (TRef.of (T := ⟨S1, .i32⟩) main_call0_call0_v162) (TRef.of (T := ⟨S1, .i32⟩) main_call0_call0_v164) (TRef.of (T := ⟨S1, .i32⟩) main_call0_call0_v165) Host.shli,
    TRef.nullary (TRef.of (T := ⟨S_, .i32⟩) main_call0_call0_c_43) (constantI S_ 32 26#32),
    TRef.unary (TRef.of (T := ⟨S_, .i32⟩) main_call0_call0_c_43) (TRef.of (T := ⟨S1, .i32⟩) main_call0_call0_v166) (broadcastInDim S1 ![] bcast_S_S1),
    TRef.binary (TRef.of (T := ⟨S1, .i32⟩) main_call0_call0_v162) (TRef.of (T := ⟨S1, .i32⟩) main_call0_call0_v166) (TRef.of (T := ⟨S1, .i32⟩) main_call0_call0_v167) Host.shrui,
    TRef.binary (TRef.of (T := ⟨S1, .i32⟩) main_call0_call0_v165) (TRef.of (T := ⟨S1, .i32⟩) main_call0_call0_v167) (TRef.of (T := ⟨S1, .i32⟩) main_call0_call0_v168) ori,
    TRef.binary (TRef.of (T := ⟨S1, .i32⟩) main_call0_call0_v163) (TRef.of (T := ⟨S1, .i32⟩) main_call0_call0_v168) (TRef.of (T := ⟨S1, .i32⟩) main_call0_call0_v169) xori,
    TRef.unary (TRef.of (T := ⟨S_, .i32⟩) main_call0_call0_v1) (TRef.of (T := ⟨S1, .i32⟩) main_call0_call0_v170) (broadcastInDim S1 ![] bcast_S_S1),
    TRef.binary (TRef.of (T := ⟨S1, .i32⟩) main_call0_call0_v163) (TRef.of (T := ⟨S1, .i32⟩) main_call0_call0_v170) (TRef.of (T := ⟨S1, .i32⟩) main_call0_v11_0) addi,
    TRef.unary (TRef.of (T := ⟨S_, .i32⟩) main_call0_v6) (TRef.of (T := ⟨S1, .i32⟩) main_call0_call0_v172) (broadcastInDim S1 ![] bcast_S_S1),
    TRef.binary (TRef.of (T := ⟨S1, .i32⟩) main_call0_call0_v169) (TRef.of (T := ⟨S1, .i32⟩) main_call0_call0_v172) (TRef.of (T := ⟨S1, .i32⟩) main_call0_call0_v173) addi,
    TRef.nullary (TRef.of (T := ⟨S_, .i32⟩) main_call0_call0_c_44) (constantI S_ 32 5#32),
    TRef.unary (TRef.of (T := ⟨S_, .i32⟩) main_call0_call0_c_44) (TRef.of (T := ⟨S1, .i32⟩) main_call0_call0_v174) (broadcastInDim S1 ![] bcast_S_S1),
    TRef.binary (TRef.of (T := ⟨S1, .i32⟩) main_call0_call0_v173) (TRef.of (T := ⟨S1, .i32⟩) main_call0_call0_v174) (TRef.of (T := ⟨S1, .i32⟩) main_call0_v11_1) addi,
    TRef.binary (TRef.of (T := ⟨S1, .i32⟩) main_call0_v11_0) (TRef.of (T := ⟨S1, .i32⟩) main_call0_v11_1) (TRef.of (T := ⟨S2, .i32⟩) main_v18) (fn_main_v18 (F := F)),
    unary main_v18 main_v19 ((extractStridedSlice S1 ![0] · slices_S2_S1_0) : (⟨S2, .i32⟩ : BufTy).Contents (Elt F) → (⟨S1, .i32⟩ : BufTy).Contents (Elt F)),
    reshape main_v19 main_v20 (rfl : (.i32 : EltTy) = .i32) shapeCasts_S1_S_,
    unary main_v18 main_v21 ((extractStridedSlice S1 ![1] · slices_S2_S1_1) : (⟨S2, .i32⟩ : BufTy).Contents (Elt F) → (⟨S1, .i32⟩ : BufTy).Contents (Elt F)),
    reshape main_v21 main_v22 (rfl : (.i32 : EltTy) = .i32) shapeCasts_S1_S_,
    nullary main_v23 (iotaInDim S32x1000000 64 0),
    nullary main_v24 (iotaInDim S32x1000000 64 1),
    nullary main_c_5 (constantI S_ 64 1000000#64),
    unary main_c_5 main_v25 (broadcastInDim S32x1000000 ![] bcast_S_S32x1000000 : (⟨S_, .i64⟩ : BufTy).Contents (Elt F) → (⟨S32x1000000, .i64⟩ : BufTy).Contents (Elt F)),
    binary main_v25 main_v23 main_v26 (muli : (⟨S32x1000000, .i64⟩ : BufTy).Contents (Elt F) → (⟨S32x1000000, .i64⟩ : BufTy).Contents (Elt F) → (⟨S32x1000000, .i64⟩ : BufTy).Contents (Elt F)) ]

/-- @main's operations 271 … 300 of 573 (window `main_part0`). -/
abbrev ops_part0_9 : List (HloOp τ sig (Elt F)) :=
  [ nullary main_c_6 (constantI S_ 64 1#64),
    unary main_c_6 main_v27 (broadcastInDim S32x1000000 ![] bcast_S_S32x1000000 : (⟨S_, .i64⟩ : BufTy).Contents (Elt F) → (⟨S32x1000000, .i64⟩ : BufTy).Contents (Elt F)),
    binary main_v27 main_v24 main_v28 (muli : (⟨S32x1000000, .i64⟩ : BufTy).Contents (Elt F) → (⟨S32x1000000, .i64⟩ : BufTy).Contents (Elt F) → (⟨S32x1000000, .i64⟩ : BufTy).Contents (Elt F)),
    binary main_v26 main_v28 main_v29 (addi : (⟨S32x1000000, .i64⟩ : BufTy).Contents (Elt F) → (⟨S32x1000000, .i64⟩ : BufTy).Contents (Elt F) → (⟨S32x1000000, .i64⟩ : BufTy).Contents (Elt F)),
    nullary main_c_7 (constantI S_ 64 32#64),
    unary main_c_7 main_v30 (broadcastInDim S32x1000000 ![] bcast_S_S32x1000000 : (⟨S_, .i64⟩ : BufTy).Contents (Elt F) → (⟨S32x1000000, .i64⟩ : BufTy).Contents (Elt F)),
    binary main_v29 main_v30 main_v31 (Host.shrui : (⟨S32x1000000, .i64⟩ : BufTy).Contents (Elt F) → (⟨S32x1000000, .i64⟩ : BufTy).Contents (Elt F) → (⟨S32x1000000, .i64⟩ : BufTy).Contents (Elt F)),
    unary main_v29 main_v32 ((trunci 32 · natLt_32_64) : (⟨S32x1000000, .i64⟩ : BufTy).Contents (Elt F) → (⟨S32x1000000, .i32⟩ : BufTy).Contents (Elt F)),
    unary main_v31 main_v33 ((trunci 32 · natLt_32_64) : (⟨S32x1000000, .i64⟩ : BufTy).Contents (Elt F) → (⟨S32x1000000, .i32⟩ : BufTy).Contents (Elt F)),
    TRef.binary (TRef.of (T := ⟨S_, .i32⟩) main_v20) (TRef.of (T := ⟨S_, .i32⟩) main_v22) (TRef.of (T := ⟨S_, .i32⟩) main_call1_v0) xori,
    TRef.nullary (TRef.of (T := ⟨S_, .i32⟩) main_call1_c) (constantI S_ 32 466688986#32),
    TRef.binary (TRef.of (T := ⟨S_, .i32⟩) main_call1_v0) (TRef.of (T := ⟨S_, .i32⟩) main_call1_c) (TRef.of (T := ⟨S_, .i32⟩) main_call1_v1) xori,
    TRef.unary (TRef.of (T := ⟨S_, .i32⟩) main_v20) (TRef.of (T := ⟨S32x1000000, .i32⟩) main_call1_v2) (broadcastInDim S32x1000000 ![] bcast_S_S32x1000000),
    TRef.binary (TRef.of (T := ⟨S32x1000000, .i32⟩) main_v33) (TRef.of (T := ⟨S32x1000000, .i32⟩) main_call1_v2) (TRef.of (T := ⟨S32x1000000, .i32⟩) main_call1_v3) addi,
    TRef.unary (TRef.of (T := ⟨S_, .i32⟩) main_v22) (TRef.of (T := ⟨S32x1000000, .i32⟩) main_call1_v4) (broadcastInDim S32x1000000 ![] bcast_S_S32x1000000),
    TRef.binary (TRef.of (T := ⟨S32x1000000, .i32⟩) main_v32) (TRef.of (T := ⟨S32x1000000, .i32⟩) main_call1_v4) (TRef.of (T := ⟨S32x1000000, .i32⟩) main_call1_v5) addi,
    TRef.binary (TRef.of (T := ⟨S32x1000000, .i32⟩) main_call1_v3) (TRef.of (T := ⟨S32x1000000, .i32⟩) main_call1_v5) (TRef.of (T := ⟨S32x1000000, .i32⟩) main_call1_v6) addi,
    TRef.nullary (TRef.of (T := ⟨S_, .i32⟩) main_call1_c_0) (constantI S_ 32 13#32),
    TRef.unary (TRef.of (T := ⟨S_, .i32⟩) main_call1_c_0) (TRef.of (T := ⟨S32x1000000, .i32⟩) main_call1_v7) (broadcastInDim S32x1000000 ![] bcast_S_S32x1000000),
    TRef.binary (TRef.of (T := ⟨S32x1000000, .i32⟩) main_call1_v5) (TRef.of (T := ⟨S32x1000000, .i32⟩) main_call1_v7) (TRef.of (T := ⟨S32x1000000, .i32⟩) main_call1_v8) Host.shli,
    TRef.nullary (TRef.of (T := ⟨S_, .i32⟩) main_call1_c_1) (constantI S_ 32 19#32),
    TRef.unary (TRef.of (T := ⟨S_, .i32⟩) main_call1_c_1) (TRef.of (T := ⟨S32x1000000, .i32⟩) main_call1_v9) (broadcastInDim S32x1000000 ![] bcast_S_S32x1000000),
    TRef.binary (TRef.of (T := ⟨S32x1000000, .i32⟩) main_call1_v5) (TRef.of (T := ⟨S32x1000000, .i32⟩) main_call1_v9) (TRef.of (T := ⟨S32x1000000, .i32⟩) main_call1_v10) Host.shrui,
    TRef.binary (TRef.of (T := ⟨S32x1000000, .i32⟩) main_call1_v8) (TRef.of (T := ⟨S32x1000000, .i32⟩) main_call1_v10) (TRef.of (T := ⟨S32x1000000, .i32⟩) main_call1_v11) ori,
    TRef.binary (TRef.of (T := ⟨S32x1000000, .i32⟩) main_call1_v6) (TRef.of (T := ⟨S32x1000000, .i32⟩) main_call1_v11) (TRef.of (T := ⟨S32x1000000, .i32⟩) main_call1_v12) xori,
    TRef.binary (TRef.of (T := ⟨S32x1000000, .i32⟩) main_call1_v6) (TRef.of (T := ⟨S32x1000000, .i32⟩) main_call1_v12) (TRef.of (T := ⟨S32x1000000, .i32⟩) main_call1_v13) addi,
    TRef.nullary (TRef.of (T := ⟨S_, .i32⟩) main_call1_c_2) (constantI S_ 32 15#32),
    TRef.unary (TRef.of (T := ⟨S_, .i32⟩) main_call1_c_2) (TRef.of (T := ⟨S32x1000000, .i32⟩) main_call1_v14) (broadcastInDim S32x1000000 ![] bcast_S_S32x1000000),
    TRef.binary (TRef.of (T := ⟨S32x1000000, .i32⟩) main_call1_v12) (TRef.of (T := ⟨S32x1000000, .i32⟩) main_call1_v14) (TRef.of (T := ⟨S32x1000000, .i32⟩) main_call1_v15) Host.shli,
    TRef.nullary (TRef.of (T := ⟨S_, .i32⟩) main_call1_c_3) (constantI S_ 32 17#32) ]

/-- @main's operations 301 … 330 of 573 (window `main_part0`). -/
abbrev ops_part0_10 : List (HloOp τ sig (Elt F)) :=
  [ TRef.unary (TRef.of (T := ⟨S_, .i32⟩) main_call1_c_3) (TRef.of (T := ⟨S32x1000000, .i32⟩) main_call1_v16) (broadcastInDim S32x1000000 ![] bcast_S_S32x1000000),
    TRef.binary (TRef.of (T := ⟨S32x1000000, .i32⟩) main_call1_v12) (TRef.of (T := ⟨S32x1000000, .i32⟩) main_call1_v16) (TRef.of (T := ⟨S32x1000000, .i32⟩) main_call1_v17) Host.shrui,
    TRef.binary (TRef.of (T := ⟨S32x1000000, .i32⟩) main_call1_v15) (TRef.of (T := ⟨S32x1000000, .i32⟩) main_call1_v17) (TRef.of (T := ⟨S32x1000000, .i32⟩) main_call1_v18) ori,
    TRef.binary (TRef.of (T := ⟨S32x1000000, .i32⟩) main_call1_v13) (TRef.of (T := ⟨S32x1000000, .i32⟩) main_call1_v18) (TRef.of (T := ⟨S32x1000000, .i32⟩) main_call1_v19) xori,
    TRef.binary (TRef.of (T := ⟨S32x1000000, .i32⟩) main_call1_v13) (TRef.of (T := ⟨S32x1000000, .i32⟩) main_call1_v19) (TRef.of (T := ⟨S32x1000000, .i32⟩) main_call1_v20) addi,
    TRef.nullary (TRef.of (T := ⟨S_, .i32⟩) main_call1_c_4) (constantI S_ 32 26#32),
    TRef.unary (TRef.of (T := ⟨S_, .i32⟩) main_call1_c_4) (TRef.of (T := ⟨S32x1000000, .i32⟩) main_call1_v21) (broadcastInDim S32x1000000 ![] bcast_S_S32x1000000),
    TRef.binary (TRef.of (T := ⟨S32x1000000, .i32⟩) main_call1_v19) (TRef.of (T := ⟨S32x1000000, .i32⟩) main_call1_v21) (TRef.of (T := ⟨S32x1000000, .i32⟩) main_call1_v22) Host.shli,
    TRef.nullary (TRef.of (T := ⟨S_, .i32⟩) main_call1_c_5) (constantI S_ 32 6#32),
    TRef.unary (TRef.of (T := ⟨S_, .i32⟩) main_call1_c_5) (TRef.of (T := ⟨S32x1000000, .i32⟩) main_call1_v23) (broadcastInDim S32x1000000 ![] bcast_S_S32x1000000),
    TRef.binary (TRef.of (T := ⟨S32x1000000, .i32⟩) main_call1_v19) (TRef.of (T := ⟨S32x1000000, .i32⟩) main_call1_v23) (TRef.of (T := ⟨S32x1000000, .i32⟩) main_call1_v24) Host.shrui,
    TRef.binary (TRef.of (T := ⟨S32x1000000, .i32⟩) main_call1_v22) (TRef.of (T := ⟨S32x1000000, .i32⟩) main_call1_v24) (TRef.of (T := ⟨S32x1000000, .i32⟩) main_call1_v25) ori,
    TRef.binary (TRef.of (T := ⟨S32x1000000, .i32⟩) main_call1_v20) (TRef.of (T := ⟨S32x1000000, .i32⟩) main_call1_v25) (TRef.of (T := ⟨S32x1000000, .i32⟩) main_call1_v26) xori,
    TRef.binary (TRef.of (T := ⟨S32x1000000, .i32⟩) main_call1_v20) (TRef.of (T := ⟨S32x1000000, .i32⟩) main_call1_v26) (TRef.of (T := ⟨S32x1000000, .i32⟩) main_call1_v27) addi,
    TRef.nullary (TRef.of (T := ⟨S_, .i32⟩) main_call1_c_6) (constantI S_ 32 6#32),
    TRef.unary (TRef.of (T := ⟨S_, .i32⟩) main_call1_c_6) (TRef.of (T := ⟨S32x1000000, .i32⟩) main_call1_v28) (broadcastInDim S32x1000000 ![] bcast_S_S32x1000000),
    TRef.binary (TRef.of (T := ⟨S32x1000000, .i32⟩) main_call1_v26) (TRef.of (T := ⟨S32x1000000, .i32⟩) main_call1_v28) (TRef.of (T := ⟨S32x1000000, .i32⟩) main_call1_v29) Host.shli,
    TRef.nullary (TRef.of (T := ⟨S_, .i32⟩) main_call1_c_7) (constantI S_ 32 26#32),
    TRef.unary (TRef.of (T := ⟨S_, .i32⟩) main_call1_c_7) (TRef.of (T := ⟨S32x1000000, .i32⟩) main_call1_v30) (broadcastInDim S32x1000000 ![] bcast_S_S32x1000000),
    TRef.binary (TRef.of (T := ⟨S32x1000000, .i32⟩) main_call1_v26) (TRef.of (T := ⟨S32x1000000, .i32⟩) main_call1_v30) (TRef.of (T := ⟨S32x1000000, .i32⟩) main_call1_v31) Host.shrui,
    TRef.binary (TRef.of (T := ⟨S32x1000000, .i32⟩) main_call1_v29) (TRef.of (T := ⟨S32x1000000, .i32⟩) main_call1_v31) (TRef.of (T := ⟨S32x1000000, .i32⟩) main_call1_v32) ori,
    TRef.binary (TRef.of (T := ⟨S32x1000000, .i32⟩) main_call1_v27) (TRef.of (T := ⟨S32x1000000, .i32⟩) main_call1_v32) (TRef.of (T := ⟨S32x1000000, .i32⟩) main_call1_v33) xori,
    TRef.unary (TRef.of (T := ⟨S_, .i32⟩) main_v22) (TRef.of (T := ⟨S32x1000000, .i32⟩) main_call1_v34) (broadcastInDim S32x1000000 ![] bcast_S_S32x1000000),
    TRef.binary (TRef.of (T := ⟨S32x1000000, .i32⟩) main_call1_v27) (TRef.of (T := ⟨S32x1000000, .i32⟩) main_call1_v34) (TRef.of (T := ⟨S32x1000000, .i32⟩) main_call1_v35) addi,
    TRef.unary (TRef.of (T := ⟨S_, .i32⟩) main_call1_v1) (TRef.of (T := ⟨S32x1000000, .i32⟩) main_call1_v36) (broadcastInDim S32x1000000 ![] bcast_S_S32x1000000),
    TRef.binary (TRef.of (T := ⟨S32x1000000, .i32⟩) main_call1_v33) (TRef.of (T := ⟨S32x1000000, .i32⟩) main_call1_v36) (TRef.of (T := ⟨S32x1000000, .i32⟩) main_call1_v37) addi,
    TRef.nullary (TRef.of (T := ⟨S_, .i32⟩) main_call1_c_8) (constantI S_ 32 1#32),
    TRef.unary (TRef.of (T := ⟨S_, .i32⟩) main_call1_c_8) (TRef.of (T := ⟨S32x1000000, .i32⟩) main_call1_v38) (broadcastInDim S32x1000000 ![] bcast_S_S32x1000000),
    TRef.binary (TRef.of (T := ⟨S32x1000000, .i32⟩) main_call1_v37) (TRef.of (T := ⟨S32x1000000, .i32⟩) main_call1_v38) (TRef.of (T := ⟨S32x1000000, .i32⟩) main_call1_v39) addi,
    TRef.binary (TRef.of (T := ⟨S32x1000000, .i32⟩) main_call1_v35) (TRef.of (T := ⟨S32x1000000, .i32⟩) main_call1_v39) (TRef.of (T := ⟨S32x1000000, .i32⟩) main_call1_v40) addi ]

/-- @main's operations 331 … 360 of 573 (window `main_part0`). -/
abbrev ops_part0_11 : List (HloOp τ sig (Elt F)) :=
  [ TRef.nullary (TRef.of (T := ⟨S_, .i32⟩) main_call1_c_9) (constantI S_ 32 17#32),
    TRef.unary (TRef.of (T := ⟨S_, .i32⟩) main_call1_c_9) (TRef.of (T := ⟨S32x1000000, .i32⟩) main_call1_v41) (broadcastInDim S32x1000000 ![] bcast_S_S32x1000000),
    TRef.binary (TRef.of (T := ⟨S32x1000000, .i32⟩) main_call1_v39) (TRef.of (T := ⟨S32x1000000, .i32⟩) main_call1_v41) (TRef.of (T := ⟨S32x1000000, .i32⟩) main_call1_v42) Host.shli,
    TRef.nullary (TRef.of (T := ⟨S_, .i32⟩) main_call1_c_10) (constantI S_ 32 15#32),
    TRef.unary (TRef.of (T := ⟨S_, .i32⟩) main_call1_c_10) (TRef.of (T := ⟨S32x1000000, .i32⟩) main_call1_v43) (broadcastInDim S32x1000000 ![] bcast_S_S32x1000000),
    TRef.binary (TRef.of (T := ⟨S32x1000000, .i32⟩) main_call1_v39) (TRef.of (T := ⟨S32x1000000, .i32⟩) main_call1_v43) (TRef.of (T := ⟨S32x1000000, .i32⟩) main_call1_v44) Host.shrui,
    TRef.binary (TRef.of (T := ⟨S32x1000000, .i32⟩) main_call1_v42) (TRef.of (T := ⟨S32x1000000, .i32⟩) main_call1_v44) (TRef.of (T := ⟨S32x1000000, .i32⟩) main_call1_v45) ori,
    TRef.binary (TRef.of (T := ⟨S32x1000000, .i32⟩) main_call1_v40) (TRef.of (T := ⟨S32x1000000, .i32⟩) main_call1_v45) (TRef.of (T := ⟨S32x1000000, .i32⟩) main_call1_v46) xori,
    TRef.binary (TRef.of (T := ⟨S32x1000000, .i32⟩) main_call1_v40) (TRef.of (T := ⟨S32x1000000, .i32⟩) main_call1_v46) (TRef.of (T := ⟨S32x1000000, .i32⟩) main_call1_v47) addi,
    TRef.nullary (TRef.of (T := ⟨S_, .i32⟩) main_call1_c_11) (constantI S_ 32 29#32),
    TRef.unary (TRef.of (T := ⟨S_, .i32⟩) main_call1_c_11) (TRef.of (T := ⟨S32x1000000, .i32⟩) main_call1_v48) (broadcastInDim S32x1000000 ![] bcast_S_S32x1000000),
    TRef.binary (TRef.of (T := ⟨S32x1000000, .i32⟩) main_call1_v46) (TRef.of (T := ⟨S32x1000000, .i32⟩) main_call1_v48) (TRef.of (T := ⟨S32x1000000, .i32⟩) main_call1_v49) Host.shli,
    TRef.nullary (TRef.of (T := ⟨S_, .i32⟩) main_call1_c_12) (constantI S_ 32 3#32),
    TRef.unary (TRef.of (T := ⟨S_, .i32⟩) main_call1_c_12) (TRef.of (T := ⟨S32x1000000, .i32⟩) main_call1_v50) (broadcastInDim S32x1000000 ![] bcast_S_S32x1000000),
    TRef.binary (TRef.of (T := ⟨S32x1000000, .i32⟩) main_call1_v46) (TRef.of (T := ⟨S32x1000000, .i32⟩) main_call1_v50) (TRef.of (T := ⟨S32x1000000, .i32⟩) main_call1_v51) Host.shrui,
    TRef.binary (TRef.of (T := ⟨S32x1000000, .i32⟩) main_call1_v49) (TRef.of (T := ⟨S32x1000000, .i32⟩) main_call1_v51) (TRef.of (T := ⟨S32x1000000, .i32⟩) main_call1_v52) ori,
    TRef.binary (TRef.of (T := ⟨S32x1000000, .i32⟩) main_call1_v47) (TRef.of (T := ⟨S32x1000000, .i32⟩) main_call1_v52) (TRef.of (T := ⟨S32x1000000, .i32⟩) main_call1_v53) xori,
    TRef.binary (TRef.of (T := ⟨S32x1000000, .i32⟩) main_call1_v47) (TRef.of (T := ⟨S32x1000000, .i32⟩) main_call1_v53) (TRef.of (T := ⟨S32x1000000, .i32⟩) main_call1_v54) addi,
    TRef.nullary (TRef.of (T := ⟨S_, .i32⟩) main_call1_c_13) (constantI S_ 32 16#32),
    TRef.unary (TRef.of (T := ⟨S_, .i32⟩) main_call1_c_13) (TRef.of (T := ⟨S32x1000000, .i32⟩) main_call1_v55) (broadcastInDim S32x1000000 ![] bcast_S_S32x1000000),
    TRef.binary (TRef.of (T := ⟨S32x1000000, .i32⟩) main_call1_v53) (TRef.of (T := ⟨S32x1000000, .i32⟩) main_call1_v55) (TRef.of (T := ⟨S32x1000000, .i32⟩) main_call1_v56) Host.shli,
    TRef.nullary (TRef.of (T := ⟨S_, .i32⟩) main_call1_c_14) (constantI S_ 32 16#32),
    TRef.unary (TRef.of (T := ⟨S_, .i32⟩) main_call1_c_14) (TRef.of (T := ⟨S32x1000000, .i32⟩) main_call1_v57) (broadcastInDim S32x1000000 ![] bcast_S_S32x1000000),
    TRef.binary (TRef.of (T := ⟨S32x1000000, .i32⟩) main_call1_v53) (TRef.of (T := ⟨S32x1000000, .i32⟩) main_call1_v57) (TRef.of (T := ⟨S32x1000000, .i32⟩) main_call1_v58) Host.shrui,
    TRef.binary (TRef.of (T := ⟨S32x1000000, .i32⟩) main_call1_v56) (TRef.of (T := ⟨S32x1000000, .i32⟩) main_call1_v58) (TRef.of (T := ⟨S32x1000000, .i32⟩) main_call1_v59) ori,
    TRef.binary (TRef.of (T := ⟨S32x1000000, .i32⟩) main_call1_v54) (TRef.of (T := ⟨S32x1000000, .i32⟩) main_call1_v59) (TRef.of (T := ⟨S32x1000000, .i32⟩) main_call1_v60) xori,
    TRef.binary (TRef.of (T := ⟨S32x1000000, .i32⟩) main_call1_v54) (TRef.of (T := ⟨S32x1000000, .i32⟩) main_call1_v60) (TRef.of (T := ⟨S32x1000000, .i32⟩) main_call1_v61) addi,
    TRef.nullary (TRef.of (T := ⟨S_, .i32⟩) main_call1_c_15) (constantI S_ 32 24#32),
    TRef.unary (TRef.of (T := ⟨S_, .i32⟩) main_call1_c_15) (TRef.of (T := ⟨S32x1000000, .i32⟩) main_call1_v62) (broadcastInDim S32x1000000 ![] bcast_S_S32x1000000),
    TRef.binary (TRef.of (T := ⟨S32x1000000, .i32⟩) main_call1_v60) (TRef.of (T := ⟨S32x1000000, .i32⟩) main_call1_v62) (TRef.of (T := ⟨S32x1000000, .i32⟩) main_call1_v63) Host.shli ]

/-- @main's operations 361 … 390 of 573 (window `main_part0`). -/
abbrev ops_part0_12 : List (HloOp τ sig (Elt F)) :=
  [ TRef.nullary (TRef.of (T := ⟨S_, .i32⟩) main_call1_c_16) (constantI S_ 32 8#32),
    TRef.unary (TRef.of (T := ⟨S_, .i32⟩) main_call1_c_16) (TRef.of (T := ⟨S32x1000000, .i32⟩) main_call1_v64) (broadcastInDim S32x1000000 ![] bcast_S_S32x1000000),
    TRef.binary (TRef.of (T := ⟨S32x1000000, .i32⟩) main_call1_v60) (TRef.of (T := ⟨S32x1000000, .i32⟩) main_call1_v64) (TRef.of (T := ⟨S32x1000000, .i32⟩) main_call1_v65) Host.shrui,
    TRef.binary (TRef.of (T := ⟨S32x1000000, .i32⟩) main_call1_v63) (TRef.of (T := ⟨S32x1000000, .i32⟩) main_call1_v65) (TRef.of (T := ⟨S32x1000000, .i32⟩) main_call1_v66) ori,
    TRef.binary (TRef.of (T := ⟨S32x1000000, .i32⟩) main_call1_v61) (TRef.of (T := ⟨S32x1000000, .i32⟩) main_call1_v66) (TRef.of (T := ⟨S32x1000000, .i32⟩) main_call1_v67) xori,
    TRef.unary (TRef.of (T := ⟨S_, .i32⟩) main_call1_v1) (TRef.of (T := ⟨S32x1000000, .i32⟩) main_call1_v68) (broadcastInDim S32x1000000 ![] bcast_S_S32x1000000),
    TRef.binary (TRef.of (T := ⟨S32x1000000, .i32⟩) main_call1_v61) (TRef.of (T := ⟨S32x1000000, .i32⟩) main_call1_v68) (TRef.of (T := ⟨S32x1000000, .i32⟩) main_call1_v69) addi,
    TRef.unary (TRef.of (T := ⟨S_, .i32⟩) main_v20) (TRef.of (T := ⟨S32x1000000, .i32⟩) main_call1_v70) (broadcastInDim S32x1000000 ![] bcast_S_S32x1000000),
    TRef.binary (TRef.of (T := ⟨S32x1000000, .i32⟩) main_call1_v67) (TRef.of (T := ⟨S32x1000000, .i32⟩) main_call1_v70) (TRef.of (T := ⟨S32x1000000, .i32⟩) main_call1_v71) addi,
    TRef.nullary (TRef.of (T := ⟨S_, .i32⟩) main_call1_c_17) (constantI S_ 32 2#32),
    TRef.unary (TRef.of (T := ⟨S_, .i32⟩) main_call1_c_17) (TRef.of (T := ⟨S32x1000000, .i32⟩) main_call1_v72) (broadcastInDim S32x1000000 ![] bcast_S_S32x1000000),
    TRef.binary (TRef.of (T := ⟨S32x1000000, .i32⟩) main_call1_v71) (TRef.of (T := ⟨S32x1000000, .i32⟩) main_call1_v72) (TRef.of (T := ⟨S32x1000000, .i32⟩) main_call1_v73) addi,
    TRef.binary (TRef.of (T := ⟨S32x1000000, .i32⟩) main_call1_v69) (TRef.of (T := ⟨S32x1000000, .i32⟩) main_call1_v73) (TRef.of (T := ⟨S32x1000000, .i32⟩) main_call1_v74) addi,
    TRef.nullary (TRef.of (T := ⟨S_, .i32⟩) main_call1_c_18) (constantI S_ 32 13#32),
    TRef.unary (TRef.of (T := ⟨S_, .i32⟩) main_call1_c_18) (TRef.of (T := ⟨S32x1000000, .i32⟩) main_call1_v75) (broadcastInDim S32x1000000 ![] bcast_S_S32x1000000),
    TRef.binary (TRef.of (T := ⟨S32x1000000, .i32⟩) main_call1_v73) (TRef.of (T := ⟨S32x1000000, .i32⟩) main_call1_v75) (TRef.of (T := ⟨S32x1000000, .i32⟩) main_call1_v76) Host.shli,
    TRef.nullary (TRef.of (T := ⟨S_, .i32⟩) main_call1_c_19) (constantI S_ 32 19#32),
    TRef.unary (TRef.of (T := ⟨S_, .i32⟩) main_call1_c_19) (TRef.of (T := ⟨S32x1000000, .i32⟩) main_call1_v77) (broadcastInDim S32x1000000 ![] bcast_S_S32x1000000),
    TRef.binary (TRef.of (T := ⟨S32x1000000, .i32⟩) main_call1_v73) (TRef.of (T := ⟨S32x1000000, .i32⟩) main_call1_v77) (TRef.of (T := ⟨S32x1000000, .i32⟩) main_call1_v78) Host.shrui,
    TRef.binary (TRef.of (T := ⟨S32x1000000, .i32⟩) main_call1_v76) (TRef.of (T := ⟨S32x1000000, .i32⟩) main_call1_v78) (TRef.of (T := ⟨S32x1000000, .i32⟩) main_call1_v79) ori,
    TRef.binary (TRef.of (T := ⟨S32x1000000, .i32⟩) main_call1_v74) (TRef.of (T := ⟨S32x1000000, .i32⟩) main_call1_v79) (TRef.of (T := ⟨S32x1000000, .i32⟩) main_call1_v80) xori,
    TRef.binary (TRef.of (T := ⟨S32x1000000, .i32⟩) main_call1_v74) (TRef.of (T := ⟨S32x1000000, .i32⟩) main_call1_v80) (TRef.of (T := ⟨S32x1000000, .i32⟩) main_call1_v81) addi,
    TRef.nullary (TRef.of (T := ⟨S_, .i32⟩) main_call1_c_20) (constantI S_ 32 15#32),
    TRef.unary (TRef.of (T := ⟨S_, .i32⟩) main_call1_c_20) (TRef.of (T := ⟨S32x1000000, .i32⟩) main_call1_v82) (broadcastInDim S32x1000000 ![] bcast_S_S32x1000000),
    TRef.binary (TRef.of (T := ⟨S32x1000000, .i32⟩) main_call1_v80) (TRef.of (T := ⟨S32x1000000, .i32⟩) main_call1_v82) (TRef.of (T := ⟨S32x1000000, .i32⟩) main_call1_v83) Host.shli,
    TRef.nullary (TRef.of (T := ⟨S_, .i32⟩) main_call1_c_21) (constantI S_ 32 17#32),
    TRef.unary (TRef.of (T := ⟨S_, .i32⟩) main_call1_c_21) (TRef.of (T := ⟨S32x1000000, .i32⟩) main_call1_v84) (broadcastInDim S32x1000000 ![] bcast_S_S32x1000000),
    TRef.binary (TRef.of (T := ⟨S32x1000000, .i32⟩) main_call1_v80) (TRef.of (T := ⟨S32x1000000, .i32⟩) main_call1_v84) (TRef.of (T := ⟨S32x1000000, .i32⟩) main_call1_v85) Host.shrui,
    TRef.binary (TRef.of (T := ⟨S32x1000000, .i32⟩) main_call1_v83) (TRef.of (T := ⟨S32x1000000, .i32⟩) main_call1_v85) (TRef.of (T := ⟨S32x1000000, .i32⟩) main_call1_v86) ori,
    TRef.binary (TRef.of (T := ⟨S32x1000000, .i32⟩) main_call1_v81) (TRef.of (T := ⟨S32x1000000, .i32⟩) main_call1_v86) (TRef.of (T := ⟨S32x1000000, .i32⟩) main_call1_v87) xori ]

/-- @main's operations 391 … 420 of 573 (window `main_part0`). -/
abbrev ops_part0_13 : List (HloOp τ sig (Elt F)) :=
  [ TRef.binary (TRef.of (T := ⟨S32x1000000, .i32⟩) main_call1_v81) (TRef.of (T := ⟨S32x1000000, .i32⟩) main_call1_v87) (TRef.of (T := ⟨S32x1000000, .i32⟩) main_call1_v88) addi,
    TRef.nullary (TRef.of (T := ⟨S_, .i32⟩) main_call1_c_22) (constantI S_ 32 26#32),
    TRef.unary (TRef.of (T := ⟨S_, .i32⟩) main_call1_c_22) (TRef.of (T := ⟨S32x1000000, .i32⟩) main_call1_v89) (broadcastInDim S32x1000000 ![] bcast_S_S32x1000000),
    TRef.binary (TRef.of (T := ⟨S32x1000000, .i32⟩) main_call1_v87) (TRef.of (T := ⟨S32x1000000, .i32⟩) main_call1_v89) (TRef.of (T := ⟨S32x1000000, .i32⟩) main_call1_v90) Host.shli,
    TRef.nullary (TRef.of (T := ⟨S_, .i32⟩) main_call1_c_23) (constantI S_ 32 6#32),
    TRef.unary (TRef.of (T := ⟨S_, .i32⟩) main_call1_c_23) (TRef.of (T := ⟨S32x1000000, .i32⟩) main_call1_v91) (broadcastInDim S32x1000000 ![] bcast_S_S32x1000000),
    TRef.binary (TRef.of (T := ⟨S32x1000000, .i32⟩) main_call1_v87) (TRef.of (T := ⟨S32x1000000, .i32⟩) main_call1_v91) (TRef.of (T := ⟨S32x1000000, .i32⟩) main_call1_v92) Host.shrui,
    TRef.binary (TRef.of (T := ⟨S32x1000000, .i32⟩) main_call1_v90) (TRef.of (T := ⟨S32x1000000, .i32⟩) main_call1_v92) (TRef.of (T := ⟨S32x1000000, .i32⟩) main_call1_v93) ori,
    TRef.binary (TRef.of (T := ⟨S32x1000000, .i32⟩) main_call1_v88) (TRef.of (T := ⟨S32x1000000, .i32⟩) main_call1_v93) (TRef.of (T := ⟨S32x1000000, .i32⟩) main_call1_v94) xori,
    TRef.binary (TRef.of (T := ⟨S32x1000000, .i32⟩) main_call1_v88) (TRef.of (T := ⟨S32x1000000, .i32⟩) main_call1_v94) (TRef.of (T := ⟨S32x1000000, .i32⟩) main_call1_v95) addi,
    TRef.nullary (TRef.of (T := ⟨S_, .i32⟩) main_call1_c_24) (constantI S_ 32 6#32),
    TRef.unary (TRef.of (T := ⟨S_, .i32⟩) main_call1_c_24) (TRef.of (T := ⟨S32x1000000, .i32⟩) main_call1_v96) (broadcastInDim S32x1000000 ![] bcast_S_S32x1000000),
    TRef.binary (TRef.of (T := ⟨S32x1000000, .i32⟩) main_call1_v94) (TRef.of (T := ⟨S32x1000000, .i32⟩) main_call1_v96) (TRef.of (T := ⟨S32x1000000, .i32⟩) main_call1_v97) Host.shli,
    TRef.nullary (TRef.of (T := ⟨S_, .i32⟩) main_call1_c_25) (constantI S_ 32 26#32),
    TRef.unary (TRef.of (T := ⟨S_, .i32⟩) main_call1_c_25) (TRef.of (T := ⟨S32x1000000, .i32⟩) main_call1_v98) (broadcastInDim S32x1000000 ![] bcast_S_S32x1000000),
    TRef.binary (TRef.of (T := ⟨S32x1000000, .i32⟩) main_call1_v94) (TRef.of (T := ⟨S32x1000000, .i32⟩) main_call1_v98) (TRef.of (T := ⟨S32x1000000, .i32⟩) main_call1_v99) Host.shrui,
    TRef.binary (TRef.of (T := ⟨S32x1000000, .i32⟩) main_call1_v97) (TRef.of (T := ⟨S32x1000000, .i32⟩) main_call1_v99) (TRef.of (T := ⟨S32x1000000, .i32⟩) main_call1_v100) ori,
    TRef.binary (TRef.of (T := ⟨S32x1000000, .i32⟩) main_call1_v95) (TRef.of (T := ⟨S32x1000000, .i32⟩) main_call1_v100) (TRef.of (T := ⟨S32x1000000, .i32⟩) main_call1_v101) xori,
    TRef.unary (TRef.of (T := ⟨S_, .i32⟩) main_v20) (TRef.of (T := ⟨S32x1000000, .i32⟩) main_call1_v102) (broadcastInDim S32x1000000 ![] bcast_S_S32x1000000),
    TRef.binary (TRef.of (T := ⟨S32x1000000, .i32⟩) main_call1_v95) (TRef.of (T := ⟨S32x1000000, .i32⟩) main_call1_v102) (TRef.of (T := ⟨S32x1000000, .i32⟩) main_call1_v103) addi,
    TRef.unary (TRef.of (T := ⟨S_, .i32⟩) main_v22) (TRef.of (T := ⟨S32x1000000, .i32⟩) main_call1_v104) (broadcastInDim S32x1000000 ![] bcast_S_S32x1000000),
    TRef.binary (TRef.of (T := ⟨S32x1000000, .i32⟩) main_call1_v101) (TRef.of (T := ⟨S32x1000000, .i32⟩) main_call1_v104) (TRef.of (T := ⟨S32x1000000, .i32⟩) main_call1_v105) addi,
    TRef.nullary (TRef.of (T := ⟨S_, .i32⟩) main_call1_c_26) (constantI S_ 32 3#32),
    TRef.unary (TRef.of (T := ⟨S_, .i32⟩) main_call1_c_26) (TRef.of (T := ⟨S32x1000000, .i32⟩) main_call1_v106) (broadcastInDim S32x1000000 ![] bcast_S_S32x1000000),
    TRef.binary (TRef.of (T := ⟨S32x1000000, .i32⟩) main_call1_v105) (TRef.of (T := ⟨S32x1000000, .i32⟩) main_call1_v106) (TRef.of (T := ⟨S32x1000000, .i32⟩) main_call1_v107) addi,
    TRef.binary (TRef.of (T := ⟨S32x1000000, .i32⟩) main_call1_v103) (TRef.of (T := ⟨S32x1000000, .i32⟩) main_call1_v107) (TRef.of (T := ⟨S32x1000000, .i32⟩) main_call1_v108) addi,
    TRef.nullary (TRef.of (T := ⟨S_, .i32⟩) main_call1_c_27) (constantI S_ 32 17#32),
    TRef.unary (TRef.of (T := ⟨S_, .i32⟩) main_call1_c_27) (TRef.of (T := ⟨S32x1000000, .i32⟩) main_call1_v109) (broadcastInDim S32x1000000 ![] bcast_S_S32x1000000),
    TRef.binary (TRef.of (T := ⟨S32x1000000, .i32⟩) main_call1_v107) (TRef.of (T := ⟨S32x1000000, .i32⟩) main_call1_v109) (TRef.of (T := ⟨S32x1000000, .i32⟩) main_call1_v110) Host.shli,
    TRef.nullary (TRef.of (T := ⟨S_, .i32⟩) main_call1_c_28) (constantI S_ 32 15#32) ]

/-- @main's operations 421 … 450 of 573 (window `main_part0`). -/
abbrev ops_part0_14 : List (HloOp τ sig (Elt F)) :=
  [ TRef.unary (TRef.of (T := ⟨S_, .i32⟩) main_call1_c_28) (TRef.of (T := ⟨S32x1000000, .i32⟩) main_call1_v111) (broadcastInDim S32x1000000 ![] bcast_S_S32x1000000),
    TRef.binary (TRef.of (T := ⟨S32x1000000, .i32⟩) main_call1_v107) (TRef.of (T := ⟨S32x1000000, .i32⟩) main_call1_v111) (TRef.of (T := ⟨S32x1000000, .i32⟩) main_call1_v112) Host.shrui,
    TRef.binary (TRef.of (T := ⟨S32x1000000, .i32⟩) main_call1_v110) (TRef.of (T := ⟨S32x1000000, .i32⟩) main_call1_v112) (TRef.of (T := ⟨S32x1000000, .i32⟩) main_call1_v113) ori,
    TRef.binary (TRef.of (T := ⟨S32x1000000, .i32⟩) main_call1_v108) (TRef.of (T := ⟨S32x1000000, .i32⟩) main_call1_v113) (TRef.of (T := ⟨S32x1000000, .i32⟩) main_call1_v114) xori,
    TRef.binary (TRef.of (T := ⟨S32x1000000, .i32⟩) main_call1_v108) (TRef.of (T := ⟨S32x1000000, .i32⟩) main_call1_v114) (TRef.of (T := ⟨S32x1000000, .i32⟩) main_call1_v115) addi,
    TRef.nullary (TRef.of (T := ⟨S_, .i32⟩) main_call1_c_29) (constantI S_ 32 29#32),
    TRef.unary (TRef.of (T := ⟨S_, .i32⟩) main_call1_c_29) (TRef.of (T := ⟨S32x1000000, .i32⟩) main_call1_v116) (broadcastInDim S32x1000000 ![] bcast_S_S32x1000000),
    TRef.binary (TRef.of (T := ⟨S32x1000000, .i32⟩) main_call1_v114) (TRef.of (T := ⟨S32x1000000, .i32⟩) main_call1_v116) (TRef.of (T := ⟨S32x1000000, .i32⟩) main_call1_v117) Host.shli,
    TRef.nullary (TRef.of (T := ⟨S_, .i32⟩) main_call1_c_30) (constantI S_ 32 3#32),
    TRef.unary (TRef.of (T := ⟨S_, .i32⟩) main_call1_c_30) (TRef.of (T := ⟨S32x1000000, .i32⟩) main_call1_v118) (broadcastInDim S32x1000000 ![] bcast_S_S32x1000000),
    TRef.binary (TRef.of (T := ⟨S32x1000000, .i32⟩) main_call1_v114) (TRef.of (T := ⟨S32x1000000, .i32⟩) main_call1_v118) (TRef.of (T := ⟨S32x1000000, .i32⟩) main_call1_v119) Host.shrui,
    TRef.binary (TRef.of (T := ⟨S32x1000000, .i32⟩) main_call1_v117) (TRef.of (T := ⟨S32x1000000, .i32⟩) main_call1_v119) (TRef.of (T := ⟨S32x1000000, .i32⟩) main_call1_v120) ori,
    TRef.binary (TRef.of (T := ⟨S32x1000000, .i32⟩) main_call1_v115) (TRef.of (T := ⟨S32x1000000, .i32⟩) main_call1_v120) (TRef.of (T := ⟨S32x1000000, .i32⟩) main_call1_v121) xori,
    TRef.binary (TRef.of (T := ⟨S32x1000000, .i32⟩) main_call1_v115) (TRef.of (T := ⟨S32x1000000, .i32⟩) main_call1_v121) (TRef.of (T := ⟨S32x1000000, .i32⟩) main_call1_v122) addi,
    TRef.nullary (TRef.of (T := ⟨S_, .i32⟩) main_call1_c_31) (constantI S_ 32 16#32),
    TRef.unary (TRef.of (T := ⟨S_, .i32⟩) main_call1_c_31) (TRef.of (T := ⟨S32x1000000, .i32⟩) main_call1_v123) (broadcastInDim S32x1000000 ![] bcast_S_S32x1000000),
    TRef.binary (TRef.of (T := ⟨S32x1000000, .i32⟩) main_call1_v121) (TRef.of (T := ⟨S32x1000000, .i32⟩) main_call1_v123) (TRef.of (T := ⟨S32x1000000, .i32⟩) main_call1_v124) Host.shli,
    TRef.nullary (TRef.of (T := ⟨S_, .i32⟩) main_call1_c_32) (constantI S_ 32 16#32),
    TRef.unary (TRef.of (T := ⟨S_, .i32⟩) main_call1_c_32) (TRef.of (T := ⟨S32x1000000, .i32⟩) main_call1_v125) (broadcastInDim S32x1000000 ![] bcast_S_S32x1000000),
    TRef.binary (TRef.of (T := ⟨S32x1000000, .i32⟩) main_call1_v121) (TRef.of (T := ⟨S32x1000000, .i32⟩) main_call1_v125) (TRef.of (T := ⟨S32x1000000, .i32⟩) main_call1_v126) Host.shrui,
    TRef.binary (TRef.of (T := ⟨S32x1000000, .i32⟩) main_call1_v124) (TRef.of (T := ⟨S32x1000000, .i32⟩) main_call1_v126) (TRef.of (T := ⟨S32x1000000, .i32⟩) main_call1_v127) ori,
    TRef.binary (TRef.of (T := ⟨S32x1000000, .i32⟩) main_call1_v122) (TRef.of (T := ⟨S32x1000000, .i32⟩) main_call1_v127) (TRef.of (T := ⟨S32x1000000, .i32⟩) main_call1_v128) xori,
    TRef.binary (TRef.of (T := ⟨S32x1000000, .i32⟩) main_call1_v122) (TRef.of (T := ⟨S32x1000000, .i32⟩) main_call1_v128) (TRef.of (T := ⟨S32x1000000, .i32⟩) main_call1_v129) addi,
    TRef.nullary (TRef.of (T := ⟨S_, .i32⟩) main_call1_c_33) (constantI S_ 32 24#32),
    TRef.unary (TRef.of (T := ⟨S_, .i32⟩) main_call1_c_33) (TRef.of (T := ⟨S32x1000000, .i32⟩) main_call1_v130) (broadcastInDim S32x1000000 ![] bcast_S_S32x1000000),
    TRef.binary (TRef.of (T := ⟨S32x1000000, .i32⟩) main_call1_v128) (TRef.of (T := ⟨S32x1000000, .i32⟩) main_call1_v130) (TRef.of (T := ⟨S32x1000000, .i32⟩) main_call1_v131) Host.shli,
    TRef.nullary (TRef.of (T := ⟨S_, .i32⟩) main_call1_c_34) (constantI S_ 32 8#32),
    TRef.unary (TRef.of (T := ⟨S_, .i32⟩) main_call1_c_34) (TRef.of (T := ⟨S32x1000000, .i32⟩) main_call1_v132) (broadcastInDim S32x1000000 ![] bcast_S_S32x1000000),
    TRef.binary (TRef.of (T := ⟨S32x1000000, .i32⟩) main_call1_v128) (TRef.of (T := ⟨S32x1000000, .i32⟩) main_call1_v132) (TRef.of (T := ⟨S32x1000000, .i32⟩) main_call1_v133) Host.shrui,
    TRef.binary (TRef.of (T := ⟨S32x1000000, .i32⟩) main_call1_v131) (TRef.of (T := ⟨S32x1000000, .i32⟩) main_call1_v133) (TRef.of (T := ⟨S32x1000000, .i32⟩) main_call1_v134) ori ]

/-- @main's operations 451 … 480 of 573 (window `main_part0`). -/
abbrev ops_part0_15 : List (HloOp τ sig (Elt F)) :=
  [ TRef.binary (TRef.of (T := ⟨S32x1000000, .i32⟩) main_call1_v129) (TRef.of (T := ⟨S32x1000000, .i32⟩) main_call1_v134) (TRef.of (T := ⟨S32x1000000, .i32⟩) main_call1_v135) xori,
    TRef.unary (TRef.of (T := ⟨S_, .i32⟩) main_v22) (TRef.of (T := ⟨S32x1000000, .i32⟩) main_call1_v136) (broadcastInDim S32x1000000 ![] bcast_S_S32x1000000),
    TRef.binary (TRef.of (T := ⟨S32x1000000, .i32⟩) main_call1_v129) (TRef.of (T := ⟨S32x1000000, .i32⟩) main_call1_v136) (TRef.of (T := ⟨S32x1000000, .i32⟩) main_call1_v137) addi,
    TRef.unary (TRef.of (T := ⟨S_, .i32⟩) main_call1_v1) (TRef.of (T := ⟨S32x1000000, .i32⟩) main_call1_v138) (broadcastInDim S32x1000000 ![] bcast_S_S32x1000000),
    TRef.binary (TRef.of (T := ⟨S32x1000000, .i32⟩) main_call1_v135) (TRef.of (T := ⟨S32x1000000, .i32⟩) main_call1_v138) (TRef.of (T := ⟨S32x1000000, .i32⟩) main_call1_v139) addi,
    TRef.nullary (TRef.of (T := ⟨S_, .i32⟩) main_call1_c_35) (constantI S_ 32 4#32),
    TRef.unary (TRef.of (T := ⟨S_, .i32⟩) main_call1_c_35) (TRef.of (T := ⟨S32x1000000, .i32⟩) main_call1_v140) (broadcastInDim S32x1000000 ![] bcast_S_S32x1000000),
    TRef.binary (TRef.of (T := ⟨S32x1000000, .i32⟩) main_call1_v139) (TRef.of (T := ⟨S32x1000000, .i32⟩) main_call1_v140) (TRef.of (T := ⟨S32x1000000, .i32⟩) main_call1_v141) addi,
    TRef.binary (TRef.of (T := ⟨S32x1000000, .i32⟩) main_call1_v137) (TRef.of (T := ⟨S32x1000000, .i32⟩) main_call1_v141) (TRef.of (T := ⟨S32x1000000, .i32⟩) main_call1_v142) addi,
    TRef.nullary (TRef.of (T := ⟨S_, .i32⟩) main_call1_c_36) (constantI S_ 32 13#32),
    TRef.unary (TRef.of (T := ⟨S_, .i32⟩) main_call1_c_36) (TRef.of (T := ⟨S32x1000000, .i32⟩) main_call1_v143) (broadcastInDim S32x1000000 ![] bcast_S_S32x1000000),
    TRef.binary (TRef.of (T := ⟨S32x1000000, .i32⟩) main_call1_v141) (TRef.of (T := ⟨S32x1000000, .i32⟩) main_call1_v143) (TRef.of (T := ⟨S32x1000000, .i32⟩) main_call1_v144) Host.shli,
    TRef.nullary (TRef.of (T := ⟨S_, .i32⟩) main_call1_c_37) (constantI S_ 32 19#32),
    TRef.unary (TRef.of (T := ⟨S_, .i32⟩) main_call1_c_37) (TRef.of (T := ⟨S32x1000000, .i32⟩) main_call1_v145) (broadcastInDim S32x1000000 ![] bcast_S_S32x1000000),
    TRef.binary (TRef.of (T := ⟨S32x1000000, .i32⟩) main_call1_v141) (TRef.of (T := ⟨S32x1000000, .i32⟩) main_call1_v145) (TRef.of (T := ⟨S32x1000000, .i32⟩) main_call1_v146) Host.shrui,
    TRef.binary (TRef.of (T := ⟨S32x1000000, .i32⟩) main_call1_v144) (TRef.of (T := ⟨S32x1000000, .i32⟩) main_call1_v146) (TRef.of (T := ⟨S32x1000000, .i32⟩) main_call1_v147) ori,
    TRef.binary (TRef.of (T := ⟨S32x1000000, .i32⟩) main_call1_v142) (TRef.of (T := ⟨S32x1000000, .i32⟩) main_call1_v147) (TRef.of (T := ⟨S32x1000000, .i32⟩) main_call1_v148) xori,
    TRef.binary (TRef.of (T := ⟨S32x1000000, .i32⟩) main_call1_v142) (TRef.of (T := ⟨S32x1000000, .i32⟩) main_call1_v148) (TRef.of (T := ⟨S32x1000000, .i32⟩) main_call1_v149) addi,
    TRef.nullary (TRef.of (T := ⟨S_, .i32⟩) main_call1_c_38) (constantI S_ 32 15#32),
    TRef.unary (TRef.of (T := ⟨S_, .i32⟩) main_call1_c_38) (TRef.of (T := ⟨S32x1000000, .i32⟩) main_call1_v150) (broadcastInDim S32x1000000 ![] bcast_S_S32x1000000),
    TRef.binary (TRef.of (T := ⟨S32x1000000, .i32⟩) main_call1_v148) (TRef.of (T := ⟨S32x1000000, .i32⟩) main_call1_v150) (TRef.of (T := ⟨S32x1000000, .i32⟩) main_call1_v151) Host.shli,
    TRef.nullary (TRef.of (T := ⟨S_, .i32⟩) main_call1_c_39) (constantI S_ 32 17#32),
    TRef.unary (TRef.of (T := ⟨S_, .i32⟩) main_call1_c_39) (TRef.of (T := ⟨S32x1000000, .i32⟩) main_call1_v152) (broadcastInDim S32x1000000 ![] bcast_S_S32x1000000),
    TRef.binary (TRef.of (T := ⟨S32x1000000, .i32⟩) main_call1_v148) (TRef.of (T := ⟨S32x1000000, .i32⟩) main_call1_v152) (TRef.of (T := ⟨S32x1000000, .i32⟩) main_call1_v153) Host.shrui,
    TRef.binary (TRef.of (T := ⟨S32x1000000, .i32⟩) main_call1_v151) (TRef.of (T := ⟨S32x1000000, .i32⟩) main_call1_v153) (TRef.of (T := ⟨S32x1000000, .i32⟩) main_call1_v154) ori,
    TRef.binary (TRef.of (T := ⟨S32x1000000, .i32⟩) main_call1_v149) (TRef.of (T := ⟨S32x1000000, .i32⟩) main_call1_v154) (TRef.of (T := ⟨S32x1000000, .i32⟩) main_call1_v155) xori,
    TRef.binary (TRef.of (T := ⟨S32x1000000, .i32⟩) main_call1_v149) (TRef.of (T := ⟨S32x1000000, .i32⟩) main_call1_v155) (TRef.of (T := ⟨S32x1000000, .i32⟩) main_call1_v156) addi,
    TRef.nullary (TRef.of (T := ⟨S_, .i32⟩) main_call1_c_40) (constantI S_ 32 26#32),
    TRef.unary (TRef.of (T := ⟨S_, .i32⟩) main_call1_c_40) (TRef.of (T := ⟨S32x1000000, .i32⟩) main_call1_v157) (broadcastInDim S32x1000000 ![] bcast_S_S32x1000000),
    TRef.binary (TRef.of (T := ⟨S32x1000000, .i32⟩) main_call1_v155) (TRef.of (T := ⟨S32x1000000, .i32⟩) main_call1_v157) (TRef.of (T := ⟨S32x1000000, .i32⟩) main_call1_v158) Host.shli ]

/-- @main's operations 481 … 510 of 573 (window `main_part0`). -/
abbrev ops_part0_16 : List (HloOp τ sig (Elt F)) :=
  [ TRef.nullary (TRef.of (T := ⟨S_, .i32⟩) main_call1_c_41) (constantI S_ 32 6#32),
    TRef.unary (TRef.of (T := ⟨S_, .i32⟩) main_call1_c_41) (TRef.of (T := ⟨S32x1000000, .i32⟩) main_call1_v159) (broadcastInDim S32x1000000 ![] bcast_S_S32x1000000),
    TRef.binary (TRef.of (T := ⟨S32x1000000, .i32⟩) main_call1_v155) (TRef.of (T := ⟨S32x1000000, .i32⟩) main_call1_v159) (TRef.of (T := ⟨S32x1000000, .i32⟩) main_call1_v160) Host.shrui,
    TRef.binary (TRef.of (T := ⟨S32x1000000, .i32⟩) main_call1_v158) (TRef.of (T := ⟨S32x1000000, .i32⟩) main_call1_v160) (TRef.of (T := ⟨S32x1000000, .i32⟩) main_call1_v161) ori,
    TRef.binary (TRef.of (T := ⟨S32x1000000, .i32⟩) main_call1_v156) (TRef.of (T := ⟨S32x1000000, .i32⟩) main_call1_v161) (TRef.of (T := ⟨S32x1000000, .i32⟩) main_call1_v162) xori,
    TRef.binary (TRef.of (T := ⟨S32x1000000, .i32⟩) main_call1_v156) (TRef.of (T := ⟨S32x1000000, .i32⟩) main_call1_v162) (TRef.of (T := ⟨S32x1000000, .i32⟩) main_call1_v163) addi,
    TRef.nullary (TRef.of (T := ⟨S_, .i32⟩) main_call1_c_42) (constantI S_ 32 6#32),
    TRef.unary (TRef.of (T := ⟨S_, .i32⟩) main_call1_c_42) (TRef.of (T := ⟨S32x1000000, .i32⟩) main_call1_v164) (broadcastInDim S32x1000000 ![] bcast_S_S32x1000000),
    TRef.binary (TRef.of (T := ⟨S32x1000000, .i32⟩) main_call1_v162) (TRef.of (T := ⟨S32x1000000, .i32⟩) main_call1_v164) (TRef.of (T := ⟨S32x1000000, .i32⟩) main_call1_v165) Host.shli,
    TRef.nullary (TRef.of (T := ⟨S_, .i32⟩) main_call1_c_43) (constantI S_ 32 26#32),
    TRef.unary (TRef.of (T := ⟨S_, .i32⟩) main_call1_c_43) (TRef.of (T := ⟨S32x1000000, .i32⟩) main_call1_v166) (broadcastInDim S32x1000000 ![] bcast_S_S32x1000000),
    TRef.binary (TRef.of (T := ⟨S32x1000000, .i32⟩) main_call1_v162) (TRef.of (T := ⟨S32x1000000, .i32⟩) main_call1_v166) (TRef.of (T := ⟨S32x1000000, .i32⟩) main_call1_v167) Host.shrui,
    TRef.binary (TRef.of (T := ⟨S32x1000000, .i32⟩) main_call1_v165) (TRef.of (T := ⟨S32x1000000, .i32⟩) main_call1_v167) (TRef.of (T := ⟨S32x1000000, .i32⟩) main_call1_v168) ori,
    TRef.binary (TRef.of (T := ⟨S32x1000000, .i32⟩) main_call1_v163) (TRef.of (T := ⟨S32x1000000, .i32⟩) main_call1_v168) (TRef.of (T := ⟨S32x1000000, .i32⟩) main_call1_v169) xori,
    TRef.unary (TRef.of (T := ⟨S_, .i32⟩) main_call1_v1) (TRef.of (T := ⟨S32x1000000, .i32⟩) main_call1_v170) (broadcastInDim S32x1000000 ![] bcast_S_S32x1000000),
    TRef.binary (TRef.of (T := ⟨S32x1000000, .i32⟩) main_call1_v163) (TRef.of (T := ⟨S32x1000000, .i32⟩) main_call1_v170) (TRef.of (T := ⟨S32x1000000, .i32⟩) main_v34_0) addi,
    TRef.unary (TRef.of (T := ⟨S_, .i32⟩) main_v20) (TRef.of (T := ⟨S32x1000000, .i32⟩) main_call1_v172) (broadcastInDim S32x1000000 ![] bcast_S_S32x1000000),
    TRef.binary (TRef.of (T := ⟨S32x1000000, .i32⟩) main_call1_v169) (TRef.of (T := ⟨S32x1000000, .i32⟩) main_call1_v172) (TRef.of (T := ⟨S32x1000000, .i32⟩) main_call1_v173) addi,
    TRef.nullary (TRef.of (T := ⟨S_, .i32⟩) main_call1_c_44) (constantI S_ 32 5#32),
    TRef.unary (TRef.of (T := ⟨S_, .i32⟩) main_call1_c_44) (TRef.of (T := ⟨S32x1000000, .i32⟩) main_call1_v174) (broadcastInDim S32x1000000 ![] bcast_S_S32x1000000),
    TRef.binary (TRef.of (T := ⟨S32x1000000, .i32⟩) main_call1_v173) (TRef.of (T := ⟨S32x1000000, .i32⟩) main_call1_v174) (TRef.of (T := ⟨S32x1000000, .i32⟩) main_v34_1) addi,
    binary main_v34_0 main_v34_1 main_v35 (xori : (⟨S32x1000000, .i32⟩ : BufTy).Contents (Elt F) → (⟨S32x1000000, .i32⟩ : BufTy).Contents (Elt F) → (⟨S32x1000000, .i32⟩ : BufTy).Contents (Elt F)),
    nullary main_c_8 (constantI S_ 32 9#32),
    unary main_c_8 main_v36 (broadcastInDim S32x1000000 ![] bcast_S_S32x1000000 : (⟨S_, .i32⟩ : BufTy).Contents (Elt F) → (⟨S32x1000000, .i32⟩ : BufTy).Contents (Elt F)),
    binary main_v35 main_v36 main_v37 (Host.shrui : (⟨S32x1000000, .i32⟩ : BufTy).Contents (Elt F) → (⟨S32x1000000, .i32⟩ : BufTy).Contents (Elt F) → (⟨S32x1000000, .i32⟩ : BufTy).Contents (Elt F)),
    nullary main_c_9 (constantI S_ 32 1065353216#32),
    unary main_c_9 main_v38 (broadcastInDim S32x1000000 ![] bcast_S_S32x1000000 : (⟨S_, .i32⟩ : BufTy).Contents (Elt F) → (⟨S32x1000000, .i32⟩ : BufTy).Contents (Elt F)),
    binary main_v37 main_v38 main_v39 (ori : (⟨S32x1000000, .i32⟩ : BufTy).Contents (Elt F) → (⟨S32x1000000, .i32⟩ : BufTy).Contents (Elt F) → (⟨S32x1000000, .i32⟩ : BufTy).Contents (Elt F)),
    unary main_v39 main_v40 (bitcastToFloat (F := F) .f32 : (⟨S32x1000000, .i32⟩ : BufTy).Contents (Elt F) → (⟨S32x1000000, .f32⟩ : BufTy).Contents (Elt F)),
    nullary main_cst_10 (constant S_ .f32 0x3F800000#32) ]

/-- @main's operations 511 … 516 of 573 (window `main_part0`). -/
abbrev ops_part0_17 : List (HloOp τ sig (Elt F)) :=
  [ unary main_cst_10 main_v41 (broadcastInDim S32x1000000 ![] bcast_S_S32x1000000 : (⟨S_, .f32⟩ : BufTy).Contents (Elt F) → (⟨S32x1000000, .f32⟩ : BufTy).Contents (Elt F)),
    binary main_v40 main_v41 main_v42 (subf : (⟨S32x1000000, .f32⟩ : BufTy).Contents (Elt F) → (⟨S32x1000000, .f32⟩ : BufTy).Contents (Elt F) → (⟨S32x1000000, .f32⟩ : BufTy).Contents (Elt F)),
    nullary main_cst_11 (constant S_ .f32 0x3F800000#32),
    unary main_cst_11 main_v43 (broadcastInDim S32x1000000 ![] bcast_S_S32x1000000 : (⟨S_, .f32⟩ : BufTy).Contents (Elt F) → (⟨S32x1000000, .f32⟩ : BufTy).Contents (Elt F)),
    binary main_v42 main_v43 main_v44 (mulf : (⟨S32x1000000, .f32⟩ : BufTy).Contents (Elt F) → (⟨S32x1000000, .f32⟩ : BufTy).Contents (Elt F) → (⟨S32x1000000, .f32⟩ : BufTy).Contents (Elt F)),
    nullary main_cst_12 (constant S_ .f32 0x00800000#32) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3 ++ (ops_part0_4 ++ (ops_part0_5 ++ (ops_part0_6 ++ (ops_part0_7 ++ (ops_part0_8 ++ (ops_part0_9 ++ (ops_part0_10 ++ (ops_part0_11 ++ (ops_part0_12 ++ (ops_part0_13 ++ (ops_part0_14 ++ (ops_part0_15 ++ (ops_part0_16 ++ (ops_part0_17)))))))))))))))))

/-- @main's operations 517 … 573 of 573 (window `main_part1`). -/
abbrev ops_part1 : List (HloOp τ sig (Elt F)) :=
  [ unary main_cst_12 main_v45 (broadcastInDim S32x1000000 ![] bcast_S_S32x1000000 : (⟨S_, .f32⟩ : BufTy).Contents (Elt F) → (⟨S32x1000000, .f32⟩ : BufTy).Contents (Elt F)),
    binary main_v44 main_v45 main_v46 (addf : (⟨S32x1000000, .f32⟩ : BufTy).Contents (Elt F) → (⟨S32x1000000, .f32⟩ : BufTy).Contents (Elt F) → (⟨S32x1000000, .f32⟩ : BufTy).Contents (Elt F)),
    nullary main_cst_13 (constant S_ .f32 0x00800000#32),
    unary main_cst_13 main_v47 (broadcastInDim S32x1000000 ![] bcast_S_S32x1000000 : (⟨S_, .f32⟩ : BufTy).Contents (Elt F) → (⟨S32x1000000, .f32⟩ : BufTy).Contents (Elt F)),
    binary main_v47 main_v46 main_v48 (maximumf : (⟨S32x1000000, .f32⟩ : BufTy).Contents (Elt F) → (⟨S32x1000000, .f32⟩ : BufTy).Contents (Elt F) → (⟨S32x1000000, .f32⟩ : BufTy).Contents (Elt F)),
    unary main_v48 main_v49 (Host.log : (⟨S32x1000000, .f32⟩ : BufTy).Contents (Elt F) → (⟨S32x1000000, .f32⟩ : BufTy).Contents (Elt F)),
    unary main_v49 main_v50 (Host.negf : (⟨S32x1000000, .f32⟩ : BufTy).Contents (Elt F) → (⟨S32x1000000, .f32⟩ : BufTy).Contents (Elt F)),
    unary main_v50 main_v51 (Host.log : (⟨S32x1000000, .f32⟩ : BufTy).Contents (Elt F) → (⟨S32x1000000, .f32⟩ : BufTy).Contents (Elt F)),
    unary main_v51 main_v52 (Host.negf : (⟨S32x1000000, .f32⟩ : BufTy).Contents (Elt F) → (⟨S32x1000000, .f32⟩ : BufTy).Contents (Elt F)),
    binary main_arg0 main_v52 main_v53 (addf : (⟨S32x1000000, .f32⟩ : BufTy).Contents (Elt F) → (⟨S32x1000000, .f32⟩ : BufTy).Contents (Elt F) → (⟨S32x1000000, .f32⟩ : BufTy).Contents (Elt F)),
    nullary main_cst_14 (constant S_ .f32 0x3F000000#32),
    unary main_cst_14 main_v54 (broadcastInDim S32x1000000 ![] bcast_S_S32x1000000 : (⟨S_, .f32⟩ : BufTy).Contents (Elt F) → (⟨S32x1000000, .f32⟩ : BufTy).Contents (Elt F)),
    binary main_v53 main_v54 main_v55 (Host.divf : (⟨S32x1000000, .f32⟩ : BufTy).Contents (Elt F) → (⟨S32x1000000, .f32⟩ : BufTy).Contents (Elt F) → (⟨S32x1000000, .f32⟩ : BufTy).Contents (Elt F)),
    nullary main_cst_15 (constant S_ .f32 0xFF800000#32),
    binary main_v55 main_cst_15 main_v56 ((fun x v => Host.reduce FloatOps.maximumf x v reducesTo_S32x1000000_S32_d1 h_S_) : (⟨S32x1000000, .f32⟩ : BufTy).Contents (Elt F) → (⟨S_, .f32⟩ : BufTy).Contents (Elt F) → (⟨S32, .f32⟩ : BufTy).Contents (Elt F)),
    nullary main_cst_16 (constant S_ .f32 0xFF800000#32),
    unary main_cst_16 main_v57 (broadcastInDim S32 ![] bcast_S_S32 : (⟨S_, .f32⟩ : BufTy).Contents (Elt F) → (⟨S32, .f32⟩ : BufTy).Contents (Elt F)),
    binary main_v57 main_v56 main_v58 (maximumf : (⟨S32, .f32⟩ : BufTy).Contents (Elt F) → (⟨S32, .f32⟩ : BufTy).Contents (Elt F) → (⟨S32, .f32⟩ : BufTy).Contents (Elt F)),
    unary main_v58 main_v59 (broadcastInDim S32x1 ![0] bcast_S32_S32x1_0 : (⟨S32, .f32⟩ : BufTy).Contents (Elt F) → (⟨S32x1, .f32⟩ : BufTy).Contents (Elt F)),
    unary main_v59 main_v60 (broadcastInDim S32x1000000 ![0, 1] bcast_S32x1_S32x1000000_0_1 : (⟨S32x1, .f32⟩ : BufTy).Contents (Elt F) → (⟨S32x1000000, .f32⟩ : BufTy).Contents (Elt F)),
    binary main_v55 main_v60 main_v61 (subf : (⟨S32x1000000, .f32⟩ : BufTy).Contents (Elt F) → (⟨S32x1000000, .f32⟩ : BufTy).Contents (Elt F) → (⟨S32x1000000, .f32⟩ : BufTy).Contents (Elt F)),
    unary main_v61 main_v62 (Host.exp : (⟨S32x1000000, .f32⟩ : BufTy).Contents (Elt F) → (⟨S32x1000000, .f32⟩ : BufTy).Contents (Elt F)),
    nullary main_cst_17 (constant S_ .f32 0x00000000#32),
    binary main_v62 main_cst_17 main_v63 ((fun x v => Host.reduceAdd x v reducesTo_S32x1000000_S32_d1 h_S_) : (⟨S32x1000000, .f32⟩ : BufTy).Contents (Elt F) → (⟨S_, .f32⟩ : BufTy).Contents (Elt F) → (⟨S32, .f32⟩ : BufTy).Contents (Elt F)),
    unary main_v63 main_v64 (broadcastInDim S32x1 ![0] bcast_S32_S32x1_0 : (⟨S32, .f32⟩ : BufTy).Contents (Elt F) → (⟨S32x1, .f32⟩ : BufTy).Contents (Elt F)),
    unary main_v64 main_v65 (broadcastInDim S32x1000000 ![0, 1] bcast_S32x1_S32x1000000_0_1 : (⟨S32x1, .f32⟩ : BufTy).Contents (Elt F) → (⟨S32x1000000, .f32⟩ : BufTy).Contents (Elt F)),
    binary main_v62 main_v65 main_v66 (Host.divf : (⟨S32x1000000, .f32⟩ : BufTy).Contents (Elt F) → (⟨S32x1000000, .f32⟩ : BufTy).Contents (Elt F) → (⟨S32x1000000, .f32⟩ : BufTy).Contents (Elt F)),
    TRef.nullary (TRef.of (T := ⟨S32x1000000, .i32⟩) main_call2_v0) (iotaInDim S32x1000000 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S32x1000000, .f32⟩) main_v66) (TRef.of (T := ⟨S32x1000000, .i32⟩) main_call2_v0) (TRef.of (T := ⟨S_, .f32⟩) main_call2_cst) (TRef.of (T := ⟨S_, .i32⟩) main_call2_c) (TRef.of (T := ⟨S32, .f32⟩) main_call2_v1_0) (fun x y u v => fun j => (Host.argReduce reducer_argmax_f32_i32 x y u v reducesTo_S32x1000000_S32_d1 h_S_ j).1),
    TRef.quaternary (TRef.of (T := ⟨S32x1000000, .f32⟩) main_v66) (TRef.of (T := ⟨S32x1000000, .i32⟩) main_call2_v0) (TRef.of (T := ⟨S_, .f32⟩) main_call2_cst) (TRef.of (T := ⟨S_, .i32⟩) main_call2_c) (TRef.of (T := ⟨S32, .i32⟩) main_v67) (fun x y u v => fun j => (Host.argReduce reducer_argmax_f32_i32 x y u v reducesTo_S32x1000000_S32_d1 h_S_ j).2),
    nullary main_cst_18 (constant S_ .f32 0x00000000#32),
    unary main_cst_18 main_v68 (broadcastInDim S32x1000000 ![] bcast_S_S32x1000000 : (⟨S_, .f32⟩ : BufTy).Contents (Elt F) → (⟨S32x1000000, .f32⟩ : BufTy).Contents (Elt F)),
    nullary main_v69 (iotaInDim S32 32 0),
    nullary main_c_19 (constantI S_ 32 0#32),
    unary main_c_19 main_v70 (broadcastInDim S32 ![] bcast_S_S32 : (⟨S_, .i32⟩ : BufTy).Contents (Elt F) → (⟨S32, .i32⟩ : BufTy).Contents (Elt F)),
    binary main_v69 main_v70 main_v71 (cmpi .slt : (⟨S32, .i32⟩ : BufTy).Contents (Elt F) → (⟨S32, .i32⟩ : BufTy).Contents (Elt F) → (⟨S32, .i1⟩ : BufTy).Contents (Elt F)),
    nullary main_c_20 (constantI S_ 32 32#32),
    unary main_c_20 main_v72 (broadcastInDim S32 ![] bcast_S_S32 : (⟨S_, .i32⟩ : BufTy).Contents (Elt F) → (⟨S32, .i32⟩ : BufTy).Contents (Elt F)),
    binary main_v69 main_v72 main_v73 (addi : (⟨S32, .i32⟩ : BufTy).Contents (Elt F) → (⟨S32, .i32⟩ : BufTy).Contents (Elt F) → (⟨S32, .i32⟩ : BufTy).Contents (Elt F)),
    ternary main_v71 main_v73 main_v69 main_v74 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    nullary main_c_21 (constantI S_ 32 0#32),
    unary main_c_21 main_v75 (broadcastInDim S32 ![] bcast_S_S32 : (⟨S_, .i32⟩ : BufTy).Contents (Elt F) → (⟨S32, .i32⟩ : BufTy).Contents (Elt F)),
    binary main_v67 main_v75 main_v76 (cmpi .slt : (⟨S32, .i32⟩ : BufTy).Contents (Elt F) → (⟨S32, .i32⟩ : BufTy).Contents (Elt F) → (⟨S32, .i1⟩ : BufTy).Contents (Elt F)),
    nullary main_c_22 (constantI S_ 32 1000000#32),
    unary main_c_22 main_v77 (broadcastInDim S32 ![] bcast_S_S32 : (⟨S_, .i32⟩ : BufTy).Contents (Elt F) → (⟨S32, .i32⟩ : BufTy).Contents (Elt F)),
    binary main_v67 main_v77 main_v78 (addi : (⟨S32, .i32⟩ : BufTy).Contents (Elt F) → (⟨S32, .i32⟩ : BufTy).Contents (Elt F) → (⟨S32, .i32⟩ : BufTy).Contents (Elt F)),
    ternary main_v76 main_v78 main_v67 main_v79 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v74 main_v80 (broadcastInDim S32x1 ![0] bcast_S32_S32x1_0 : (⟨S32, .i32⟩ : BufTy).Contents (Elt F) → (⟨S32x1, .i32⟩ : BufTy).Contents (Elt F)),
    unary main_v79 main_v81 (broadcastInDim S32x1 ![0] bcast_S32_S32x1_0 : (⟨S32, .i32⟩ : BufTy).Contents (Elt F) → (⟨S32x1, .i32⟩ : BufTy).Contents (Elt F)),
    binary main_v80 main_v81 main_v82 (fn_main_v82 (F := F)),
    nullary main_cst_23 (constant S_ .f32 0x3F800000#32),
    unary main_cst_23 main_v83 (broadcastInDim S32 ![] bcast_S_S32 : (⟨S_, .f32⟩ : BufTy).Contents (Elt F) → (⟨S32, .f32⟩ : BufTy).Contents (Elt F)),
    ternary main_v68 main_v82 main_v83 main_v84 ((fun x i u => Host.scatter scatter_S32x1000000_S32x2_S32_n_01_01_1 (fun _ b => b) x i u) : (⟨S32x1000000, .f32⟩ : BufTy).Contents (Elt F) → (⟨S32x2, .i32⟩ : BufTy).Contents (Elt F) → (⟨S32, .f32⟩ : BufTy).Contents (Elt F) → (⟨S32x1000000, .f32⟩ : BufTy).Contents (Elt F)),
    binary main_v84 main_v66 main_v85 (subf : (⟨S32x1000000, .f32⟩ : BufTy).Contents (Elt F) → (⟨S32x1000000, .f32⟩ : BufTy).Contents (Elt F) → (⟨S32x1000000, .f32⟩ : BufTy).Contents (Elt F)),
    binary main_v85 main_v66 main_v86 (addf : (⟨S32x1000000, .f32⟩ : BufTy).Contents (Elt F) → (⟨S32x1000000, .f32⟩ : BufTy).Contents (Elt F) → (⟨S32x1000000, .f32⟩ : BufTy).Contents (Elt F)) ]

/-- @main's 573 operations, in order (a called function's operations stand in its call's place, spelt `TRef.…`). -/
abbrev ops : List (HloOp τ sig (Elt F)) :=
  ops_part0 ++ (ops_part1)

set_option maxRecDepth 1000000 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Value
-- ==== Proof.RefFacts.lean ====
/- Each operation of the reference touches only buffers of the program, and writes no fresh one. -/
module

public import proofs.«01_k».proof.Proof.RefOps

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
set_option maxRecDepth 8192 in
theorem ops_part0_0_sub : (ops_part0_0 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub .., binary_bufs_sub .., unary_bufs_sub .., nullary_bufs_sub .., binary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., binary_bufs_sub .., unary_bufs_sub .., reshape_bufs_sub .., unary_bufs_sub .., reshape_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub ..⟩
set_option maxRecDepth 8192 in
theorem ops_part0_3_fresh : (ops_part0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_4_sub : (ops_part0_4 : List (HloOp τ sig (Elt F))).Forall fun op => op.bufs ⊆ tcRefs τ sig :=
  ⟨unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
set_option maxRecDepth 8192 in
theorem ops_part0_4_fresh : (ops_part0_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_5_sub : (ops_part0_5 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub ..⟩
set_option maxRecDepth 8192 in
theorem ops_part0_5_fresh : (ops_part0_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_6_sub : (ops_part0_6 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
set_option maxRecDepth 8192 in
theorem ops_part0_6_fresh : (ops_part0_6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_7_sub : (ops_part0_7 : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub ..⟩
set_option maxRecDepth 8192 in
theorem ops_part0_7_fresh : (ops_part0_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_8_sub : (ops_part0_8 : List (HloOp τ sig (Elt F))).Forall fun op => op.bufs ⊆ tcRefs τ sig :=
  ⟨unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., unary_bufs_sub .., reshape_bufs_sub .., unary_bufs_sub .., reshape_bufs_sub .., nullary_bufs_sub .., nullary_bufs_sub .., nullary_bufs_sub .., unary_bufs_sub .., binary_bufs_sub ..⟩
set_option maxRecDepth 8192 in
theorem ops_part0_8_fresh : (ops_part0_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_9_sub : (ops_part0_9 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub ..⟩
set_option maxRecDepth 8192 in
theorem ops_part0_9_fresh : (ops_part0_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_10_sub : (ops_part0_10 : List (HloOp τ sig (Elt F))).Forall fun op => op.bufs ⊆ tcRefs τ sig :=
  ⟨unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩
set_option maxRecDepth 8192 in
theorem ops_part0_10_fresh : (ops_part0_10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_11_sub : (ops_part0_11 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩
set_option maxRecDepth 8192 in
theorem ops_part0_11_fresh : (ops_part0_11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_12_sub : (ops_part0_12 : List (HloOp τ sig (Elt F))).Forall fun op => op.bufs ⊆ tcRefs τ sig :=
  ⟨nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
set_option maxRecDepth 8192 in
theorem ops_part0_12_fresh : (ops_part0_12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_13_sub : (ops_part0_13 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub ..⟩
set_option maxRecDepth 8192 in
theorem ops_part0_13_fresh : (ops_part0_13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_14_sub : (ops_part0_14 : List (HloOp τ sig (Elt F))).Forall fun op => op.bufs ⊆ tcRefs τ sig :=
  ⟨unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub ..⟩
set_option maxRecDepth 8192 in
theorem ops_part0_14_fresh : (ops_part0_14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_15_sub : (ops_part0_15 : List (HloOp τ sig (Elt F))).Forall fun op => op.bufs ⊆ tcRefs τ sig :=
  ⟨binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩
set_option maxRecDepth 8192 in
theorem ops_part0_15_fresh : (ops_part0_15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_16_sub : (ops_part0_16 : List (HloOp τ sig (Elt F))).Forall fun op => op.bufs ⊆ tcRefs τ sig :=
  ⟨nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub ..⟩
set_option maxRecDepth 8192 in
theorem ops_part0_16_fresh : (ops_part0_16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_17_sub : (ops_part0_17 : List (HloOp τ sig (Elt F))).Forall fun op => op.bufs ⊆ tcRefs τ sig :=
  ⟨unary_bufs_sub .., binary_bufs_sub .., nullary_bufs_sub .., unary_bufs_sub .., binary_bufs_sub .., nullary_bufs_sub ..⟩
set_option maxRecDepth 8192 in
theorem ops_part0_17_fresh : (ops_part0_17 : List (HloOp τ sig (Elt F))).Forall fun op => op.fresh = ∅ :=
  ⟨rfl, rfl, rfl, rfl, rfl, rfl⟩
set_option maxRecDepth 8192 in
theorem ops_part1_sub : (ops_part1 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., binary_bufs_sub .., binary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h | h | h | h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part0_4_sub op h, List.forall_iff_forall_mem.mp ops_part0_5_sub op h, List.forall_iff_forall_mem.mp ops_part0_6_sub op h, List.forall_iff_forall_mem.mp ops_part0_7_sub op h, List.forall_iff_forall_mem.mp ops_part0_8_sub op h, List.forall_iff_forall_mem.mp ops_part0_9_sub op h, List.forall_iff_forall_mem.mp ops_part0_10_sub op h, List.forall_iff_forall_mem.mp ops_part0_11_sub op h, List.forall_iff_forall_mem.mp ops_part0_12_sub op h, List.forall_iff_forall_mem.mp ops_part0_13_sub op h, List.forall_iff_forall_mem.mp ops_part0_14_sub op h, List.forall_iff_forall_mem.mp ops_part0_15_sub op h, List.forall_iff_forall_mem.mp ops_part0_16_sub op h, List.forall_iff_forall_mem.mp ops_part0_17_sub op h, List.forall_iff_forall_mem.mp ops_part1_sub op h]
theorem ops_fresh : ∀ op ∈ (ops : List (HloOp τ sig (Elt F))), op.fresh = ∅ := fun op h => by
    simp only [ops, ops_part0, List.mem_append, or_assoc] at h
    rcases h with h | h | h | h | h | h | h | h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part0_4_fresh op h, List.forall_iff_forall_mem.mp ops_part0_5_fresh op h, List.forall_iff_forall_mem.mp ops_part0_6_fresh op h, List.forall_iff_forall_mem.mp ops_part0_7_fresh op h, List.forall_iff_forall_mem.mp ops_part0_8_fresh op h, List.forall_iff_forall_mem.mp ops_part0_9_fresh op h, List.forall_iff_forall_mem.mp ops_part0_10_fresh op h, List.forall_iff_forall_mem.mp ops_part0_11_fresh op h, List.forall_iff_forall_mem.mp ops_part0_12_fresh op h, List.forall_iff_forall_mem.mp ops_part0_13_fresh op h, List.forall_iff_forall_mem.mp ops_part0_14_fresh op h, List.forall_iff_forall_mem.mp ops_part0_15_fresh op h, List.forall_iff_forall_mem.mp ops_part0_16_fresh op h, List.forall_iff_forall_mem.mp ops_part0_17_fresh op h, List.forall_iff_forall_mem.mp ops_part1_fresh op h]

set_option maxRecDepth 8192 in
/-- `main_v6`'s composed term of the arguments (named: it is used 2 times). -/
def res_main_v6 (V0 : Valuation τ sig (Elt F)) : (Proc.devRef .tc main_v6 : DevRef τ sig).ty.Contents (Elt F) :=
  Host.exp (subf (V0 (Proc.devRef .tc main_arg0)) (broadcastInDim S32x1000000 ![0, 1] bcast_S32x1_S32x1000000_0_1 (broadcastInDim S32x1 ![0] bcast_S32_S32x1_0 (maximumf (broadcastInDim S32 ![] bcast_S_S32 (constant S_ .f32 0xFF800000#32)) (Host.reduce FloatOps.maximumf (V0 (Proc.devRef .tc main_arg0)) (constant S_ .f32 0xFF800000#32) reducesTo_S32x1000000_S32_d1 h_S_)))))

set_option maxRecDepth 8192 in
/-- `main_c`'s composed term of the arguments (named: it is used 2 times). -/
def res_main_c (V0 : Valuation τ sig (Elt F)) : (Proc.devRef .tc main_c : DevRef τ sig).ty.Contents (Elt F) :=
  constantI S_ 32 0#32

set_option maxRecDepth 8192 in
/-- `main_v17`'s composed term of the arguments (named: it is used 2 times). -/
def res_main_v17 (V0 : Valuation τ sig (Elt F)) : (Proc.devRef .tc main_v17 : DevRef τ sig).ty.Contents (Elt F) :=
  concatenate S2 0 [⟨S1, (broadcastInDim S1 ![] bcast_S_S1 (id (Host.shrui (res_main_c V0) (constantI S_ 32 32#32))))⟩, ⟨S1, (broadcastInDim S1 ![] bcast_S_S1 (id (andi (res_main_c V0) (constantI S_ 32 4294967295#32))))⟩] concatenates_S1_S1_S2_d0

set_option maxRecDepth 8192 in
/-- `main_c_4`'s composed term of the arguments (named: it is used 2 times). -/
def res_main_c_4 (V0 : Valuation τ sig (Elt F)) : (Proc.devRef .tc main_c_4 : DevRef τ sig).ty.Contents (Elt F) :=
  constantI S_ 32 1#32

set_option maxRecDepth 8192 in
/-- `main_call0_v4`'s composed term of the arguments (named: it is used 2 times). -/
def res_main_call0_v4 (V0 : Valuation τ sig (Elt F)) : (Proc.devRef .tc main_call0_v4 : DevRef τ sig).ty.Contents (Elt F) :=
  concatenate S2 0 [⟨S1, (broadcastInDim S1 ![] bcast_S_S1 (Host.shrui (res_main_c_4 V0) (constantI S_ 32 32#32)))⟩, ⟨S1, (broadcastInDim S1 ![] bcast_S_S1 (andi (res_main_c_4 V0) (constantI S_ 32 4294967295#32)))⟩] concatenates_S1_S1_S2_d0

set_option maxRecDepth 8192 in
/-- `main_call0_v6`'s composed term of the arguments (named: it is used 5 times). -/
def res_main_call0_v6 (V0 : Valuation τ sig (Elt F)) : (Proc.devRef .tc main_call0_v6 : DevRef τ sig).ty.Contents (Elt F) :=
  shapeCast _ (extractStridedSlice S1 ![0] (res_main_v17 V0) slices_S2_S1_0) shapeCasts_S1_S_

set_option maxRecDepth 8192 in
/-- `main_call0_v8`'s composed term of the arguments (named: it is used 5 times). -/
def res_main_call0_v8 (V0 : Valuation τ sig (Elt F)) : (Proc.devRef .tc main_call0_v8 : DevRef τ sig).ty.Contents (Elt F) :=
  shapeCast _ (extractStridedSlice S1 ![1] (res_main_v17 V0) slices_S2_S1_1) shapeCasts_S1_S_

set_option maxRecDepth 8192 in
/-- `main_call0_call0_v1`'s composed term of the arguments (named: it is used 4 times). -/
def res_main_call0_call0_v1 (V0 : Valuation τ sig (Elt F)) : (Proc.devRef .tc main_call0_call0_v1 : DevRef τ sig).ty.Contents (Elt F) :=
  xori (xori (res_main_call0_v6 V0) (res_main_call0_v8 V0)) (constantI S_ 32 466688986#32)

set_option maxRecDepth 8192 in
/-- `main_call0_call0_v5`'s composed term of the arguments (named: it is used 3 times). -/
def res_main_call0_call0_v5 (V0 : Valuation τ sig (Elt F)) : (Proc.devRef .tc main_call0_call0_v5 : DevRef τ sig).ty.Contents (Elt F) :=
  addi (extractStridedSlice S1 ![1] (res_main_call0_v4 V0) slices_S2_S1_1) (broadcastInDim S1 ![] bcast_S_S1 (res_main_call0_v8 V0))

set_option maxRecDepth 8192 in
/-- `main_call0_call0_v6`'s composed term of the arguments (named: it is used 2 times). -/
def res_main_call0_call0_v6 (V0 : Valuation τ sig (Elt F)) : (Proc.devRef .tc main_call0_call0_v6 : DevRef τ sig).ty.Contents (Elt F) :=
  addi (addi (extractStridedSlice S1 ![0] (res_main_call0_v4 V0) slices_S2_S1_0) (broadcastInDim S1 ![] bcast_S_S1 (res_main_call0_v6 V0))) (res_main_call0_call0_v5 V0)

set_option maxRecDepth 8192 in
/-- `main_call0_call0_v12`'s composed term of the arguments (named: it is used 3 times). -/
def res_main_call0_call0_v12 (V0 : Valuation τ sig (Elt F)) : (Proc.devRef .tc main_call0_call0_v12 : DevRef τ sig).ty.Contents (Elt F) :=
  xori (res_main_call0_call0_v6 V0) (ori (Host.shli (res_main_call0_call0_v5 V0) (broadcastInDim S1 ![] bcast_S_S1 (constantI S_ 32 13#32))) (Host.shrui (res_main_call0_call0_v5 V0) (broadcastInDim S1 ![] bcast_S_S1 (constantI S_ 32 19#32))))

set_option maxRecDepth 8192 in
/-- `main_call0_call0_v13`'s composed term of the arguments (named: it is used 2 times). -/
def res_main_call0_call0_v13 (V0 : Valuation τ sig (Elt F)) : (Proc.devRef .tc main_call0_call0_v13 : DevRef τ sig).ty.Contents (Elt F) :=
  addi (res_main_call0_call0_v6 V0) (res_main_call0_call0_v12 V0)

set_option maxRecDepth 8192 in
/-- `main_call0_call0_v19`'s composed term of the arguments (named: it is used 3 times). -/
def res_main_call0_call0_v19 (V0 : Valuation τ sig (Elt F)) : (Proc.devRef .tc main_call0_call0_v19 : DevRef τ sig).ty.Contents (Elt F) :=
  xori (res_main_call0_call0_v13 V0) (ori (Host.shli (res_main_call0_call0_v12 V0) (broadcastInDim S1 ![] bcast_S_S1 (constantI S_ 32 15#32))) (Host.shrui (res_main_call0_call0_v12 V0) (broadcastInDim S1 ![] bcast_S_S1 (constantI S_ 32 17#32))))

set_option maxRecDepth 8192 in
/-- `main_call0_call0_v20`'s composed term of the arguments (named: it is used 2 times). -/
def res_main_call0_call0_v20 (V0 : Valuation τ sig (Elt F)) : (Proc.devRef .tc main_call0_call0_v20 : DevRef τ sig).ty.Contents (Elt F) :=
  addi (res_main_call0_call0_v13 V0) (res_main_call0_call0_v19 V0)

set_option maxRecDepth 8192 in
/-- `main_call0_call0_v26`'s composed term of the arguments (named: it is used 3 times). -/
def res_main_call0_call0_v26 (V0 : Valuation τ sig (Elt F)) : (Proc.devRef .tc main_call0_call0_v26 : DevRef τ sig).ty.Contents (Elt F) :=
  xori (res_main_call0_call0_v20 V0) (ori (Host.shli (res_main_call0_call0_v19 V0) (broadcastInDim S1 ![] bcast_S_S1 (constantI S_ 32 26#32))) (Host.shrui (res_main_call0_call0_v19 V0) (broadcastInDim S1 ![] bcast_S_S1 (constantI S_ 32 6#32))))

set_option maxRecDepth 8192 in
/-- `main_call0_call0_v27`'s composed term of the arguments (named: it is used 2 times). -/
def res_main_call0_call0_v27 (V0 : Valuation τ sig (Elt F)) : (Proc.devRef .tc main_call0_call0_v27 : DevRef τ sig).ty.Contents (Elt F) :=
  addi (res_main_call0_call0_v20 V0) (res_main_call0_call0_v26 V0)

set_option maxRecDepth 8192 in
/-- `main_call0_call0_v39`'s composed term of the arguments (named: it is used 3 times). -/
def res_main_call0_call0_v39 (V0 : Valuation τ sig (Elt F)) : (Proc.devRef .tc main_call0_call0_v39 : DevRef τ sig).ty.Contents (Elt F) :=
  addi (addi (xori (res_main_call0_call0_v27 V0) (ori (Host.shli (res_main_call0_call0_v26 V0) (broadcastInDim S1 ![] bcast_S_S1 (constantI S_ 32 6#32))) (Host.shrui (res_main_call0_call0_v26 V0) (broadcastInDim S1 ![] bcast_S_S1 (constantI S_ 32 26#32))))) (broadcastInDim S1 ![] bcast_S_S1 (res_main_call0_call0_v1 V0))) (broadcastInDim S1 ![] bcast_S_S1 (constantI S_ 32 1#32))

set_option maxRecDepth 8192 in
/-- `main_call0_call0_v40`'s composed term of the arguments (named: it is used 2 times). -/
def res_main_call0_call0_v40 (V0 : Valuation τ sig (Elt F)) : (Proc.devRef .tc main_call0_call0_v40 : DevRef τ sig).ty.Contents (Elt F) :=
  addi (addi (res_main_call0_call0_v27 V0) (broadcastInDim S1 ![] bcast_S_S1 (res_main_call0_v8 V0))) (res_main_call0_call0_v39 V0)

set_option maxRecDepth 8192 in
/-- `main_call0_call0_v46`'s composed term of the arguments (named: it is used 3 times). -/
def res_main_call0_call0_v46 (V0 : Valuation τ sig (Elt F)) : (Proc.devRef .tc main_call0_call0_v46 : DevRef τ sig).ty.Contents (Elt F) :=
  xori (res_main_call0_call0_v40 V0) (ori (Host.shli (res_main_call0_call0_v39 V0) (broadcastInDim S1 ![] bcast_S_S1 (constantI S_ 32 17#32))) (Host.shrui (res_main_call0_call0_v39 V0) (broadcastInDim S1 ![] bcast_S_S1 (constantI S_ 32 15#32))))

set_option maxRecDepth 8192 in
/-- `main_call0_call0_v47`'s composed term of the arguments (named: it is used 2 times). -/
def res_main_call0_call0_v47 (V0 : Valuation τ sig (Elt F)) : (Proc.devRef .tc main_call0_call0_v47 : DevRef τ sig).ty.Contents (Elt F) :=
  addi (res_main_call0_call0_v40 V0) (res_main_call0_call0_v46 V0)

set_option maxRecDepth 8192 in
/-- `main_call0_call0_v53`'s composed term of the arguments (named: it is used 3 times). -/
def res_main_call0_call0_v53 (V0 : Valuation τ sig (Elt F)) : (Proc.devRef .tc main_call0_call0_v53 : DevRef τ sig).ty.Contents (Elt F) :=
  xori (res_main_call0_call0_v47 V0) (ori (Host.shli (res_main_call0_call0_v46 V0) (broadcastInDim S1 ![] bcast_S_S1 (constantI S_ 32 29#32))) (Host.shrui (res_main_call0_call0_v46 V0) (broadcastInDim S1 ![] bcast_S_S1 (constantI S_ 32 3#32))))

set_option maxRecDepth 8192 in
/-- `main_call0_call0_v54`'s composed term of the arguments (named: it is used 2 times). -/
def res_main_call0_call0_v54 (V0 : Valuation τ sig (Elt F)) : (Proc.devRef .tc main_call0_call0_v54 : DevRef τ sig).ty.Contents (Elt F) :=
  addi (res_main_call0_call0_v47 V0) (res_main_call0_call0_v53 V0)

set_option maxRecDepth 8192 in
/-- `main_call0_call0_v60`'s composed term of the arguments (named: it is used 3 times). -/
def res_main_call0_call0_v60 (V0 : Valuation τ sig (Elt F)) : (Proc.devRef .tc main_call0_call0_v60 : DevRef τ sig).ty.Contents (Elt F) :=
  xori (res_main_call0_call0_v54 V0) (ori (Host.shli (res_main_call0_call0_v53 V0) (broadcastInDim S1 ![] bcast_S_S1 (constantI S_ 32 16#32))) (Host.shrui (res_main_call0_call0_v53 V0) (broadcastInDim S1 ![] bcast_S_S1 (constantI S_ 32 16#32))))

set_option maxRecDepth 8192 in
/-- `main_call0_call0_v61`'s composed term of the arguments (named: it is used 2 times). -/
def res_main_call0_call0_v61 (V0 : Valuation τ sig (Elt F)) : (Proc.devRef .tc main_call0_call0_v61 : DevRef τ sig).ty.Contents (Elt F) :=
  addi (res_main_call0_call0_v54 V0) (res_main_call0_call0_v60 V0)

set_option maxRecDepth 8192 in
/-- `main_call0_call0_v73`'s composed term of the arguments (named: it is used 3 times). -/
def res_main_call0_call0_v73 (V0 : Valuation τ sig (Elt F)) : (Proc.devRef .tc main_call0_call0_v73 : DevRef τ sig).ty.Contents (Elt F) :=
  addi (addi (xori (res_main_call0_call0_v61 V0) (ori (Host.shli (res_main_call0_call0_v60 V0) (broadcastInDim S1 ![] bcast_S_S1 (constantI S_ 32 24#32))) (Host.shrui (res_main_call0_call0_v60 V0) (broadcastInDim S1 ![] bcast_S_S1 (constantI S_ 32 8#32))))) (broadcastInDim S1 ![] bcast_S_S1 (res_main_call0_v6 V0))) (broadcastInDim S1 ![] bcast_S_S1 (constantI S_ 32 2#32))

set_option maxRecDepth 8192 in
/-- `main_call0_call0_v74`'s composed term of the arguments (named: it is used 2 times). -/
def res_main_call0_call0_v74 (V0 : Valuation τ sig (Elt F)) : (Proc.devRef .tc main_call0_call0_v74 : DevRef τ sig).ty.Contents (Elt F) :=
  addi (addi (res_main_call0_call0_v61 V0) (broadcastInDim S1 ![] bcast_S_S1 (res_main_call0_call0_v1 V0))) (res_main_call0_call0_v73 V0)

set_option maxRecDepth 8192 in
/-- `main_call0_call0_v80`'s composed term of the arguments (named: it is used 3 times). -/
def res_main_call0_call0_v80 (V0 : Valuation τ sig (Elt F)) : (Proc.devRef .tc main_call0_call0_v80 : DevRef τ sig).ty.Contents (Elt F) :=
  xori (res_main_call0_call0_v74 V0) (ori (Host.shli (res_main_call0_call0_v73 V0) (broadcastInDim S1 ![] bcast_S_S1 (constantI S_ 32 13#32))) (Host.shrui (res_main_call0_call0_v73 V0) (broadcastInDim S1 ![] bcast_S_S1 (constantI S_ 32 19#32))))

set_option maxRecDepth 8192 in
/-- `main_call0_call0_v81`'s composed term of the arguments (named: it is used 2 times). -/
def res_main_call0_call0_v81 (V0 : Valuation τ sig (Elt F)) : (Proc.devRef .tc main_call0_call0_v81 : DevRef τ sig).ty.Contents (Elt F) :=
  addi (res_main_call0_call0_v74 V0) (res_main_call0_call0_v80 V0)

set_option maxRecDepth 8192 in
/-- `main_call0_call0_v87`'s composed term of the arguments (named: it is used 3 times). -/
def res_main_call0_call0_v87 (V0 : Valuation τ sig (Elt F)) : (Proc.devRef .tc main_call0_call0_v87 : DevRef τ sig).ty.Contents (Elt F) :=
  xori (res_main_call0_call0_v81 V0) (ori (Host.shli (res_main_call0_call0_v80 V0) (broadcastInDim S1 ![] bcast_S_S1 (constantI S_ 32 15#32))) (Host.shrui (res_main_call0_call0_v80 V0) (broadcastInDim S1 ![] bcast_S_S1 (constantI S_ 32 17#32))))

set_option maxRecDepth 8192 in
/-- `main_call0_call0_v88`'s composed term of the arguments (named: it is used 2 times). -/
def res_main_call0_call0_v88 (V0 : Valuation τ sig (Elt F)) : (Proc.devRef .tc main_call0_call0_v88 : DevRef τ sig).ty.Contents (Elt F) :=
  addi (res_main_call0_call0_v81 V0) (res_main_call0_call0_v87 V0)

set_option maxRecDepth 8192 in
/-- `main_call0_call0_v94`'s composed term of the arguments (named: it is used 3 times). -/
def res_main_call0_call0_v94 (V0 : Valuation τ sig (Elt F)) : (Proc.devRef .tc main_call0_call0_v94 : DevRef τ sig).ty.Contents (Elt F) :=
  xori (res_main_call0_call0_v88 V0) (ori (Host.shli (res_main_call0_call0_v87 V0) (broadcastInDim S1 ![] bcast_S_S1 (constantI S_ 32 26#32))) (Host.shrui (res_main_call0_call0_v87 V0) (broadcastInDim S1 ![] bcast_S_S1 (constantI S_ 32 6#32))))

set_option maxRecDepth 8192 in
/-- `main_call0_call0_v95`'s composed term of the arguments (named: it is used 2 times). -/
def res_main_call0_call0_v95 (V0 : Valuation τ sig (Elt F)) : (Proc.devRef .tc main_call0_call0_v95 : DevRef τ sig).ty.Contents (Elt F) :=
  addi (res_main_call0_call0_v88 V0) (res_main_call0_call0_v94 V0)

set_option maxRecDepth 8192 in
/-- `main_call0_call0_v107`'s composed term of the arguments (named: it is used 3 times). -/
def res_main_call0_call0_v107 (V0 : Valuation τ sig (Elt F)) : (Proc.devRef .tc main_call0_call0_v107 : DevRef τ sig).ty.Contents (Elt F) :=
  addi (addi (xori (res_main_call0_call0_v95 V0) (ori (Host.shli (res_main_call0_call0_v94 V0) (broadcastInDim S1 ![] bcast_S_S1 (constantI S_ 32 6#32))) (Host.shrui (res_main_call0_call0_v94 V0) (broadcastInDim S1 ![] bcast_S_S1 (constantI S_ 32 26#32))))) (broadcastInDim S1 ![] bcast_S_S1 (res_main_call0_v8 V0))) (broadcastInDim S1 ![] bcast_S_S1 (constantI S_ 32 3#32))

set_option maxRecDepth 8192 in
/-- `main_call0_call0_v108`'s composed term of the arguments (named: it is used 2 times). -/
def res_main_call0_call0_v108 (V0 : Valuation τ sig (Elt F)) : (Proc.devRef .tc main_call0_call0_v108 : DevRef τ sig).ty.Contents (Elt F) :=
  addi (addi (res_main_call0_call0_v95 V0) (broadcastInDim S1 ![] bcast_S_S1 (res_main_call0_v6 V0))) (res_main_call0_call0_v107 V0)

set_option maxRecDepth 8192 in
/-- `main_call0_call0_v114`'s composed term of the arguments (named: it is used 3 times). -/
def res_main_call0_call0_v114 (V0 : Valuation τ sig (Elt F)) : (Proc.devRef .tc main_call0_call0_v114 : DevRef τ sig).ty.Contents (Elt F) :=
  xori (res_main_call0_call0_v108 V0) (ori (Host.shli (res_main_call0_call0_v107 V0) (broadcastInDim S1 ![] bcast_S_S1 (constantI S_ 32 17#32))) (Host.shrui (res_main_call0_call0_v107 V0) (broadcastInDim S1 ![] bcast_S_S1 (constantI S_ 32 15#32))))

set_option maxRecDepth 8192 in
/-- `main_call0_call0_v115`'s composed term of the arguments (named: it is used 2 times). -/
def res_main_call0_call0_v115 (V0 : Valuation τ sig (Elt F)) : (Proc.devRef .tc main_call0_call0_v115 : DevRef τ sig).ty.Contents (Elt F) :=
  addi (res_main_call0_call0_v108 V0) (res_main_call0_call0_v114 V0)

set_option maxRecDepth 8192 in
/-- `main_call0_call0_v121`'s composed term of the arguments (named: it is used 3 times). -/
def res_main_call0_call0_v121 (V0 : Valuation τ sig (Elt F)) : (Proc.devRef .tc main_call0_call0_v121 : DevRef τ sig).ty.Contents (Elt F) :=
  xori (res_main_call0_call0_v115 V0) (ori (Host.shli (res_main_call0_call0_v114 V0) (broadcastInDim S1 ![] bcast_S_S1 (constantI S_ 32 29#32))) (Host.shrui (res_main_call0_call0_v114 V0) (broadcastInDim S1 ![] bcast_S_S1 (constantI S_ 32 3#32))))

set_option maxRecDepth 8192 in
/-- `main_call0_call0_v122`'s composed term of the arguments (named: it is used 2 times). -/
def res_main_call0_call0_v122 (V0 : Valuation τ sig (Elt F)) : (Proc.devRef .tc main_call0_call0_v122 : DevRef τ sig).ty.Contents (Elt F) :=
  addi (res_main_call0_call0_v115 V0) (res_main_call0_call0_v121 V0)

set_option maxRecDepth 8192 in
/-- `main_call0_call0_v128`'s composed term of the arguments (named: it is used 3 times). -/
def res_main_call0_call0_v128 (V0 : Valuation τ sig (Elt F)) : (Proc.devRef .tc main_call0_call0_v128 : DevRef τ sig).ty.Contents (Elt F) :=
  xori (res_main_call0_call0_v122 V0) (ori (Host.shli (res_main_call0_call0_v121 V0) (broadcastInDim S1 ![] bcast_S_S1 (constantI S_ 32 16#32))) (Host.shrui (res_main_call0_call0_v121 V0) (broadcastInDim S1 ![] bcast_S_S1 (constantI S_ 32 16#32))))

set_option maxRecDepth 8192 in
/-- `main_call0_call0_v129`'s composed term of the arguments (named: it is used 2 times). -/
def res_main_call0_call0_v129 (V0 : Valuation τ sig (Elt F)) : (Proc.devRef .tc main_call0_call0_v129 : DevRef τ sig).ty.Contents (Elt F) :=
  addi (res_main_call0_call0_v122 V0) (res_main_call0_call0_v128 V0)

set_option maxRecDepth 8192 in
/-- `main_call0_call0_v141`'s composed term of the arguments (named: it is used 3 times). -/
def res_main_call0_call0_v141 (V0 : Valuation τ sig (Elt F)) : (Proc.devRef .tc main_call0_call0_v141 : DevRef τ sig).ty.Contents (Elt F) :=
  addi (addi (xori (res_main_call0_call0_v129 V0) (ori (Host.shli (res_main_call0_call0_v128 V0) (broadcastInDim S1 ![] bcast_S_S1 (constantI S_ 32 24#32))) (Host.shrui (res_main_call0_call0_v128 V0) (broadcastInDim S1 ![] bcast_S_S1 (constantI S_ 32 8#32))))) (broadcastInDim S1 ![] bcast_S_S1 (res_main_call0_call0_v1 V0))) (broadcastInDim S1 ![] bcast_S_S1 (constantI S_ 32 4#32))

set_option maxRecDepth 8192 in
/-- `main_call0_call0_v142`'s composed term of the arguments (named: it is used 2 times). -/
def res_main_call0_call0_v142 (V0 : Valuation τ sig (Elt F)) : (Proc.devRef .tc main_call0_call0_v142 : DevRef τ sig).ty.Contents (Elt F) :=
  addi (addi (res_main_call0_call0_v129 V0) (broadcastInDim S1 ![] bcast_S_S1 (res_main_call0_v8 V0))) (res_main_call0_call0_v141 V0)

set_option maxRecDepth 8192 in
/-- `main_call0_call0_v148`'s composed term of the arguments (named: it is used 3 times). -/
def res_main_call0_call0_v148 (V0 : Valuation τ sig (Elt F)) : (Proc.devRef .tc main_call0_call0_v148 : DevRef τ sig).ty.Contents (Elt F) :=
  xori (res_main_call0_call0_v142 V0) (ori (Host.shli (res_main_call0_call0_v141 V0) (broadcastInDim S1 ![] bcast_S_S1 (constantI S_ 32 13#32))) (Host.shrui (res_main_call0_call0_v141 V0) (broadcastInDim S1 ![] bcast_S_S1 (constantI S_ 32 19#32))))

set_option maxRecDepth 8192 in
/-- `main_call0_call0_v149`'s composed term of the arguments (named: it is used 2 times). -/
def res_main_call0_call0_v149 (V0 : Valuation τ sig (Elt F)) : (Proc.devRef .tc main_call0_call0_v149 : DevRef τ sig).ty.Contents (Elt F) :=
  addi (res_main_call0_call0_v142 V0) (res_main_call0_call0_v148 V0)

set_option maxRecDepth 8192 in
/-- `main_call0_call0_v155`'s composed term of the arguments (named: it is used 3 times). -/
def res_main_call0_call0_v155 (V0 : Valuation τ sig (Elt F)) : (Proc.devRef .tc main_call0_call0_v155 : DevRef τ sig).ty.Contents (Elt F) :=
  xori (res_main_call0_call0_v149 V0) (ori (Host.shli (res_main_call0_call0_v148 V0) (broadcastInDim S1 ![] bcast_S_S1 (constantI S_ 32 15#32))) (Host.shrui (res_main_call0_call0_v148 V0) (broadcastInDim S1 ![] bcast_S_S1 (constantI S_ 32 17#32))))

set_option maxRecDepth 8192 in
/-- `main_call0_call0_v156`'s composed term of the arguments (named: it is used 2 times). -/
def res_main_call0_call0_v156 (V0 : Valuation τ sig (Elt F)) : (Proc.devRef .tc main_call0_call0_v156 : DevRef τ sig).ty.Contents (Elt F) :=
  addi (res_main_call0_call0_v149 V0) (res_main_call0_call0_v155 V0)

set_option maxRecDepth 8192 in
/-- `main_call0_call0_v162`'s composed term of the arguments (named: it is used 3 times). -/
def res_main_call0_call0_v162 (V0 : Valuation τ sig (Elt F)) : (Proc.devRef .tc main_call0_call0_v162 : DevRef τ sig).ty.Contents (Elt F) :=
  xori (res_main_call0_call0_v156 V0) (ori (Host.shli (res_main_call0_call0_v155 V0) (broadcastInDim S1 ![] bcast_S_S1 (constantI S_ 32 26#32))) (Host.shrui (res_main_call0_call0_v155 V0) (broadcastInDim S1 ![] bcast_S_S1 (constantI S_ 32 6#32))))

set_option maxRecDepth 8192 in
/-- `main_call0_call0_v163`'s composed term of the arguments (named: it is used 2 times). -/
def res_main_call0_call0_v163 (V0 : Valuation τ sig (Elt F)) : (Proc.devRef .tc main_call0_call0_v163 : DevRef τ sig).ty.Contents (Elt F) :=
  addi (res_main_call0_call0_v156 V0) (res_main_call0_call0_v162 V0)

set_option maxRecDepth 8192 in
/-- `main_v18`'s composed term of the arguments (named: it is used 2 times). -/
def res_main_v18 (V0 : Valuation τ sig (Elt F)) : (Proc.devRef .tc main_v18 : DevRef τ sig).ty.Contents (Elt F) :=
  concatenate S2 0 [⟨S1, (addi (res_main_call0_call0_v163 V0) (broadcastInDim S1 ![] bcast_S_S1 (res_main_call0_call0_v1 V0)))⟩, ⟨S1, (addi (addi (xori (res_main_call0_call0_v163 V0) (ori (Host.shli (res_main_call0_call0_v162 V0) (broadcastInDim S1 ![] bcast_S_S1 (constantI S_ 32 6#32))) (Host.shrui (res_main_call0_call0_v162 V0) (broadcastInDim S1 ![] bcast_S_S1 (constantI S_ 32 26#32))))) (broadcastInDim S1 ![] bcast_S_S1 (res_main_call0_v6 V0))) (broadcastInDim S1 ![] bcast_S_S1 (constantI S_ 32 5#32)))⟩] concatenates_S1_S1_S2_d0

set_option maxRecDepth 8192 in
/-- `main_v20`'s composed term of the arguments (named: it is used 5 times). -/
def res_main_v20 (V0 : Valuation τ sig (Elt F)) : (Proc.devRef .tc main_v20 : DevRef τ sig).ty.Contents (Elt F) :=
  shapeCast _ (extractStridedSlice S1 ![0] (res_main_v18 V0) slices_S2_S1_0) shapeCasts_S1_S_

set_option maxRecDepth 8192 in
/-- `main_v22`'s composed term of the arguments (named: it is used 5 times). -/
def res_main_v22 (V0 : Valuation τ sig (Elt F)) : (Proc.devRef .tc main_v22 : DevRef τ sig).ty.Contents (Elt F) :=
  shapeCast _ (extractStridedSlice S1 ![1] (res_main_v18 V0) slices_S2_S1_1) shapeCasts_S1_S_

set_option maxRecDepth 8192 in
/-- `main_v29`'s composed term of the arguments (named: it is used 2 times). -/
def res_main_v29 (V0 : Valuation τ sig (Elt F)) : (Proc.devRef .tc main_v29 : DevRef τ sig).ty.Contents (Elt F) :=
  addi (muli (broadcastInDim S32x1000000 ![] bcast_S_S32x1000000 (constantI S_ 64 1000000#64)) (iotaInDim S32x1000000 64 0)) (muli (broadcastInDim S32x1000000 ![] bcast_S_S32x1000000 (constantI S_ 64 1#64)) (iotaInDim S32x1000000 64 1))

set_option maxRecDepth 8192 in
/-- `main_call1_v1`'s composed term of the arguments (named: it is used 4 times). -/
def res_main_call1_v1 (V0 : Valuation τ sig (Elt F)) : (Proc.devRef .tc main_call1_v1 : DevRef τ sig).ty.Contents (Elt F) :=
  xori (xori (res_main_v20 V0) (res_main_v22 V0)) (constantI S_ 32 466688986#32)

set_option maxRecDepth 8192 in
/-- `main_call1_v5`'s composed term of the arguments (named: it is used 3 times). -/
def res_main_call1_v5 (V0 : Valuation τ sig (Elt F)) : (Proc.devRef .tc main_call1_v5 : DevRef τ sig).ty.Contents (Elt F) :=
  addi (trunci 32 (res_main_v29 V0) natLt_32_64) (broadcastInDim S32x1000000 ![] bcast_S_S32x1000000 (res_main_v22 V0))

set_option maxRecDepth 8192 in
/-- `main_call1_v6`'s composed term of the arguments (named: it is used 2 times). -/
def res_main_call1_v6 (V0 : Valuation τ sig (Elt F)) : (Proc.devRef .tc main_call1_v6 : DevRef τ sig).ty.Contents (Elt F) :=
  addi (addi (trunci 32 (Host.shrui (res_main_v29 V0) (broadcastInDim S32x1000000 ![] bcast_S_S32x1000000 (constantI S_ 64 32#64))) natLt_32_64) (broadcastInDim S32x1000000 ![] bcast_S_S32x1000000 (res_main_v20 V0))) (res_main_call1_v5 V0)

set_option maxRecDepth 8192 in
/-- `main_call1_v12`'s composed term of the arguments (named: it is used 3 times). -/
def res_main_call1_v12 (V0 : Valuation τ sig (Elt F)) : (Proc.devRef .tc main_call1_v12 : DevRef τ sig).ty.Contents (Elt F) :=
  xori (res_main_call1_v6 V0) (ori (Host.shli (res_main_call1_v5 V0) (broadcastInDim S32x1000000 ![] bcast_S_S32x1000000 (constantI S_ 32 13#32))) (Host.shrui (res_main_call1_v5 V0) (broadcastInDim S32x1000000 ![] bcast_S_S32x1000000 (constantI S_ 32 19#32))))

set_option maxRecDepth 8192 in
/-- `main_call1_v13`'s composed term of the arguments (named: it is used 2 times). -/
def res_main_call1_v13 (V0 : Valuation τ sig (Elt F)) : (Proc.devRef .tc main_call1_v13 : DevRef τ sig).ty.Contents (Elt F) :=
  addi (res_main_call1_v6 V0) (res_main_call1_v12 V0)

set_option maxRecDepth 8192 in
/-- `main_call1_v19`'s composed term of the arguments (named: it is used 3 times). -/
def res_main_call1_v19 (V0 : Valuation τ sig (Elt F)) : (Proc.devRef .tc main_call1_v19 : DevRef τ sig).ty.Contents (Elt F) :=
  xori (res_main_call1_v13 V0) (ori (Host.shli (res_main_call1_v12 V0) (broadcastInDim S32x1000000 ![] bcast_S_S32x1000000 (constantI S_ 32 15#32))) (Host.shrui (res_main_call1_v12 V0) (broadcastInDim S32x1000000 ![] bcast_S_S32x1000000 (constantI S_ 32 17#32))))

set_option maxRecDepth 8192 in
/-- `main_call1_v20`'s composed term of the arguments (named: it is used 2 times). -/
def res_main_call1_v20 (V0 : Valuation τ sig (Elt F)) : (Proc.devRef .tc main_call1_v20 : DevRef τ sig).ty.Contents (Elt F) :=
  addi (res_main_call1_v13 V0) (res_main_call1_v19 V0)

set_option maxRecDepth 8192 in
/-- `main_call1_v26`'s composed term of the arguments (named: it is used 3 times). -/
def res_main_call1_v26 (V0 : Valuation τ sig (Elt F)) : (Proc.devRef .tc main_call1_v26 : DevRef τ sig).ty.Contents (Elt F) :=
  xori (res_main_call1_v20 V0) (ori (Host.shli (res_main_call1_v19 V0) (broadcastInDim S32x1000000 ![] bcast_S_S32x1000000 (constantI S_ 32 26#32))) (Host.shrui (res_main_call1_v19 V0) (broadcastInDim S32x1000000 ![] bcast_S_S32x1000000 (constantI S_ 32 6#32))))

set_option maxRecDepth 8192 in
/-- `main_call1_v27`'s composed term of the arguments (named: it is used 2 times). -/
def res_main_call1_v27 (V0 : Valuation τ sig (Elt F)) : (Proc.devRef .tc main_call1_v27 : DevRef τ sig).ty.Contents (Elt F) :=
  addi (res_main_call1_v20 V0) (res_main_call1_v26 V0)

set_option maxRecDepth 8192 in
/-- `main_call1_v39`'s composed term of the arguments (named: it is used 3 times). -/
def res_main_call1_v39 (V0 : Valuation τ sig (Elt F)) : (Proc.devRef .tc main_call1_v39 : DevRef τ sig).ty.Contents (Elt F) :=
  addi (addi (xori (res_main_call1_v27 V0) (ori (Host.shli (res_main_call1_v26 V0) (broadcastInDim S32x1000000 ![] bcast_S_S32x1000000 (constantI S_ 32 6#32))) (Host.shrui (res_main_call1_v26 V0) (broadcastInDim S32x1000000 ![] bcast_S_S32x1000000 (constantI S_ 32 26#32))))) (broadcastInDim S32x1000000 ![] bcast_S_S32x1000000 (res_main_call1_v1 V0))) (broadcastInDim S32x1000000 ![] bcast_S_S32x1000000 (constantI S_ 32 1#32))

set_option maxRecDepth 8192 in
/-- `main_call1_v40`'s composed term of the arguments (named: it is used 2 times). -/
def res_main_call1_v40 (V0 : Valuation τ sig (Elt F)) : (Proc.devRef .tc main_call1_v40 : DevRef τ sig).ty.Contents (Elt F) :=
  addi (addi (res_main_call1_v27 V0) (broadcastInDim S32x1000000 ![] bcast_S_S32x1000000 (res_main_v22 V0))) (res_main_call1_v39 V0)

set_option maxRecDepth 8192 in
/-- `main_call1_v46`'s composed term of the arguments (named: it is used 3 times). -/
def res_main_call1_v46 (V0 : Valuation τ sig (Elt F)) : (Proc.devRef .tc main_call1_v46 : DevRef τ sig).ty.Contents (Elt F) :=
  xori (res_main_call1_v40 V0) (ori (Host.shli (res_main_call1_v39 V0) (broadcastInDim S32x1000000 ![] bcast_S_S32x1000000 (constantI S_ 32 17#32))) (Host.shrui (res_main_call1_v39 V0) (broadcastInDim S32x1000000 ![] bcast_S_S32x1000000 (constantI S_ 32 15#32))))

set_option maxRecDepth 8192 in
/-- `main_call1_v47`'s composed term of the arguments (named: it is used 2 times). -/
def res_main_call1_v47 (V0 : Valuation τ sig (Elt F)) : (Proc.devRef .tc main_call1_v47 : DevRef τ sig).ty.Contents (Elt F) :=
  addi (res_main_call1_v40 V0) (res_main_call1_v46 V0)

set_option maxRecDepth 8192 in
/-- `main_call1_v53`'s composed term of the arguments (named: it is used 3 times). -/
def res_main_call1_v53 (V0 : Valuation τ sig (Elt F)) : (Proc.devRef .tc main_call1_v53 : DevRef τ sig).ty.Contents (Elt F) :=
  xori (res_main_call1_v47 V0) (ori (Host.shli (res_main_call1_v46 V0) (broadcastInDim S32x1000000 ![] bcast_S_S32x1000000 (constantI S_ 32 29#32))) (Host.shrui (res_main_call1_v46 V0) (broadcastInDim S32x1000000 ![] bcast_S_S32x1000000 (constantI S_ 32 3#32))))

set_option maxRecDepth 8192 in
/-- `main_call1_v54`'s composed term of the arguments (named: it is used 2 times). -/
def res_main_call1_v54 (V0 : Valuation τ sig (Elt F)) : (Proc.devRef .tc main_call1_v54 : DevRef τ sig).ty.Contents (Elt F) :=
  addi (res_main_call1_v47 V0) (res_main_call1_v53 V0)

set_option maxRecDepth 8192 in
/-- `main_call1_v60`'s composed term of the arguments (named: it is used 3 times). -/
def res_main_call1_v60 (V0 : Valuation τ sig (Elt F)) : (Proc.devRef .tc main_call1_v60 : DevRef τ sig).ty.Contents (Elt F) :=
  xori (res_main_call1_v54 V0) (ori (Host.shli (res_main_call1_v53 V0) (broadcastInDim S32x1000000 ![] bcast_S_S32x1000000 (constantI S_ 32 16#32))) (Host.shrui (res_main_call1_v53 V0) (broadcastInDim S32x1000000 ![] bcast_S_S32x1000000 (constantI S_ 32 16#32))))

set_option maxRecDepth 8192 in
/-- `main_call1_v61`'s composed term of the arguments (named: it is used 2 times). -/
def res_main_call1_v61 (V0 : Valuation τ sig (Elt F)) : (Proc.devRef .tc main_call1_v61 : DevRef τ sig).ty.Contents (Elt F) :=
  addi (res_main_call1_v54 V0) (res_main_call1_v60 V0)

set_option maxRecDepth 8192 in
/-- `main_call1_v73`'s composed term of the arguments (named: it is used 3 times). -/
def res_main_call1_v73 (V0 : Valuation τ sig (Elt F)) : (Proc.devRef .tc main_call1_v73 : DevRef τ sig).ty.Contents (Elt F) :=
  addi (addi (xori (res_main_call1_v61 V0) (ori (Host.shli (res_main_call1_v60 V0) (broadcastInDim S32x1000000 ![] bcast_S_S32x1000000 (constantI S_ 32 24#32))) (Host.shrui (res_main_call1_v60 V0) (broadcastInDim S32x1000000 ![] bcast_S_S32x1000000 (constantI S_ 32 8#32))))) (broadcastInDim S32x1000000 ![] bcast_S_S32x1000000 (res_main_v20 V0))) (broadcastInDim S32x1000000 ![] bcast_S_S32x1000000 (constantI S_ 32 2#32))

set_option maxRecDepth 8192 in
/-- `main_call1_v74`'s composed term of the arguments (named: it is used 2 times). -/
def res_main_call1_v74 (V0 : Valuation τ sig (Elt F)) : (Proc.devRef .tc main_call1_v74 : DevRef τ sig).ty.Contents (Elt F) :=
  addi (addi (res_main_call1_v61 V0) (broadcastInDim S32x1000000 ![] bcast_S_S32x1000000 (res_main_call1_v1 V0))) (res_main_call1_v73 V0)

set_option maxRecDepth 8192 in
/-- `main_call1_v80`'s composed term of the arguments (named: it is used 3 times). -/
def res_main_call1_v80 (V0 : Valuation τ sig (Elt F)) : (Proc.devRef .tc main_call1_v80 : DevRef τ sig).ty.Contents (Elt F) :=
  xori (res_main_call1_v74 V0) (ori (Host.shli (res_main_call1_v73 V0) (broadcastInDim S32x1000000 ![] bcast_S_S32x1000000 (constantI S_ 32 13#32))) (Host.shrui (res_main_call1_v73 V0) (broadcastInDim S32x1000000 ![] bcast_S_S32x1000000 (constantI S_ 32 19#32))))

set_option maxRecDepth 8192 in
/-- `main_call1_v81`'s composed term of the arguments (named: it is used 2 times). -/
def res_main_call1_v81 (V0 : Valuation τ sig (Elt F)) : (Proc.devRef .tc main_call1_v81 : DevRef τ sig).ty.Contents (Elt F) :=
  addi (res_main_call1_v74 V0) (res_main_call1_v80 V0)

set_option maxRecDepth 8192 in
/-- `main_call1_v87`'s composed term of the arguments (named: it is used 3 times). -/
def res_main_call1_v87 (V0 : Valuation τ sig (Elt F)) : (Proc.devRef .tc main_call1_v87 : DevRef τ sig).ty.Contents (Elt F) :=
  xori (res_main_call1_v81 V0) (ori (Host.shli (res_main_call1_v80 V0) (broadcastInDim S32x1000000 ![] bcast_S_S32x1000000 (constantI S_ 32 15#32))) (Host.shrui (res_main_call1_v80 V0) (broadcastInDim S32x1000000 ![] bcast_S_S32x1000000 (constantI S_ 32 17#32))))

set_option maxRecDepth 8192 in
/-- `main_call1_v88`'s composed term of the arguments (named: it is used 2 times). -/
def res_main_call1_v88 (V0 : Valuation τ sig (Elt F)) : (Proc.devRef .tc main_call1_v88 : DevRef τ sig).ty.Contents (Elt F) :=
  addi (res_main_call1_v81 V0) (res_main_call1_v87 V0)

set_option maxRecDepth 8192 in
/-- `main_call1_v94`'s composed term of the arguments (named: it is used 3 times). -/
def res_main_call1_v94 (V0 : Valuation τ sig (Elt F)) : (Proc.devRef .tc main_call1_v94 : DevRef τ sig).ty.Contents (Elt F) :=
  xori (res_main_call1_v88 V0) (ori (Host.shli (res_main_call1_v87 V0) (broadcastInDim S32x1000000 ![] bcast_S_S32x1000000 (constantI S_ 32 26#32))) (Host.shrui (res_main_call1_v87 V0) (broadcastInDim S32x1000000 ![] bcast_S_S32x1000000 (constantI S_ 32 6#32))))

set_option maxRecDepth 8192 in
/-- `main_call1_v95`'s composed term of the arguments (named: it is used 2 times). -/
def res_main_call1_v95 (V0 : Valuation τ sig (Elt F)) : (Proc.devRef .tc main_call1_v95 : DevRef τ sig).ty.Contents (Elt F) :=
  addi (res_main_call1_v88 V0) (res_main_call1_v94 V0)

set_option maxRecDepth 8192 in
/-- `main_call1_v107`'s composed term of the arguments (named: it is used 3 times). -/
def res_main_call1_v107 (V0 : Valuation τ sig (Elt F)) : (Proc.devRef .tc main_call1_v107 : DevRef τ sig).ty.Contents (Elt F) :=
  addi (addi (xori (res_main_call1_v95 V0) (ori (Host.shli (res_main_call1_v94 V0) (broadcastInDim S32x1000000 ![] bcast_S_S32x1000000 (constantI S_ 32 6#32))) (Host.shrui (res_main_call1_v94 V0) (broadcastInDim S32x1000000 ![] bcast_S_S32x1000000 (constantI S_ 32 26#32))))) (broadcastInDim S32x1000000 ![] bcast_S_S32x1000000 (res_main_v22 V0))) (broadcastInDim S32x1000000 ![] bcast_S_S32x1000000 (constantI S_ 32 3#32))

set_option maxRecDepth 8192 in
/-- `main_call1_v108`'s composed term of the arguments (named: it is used 2 times). -/
def res_main_call1_v108 (V0 : Valuation τ sig (Elt F)) : (Proc.devRef .tc main_call1_v108 : DevRef τ sig).ty.Contents (Elt F) :=
  addi (addi (res_main_call1_v95 V0) (broadcastInDim S32x1000000 ![] bcast_S_S32x1000000 (res_main_v20 V0))) (res_main_call1_v107 V0)

set_option maxRecDepth 8192 in
/-- `main_call1_v114`'s composed term of the arguments (named: it is used 3 times). -/
def res_main_call1_v114 (V0 : Valuation τ sig (Elt F)) : (Proc.devRef .tc main_call1_v114 : DevRef τ sig).ty.Contents (Elt F) :=
  xori (res_main_call1_v108 V0) (ori (Host.shli (res_main_call1_v107 V0) (broadcastInDim S32x1000000 ![] bcast_S_S32x1000000 (constantI S_ 32 17#32))) (Host.shrui (res_main_call1_v107 V0) (broadcastInDim S32x1000000 ![] bcast_S_S32x1000000 (constantI S_ 32 15#32))))

set_option maxRecDepth 8192 in
/-- `main_call1_v115`'s composed term of the arguments (named: it is used 2 times). -/
def res_main_call1_v115 (V0 : Valuation τ sig (Elt F)) : (Proc.devRef .tc main_call1_v115 : DevRef τ sig).ty.Contents (Elt F) :=
  addi (res_main_call1_v108 V0) (res_main_call1_v114 V0)

set_option maxRecDepth 8192 in
/-- `main_call1_v121`'s composed term of the arguments (named: it is used 3 times). -/
def res_main_call1_v121 (V0 : Valuation τ sig (Elt F)) : (Proc.devRef .tc main_call1_v121 : DevRef τ sig).ty.Contents (Elt F) :=
  xori (res_main_call1_v115 V0) (ori (Host.shli (res_main_call1_v114 V0) (broadcastInDim S32x1000000 ![] bcast_S_S32x1000000 (constantI S_ 32 29#32))) (Host.shrui (res_main_call1_v114 V0) (broadcastInDim S32x1000000 ![] bcast_S_S32x1000000 (constantI S_ 32 3#32))))

set_option maxRecDepth 8192 in
/-- `main_call1_v122`'s composed term of the arguments (named: it is used 2 times). -/
def res_main_call1_v122 (V0 : Valuation τ sig (Elt F)) : (Proc.devRef .tc main_call1_v122 : DevRef τ sig).ty.Contents (Elt F) :=
  addi (res_main_call1_v115 V0) (res_main_call1_v121 V0)

set_option maxRecDepth 8192 in
/-- `main_call1_v128`'s composed term of the arguments (named: it is used 3 times). -/
def res_main_call1_v128 (V0 : Valuation τ sig (Elt F)) : (Proc.devRef .tc main_call1_v128 : DevRef τ sig).ty.Contents (Elt F) :=
  xori (res_main_call1_v122 V0) (ori (Host.shli (res_main_call1_v121 V0) (broadcastInDim S32x1000000 ![] bcast_S_S32x1000000 (constantI S_ 32 16#32))) (Host.shrui (res_main_call1_v121 V0) (broadcastInDim S32x1000000 ![] bcast_S_S32x1000000 (constantI S_ 32 16#32))))

set_option maxRecDepth 8192 in
/-- `main_call1_v129`'s composed term of the arguments (named: it is used 2 times). -/
def res_main_call1_v129 (V0 : Valuation τ sig (Elt F)) : (Proc.devRef .tc main_call1_v129 : DevRef τ sig).ty.Contents (Elt F) :=
  addi (res_main_call1_v122 V0) (res_main_call1_v128 V0)

set_option maxRecDepth 8192 in
/-- `main_call1_v141`'s composed term of the arguments (named: it is used 3 times). -/
def res_main_call1_v141 (V0 : Valuation τ sig (Elt F)) : (Proc.devRef .tc main_call1_v141 : DevRef τ sig).ty.Contents (Elt F) :=
  addi (addi (xori (res_main_call1_v129 V0) (ori (Host.shli (res_main_call1_v128 V0) (broadcastInDim S32x1000000 ![] bcast_S_S32x1000000 (constantI S_ 32 24#32))) (Host.shrui (res_main_call1_v128 V0) (broadcastInDim S32x1000000 ![] bcast_S_S32x1000000 (constantI S_ 32 8#32))))) (broadcastInDim S32x1000000 ![] bcast_S_S32x1000000 (res_main_call1_v1 V0))) (broadcastInDim S32x1000000 ![] bcast_S_S32x1000000 (constantI S_ 32 4#32))

set_option maxRecDepth 8192 in
/-- `main_call1_v142`'s composed term of the arguments (named: it is used 2 times). -/
def res_main_call1_v142 (V0 : Valuation τ sig (Elt F)) : (Proc.devRef .tc main_call1_v142 : DevRef τ sig).ty.Contents (Elt F) :=
  addi (addi (res_main_call1_v129 V0) (broadcastInDim S32x1000000 ![] bcast_S_S32x1000000 (res_main_v22 V0))) (res_main_call1_v141 V0)

set_option maxRecDepth 8192 in
/-- `main_call1_v148`'s composed term of the arguments (named: it is used 3 times). -/
def res_main_call1_v148 (V0 : Valuation τ sig (Elt F)) : (Proc.devRef .tc main_call1_v148 : DevRef τ sig).ty.Contents (Elt F) :=
  xori (res_main_call1_v142 V0) (ori (Host.shli (res_main_call1_v141 V0) (broadcastInDim S32x1000000 ![] bcast_S_S32x1000000 (constantI S_ 32 13#32))) (Host.shrui (res_main_call1_v141 V0) (broadcastInDim S32x1000000 ![] bcast_S_S32x1000000 (constantI S_ 32 19#32))))

set_option maxRecDepth 8192 in
/-- `main_call1_v149`'s composed term of the arguments (named: it is used 2 times). -/
def res_main_call1_v149 (V0 : Valuation τ sig (Elt F)) : (Proc.devRef .tc main_call1_v149 : DevRef τ sig).ty.Contents (Elt F) :=
  addi (res_main_call1_v142 V0) (res_main_call1_v148 V0)

set_option maxRecDepth 8192 in
/-- `main_call1_v155`'s composed term of the arguments (named: it is used 3 times). -/
def res_main_call1_v155 (V0 : Valuation τ sig (Elt F)) : (Proc.devRef .tc main_call1_v155 : DevRef τ sig).ty.Contents (Elt F) :=
  xori (res_main_call1_v149 V0) (ori (Host.shli (res_main_call1_v148 V0) (broadcastInDim S32x1000000 ![] bcast_S_S32x1000000 (constantI S_ 32 15#32))) (Host.shrui (res_main_call1_v148 V0) (broadcastInDim S32x1000000 ![] bcast_S_S32x1000000 (constantI S_ 32 17#32))))

set_option maxRecDepth 8192 in
/-- `main_call1_v156`'s composed term of the arguments (named: it is used 2 times). -/
def res_main_call1_v156 (V0 : Valuation τ sig (Elt F)) : (Proc.devRef .tc main_call1_v156 : DevRef τ sig).ty.Contents (Elt F) :=
  addi (res_main_call1_v149 V0) (res_main_call1_v155 V0)

set_option maxRecDepth 8192 in
/-- `main_call1_v162`'s composed term of the arguments (named: it is used 3 times). -/
def res_main_call1_v162 (V0 : Valuation τ sig (Elt F)) : (Proc.devRef .tc main_call1_v162 : DevRef τ sig).ty.Contents (Elt F) :=
  xori (res_main_call1_v156 V0) (ori (Host.shli (res_main_call1_v155 V0) (broadcastInDim S32x1000000 ![] bcast_S_S32x1000000 (constantI S_ 32 26#32))) (Host.shrui (res_main_call1_v155 V0) (broadcastInDim S32x1000000 ![] bcast_S_S32x1000000 (constantI S_ 32 6#32))))

set_option maxRecDepth 8192 in
/-- `main_call1_v163`'s composed term of the arguments (named: it is used 2 times). -/
def res_main_call1_v163 (V0 : Valuation τ sig (Elt F)) : (Proc.devRef .tc main_call1_v163 : DevRef τ sig).ty.Contents (Elt F) :=
  addi (res_main_call1_v156 V0) (res_main_call1_v162 V0)

set_option maxRecDepth 8192 in
/-- `main_v55`'s composed term of the arguments (named: it is used 2 times). -/
def res_main_v55 (V0 : Valuation τ sig (Elt F)) : (Proc.devRef .tc main_v55 : DevRef τ sig).ty.Contents (Elt F) :=
  Host.divf (addf (V0 (Proc.devRef .tc main_arg0)) (Host.negf (Host.log (Host.negf (Host.log (maximumf (broadcastInDim S32x1000000 ![] bcast_S_S32x1000000 (constant S_ .f32 0x00800000#32)) (addf (mulf (subf (bitcastToFloat (F := F) .f32 (ori (Host.shrui (xori (addi (res_main_call1_v163 V0) (broadcastInDim S32x1000000 ![] bcast_S_S32x1000000 (res_main_call1_v1 V0))) (addi (addi (xori (res_main_call1_v163 V0) (ori (Host.shli (res_main_call1_v162 V0) (broadcastInDim S32x1000000 ![] bcast_S_S32x1000000 (constantI S_ 32 6#32))) (Host.shrui (res_main_call1_v162 V0) (broadcastInDim S32x1000000 ![] bcast_S_S32x1000000 (constantI S_ 32 26#32))))) (broadcastInDim S32x1000000 ![] bcast_S_S32x1000000 (res_main_v20 V0))) (broadcastInDim S32x1000000 ![] bcast_S_S32x1000000 (constantI S_ 32 5#32)))) (broadcastInDim S32x1000000 ![] bcast_S_S32x1000000 (constantI S_ 32 9#32))) (broadcastInDim S32x1000000 ![] bcast_S_S32x1000000 (constantI S_ 32 1065353216#32)))) (broadcastInDim S32x1000000 ![] bcast_S_S32x1000000 (constant S_ .f32 0x3F800000#32))) (broadcastInDim S32x1000000 ![] bcast_S_S32x1000000 (constant S_ .f32 0x3F800000#32))) (broadcastInDim S32x1000000 ![] bcast_S_S32x1000000 (constant S_ .f32 0x00800000#32))))))))) (broadcastInDim S32x1000000 ![] bcast_S_S32x1000000 (constant S_ .f32 0x3F000000#32))

set_option maxRecDepth 8192 in
/-- `main_v62`'s composed term of the arguments (named: it is used 2 times). -/
def res_main_v62 (V0 : Valuation τ sig (Elt F)) : (Proc.devRef .tc main_v62 : DevRef τ sig).ty.Contents (Elt F) :=
  Host.exp (subf (res_main_v55 V0) (broadcastInDim S32x1000000 ![0, 1] bcast_S32x1_S32x1000000_0_1 (broadcastInDim S32x1 ![0] bcast_S32_S32x1_0 (maximumf (broadcastInDim S32 ![] bcast_S_S32 (constant S_ .f32 0xFF800000#32)) (Host.reduce FloatOps.maximumf (res_main_v55 V0) (constant S_ .f32 0xFF800000#32) reducesTo_S32x1000000_S32_d1 h_S_)))))

set_option maxRecDepth 8192 in
/-- `main_v66`'s composed term of the arguments (named: it is used 4 times). -/
def res_main_v66 (V0 : Valuation τ sig (Elt F)) : (Proc.devRef .tc main_v66 : DevRef τ sig).ty.Contents (Elt F) :=
  Host.divf (res_main_v62 V0) (broadcastInDim S32x1000000 ![0, 1] bcast_S32x1_S32x1000000_0_1 (broadcastInDim S32x1 ![0] bcast_S32_S32x1_0 (Host.reduceAdd (res_main_v62 V0) (constant S_ .f32 0x00000000#32) reducesTo_S32x1000000_S32_d1 h_S_)))

set_option maxRecDepth 8192 in
/-- `main_call2_v0`'s composed term of the arguments (named: it is used 2 times). -/
def res_main_call2_v0 (V0 : Valuation τ sig (Elt F)) : (Proc.devRef .tc main_call2_v0 : DevRef τ sig).ty.Contents (Elt F) :=
  iotaInDim S32x1000000 32 1

set_option maxRecDepth 8192 in
/-- `main_call2_cst`'s composed term of the arguments (named: it is used 2 times). -/
def res_main_call2_cst (V0 : Valuation τ sig (Elt F)) : (Proc.devRef .tc main_call2_cst : DevRef τ sig).ty.Contents (Elt F) :=
  constant S_ .f32 0xFF800000#32

set_option maxRecDepth 8192 in
/-- `main_call2_c`'s composed term of the arguments (named: it is used 2 times). -/
def res_main_call2_c (V0 : Valuation τ sig (Elt F)) : (Proc.devRef .tc main_call2_c : DevRef τ sig).ty.Contents (Elt F) :=
  constantI S_ 32 0#32

set_option maxRecDepth 8192 in
/-- `main_v67`'s composed term of the arguments (named: it is used 3 times). -/
def res_main_v67 (V0 : Valuation τ sig (Elt F)) : (Proc.devRef .tc main_v67 : DevRef τ sig).ty.Contents (Elt F) :=
  fun j => (Host.argReduce reducer_argmax_f32_i32 (res_main_v66 V0) (res_main_call2_v0 V0) (res_main_call2_cst V0) (res_main_call2_c V0) reducesTo_S32x1000000_S32_d1 h_S_ j).2

set_option maxRecDepth 8192 in
/-- `main_v69`'s composed term of the arguments (named: it is used 3 times). -/
def res_main_v69 (V0 : Valuation τ sig (Elt F)) : (Proc.devRef .tc main_v69 : DevRef τ sig).ty.Contents (Elt F) :=
  iotaInDim S32 32 0

end Cert.ReferenceIdeal.Value
-- ==== Proof.Words.lean ====
/- The random words: jax's counter-based generator at one element, and the words the kernel's two branches compute at an
   element of a block, both the generator at the element's counter. -/
module

public import proofs.«01_k».proof.Proof.Stats

@[expose] public section

set_option maxRecDepth 16384

noncomputable section

namespace Cert.Proof

open Cert.KernelIdeal Cert.KernelIdeal.Gen Cert.Proof.KI
open Idealize.ShloMosaic

/-- One round on a pair of words: their sum, and the second turned left by `r` and xored with the sum. -/
def mix (r r' : BitVec 32) (p : BitVec 32 × BitVec 32) : BitVec 32 × BitVec 32 :=
  (p.1 + p.2, (((p.2 <<< r) ||| (p.2 >>> r')) ^^^ (p.1 + p.2)))

/-- Four rounds with the even turns. -/
def mixA (p : BitVec 32 × BitVec 32) : BitVec 32 × BitVec 32 :=
  mix 6#32 26#32 (mix 26#32 6#32 (mix 15#32 17#32 (mix 13#32 19#32 p)))

/-- Four rounds with the odd turns. -/
def mixB (p : BitVec 32 × BitVec 32) : BitVec 32 × BitVec 32 :=
  mix 24#32 8#32 (mix 16#32 16#32 (mix 29#32 3#32 (mix 17#32 15#32 p)))

/-- The key words added between the groups of rounds, the second with the group's number. -/
def inject (a b n : BitVec 32) (p : BitVec 32 × BitVec 32) : BitVec 32 × BitVec 32 := (p.1 + a, p.2 + b + n)

/-- The generator: twenty rounds from the counter's two words under the key `(a, b)`, `c` the key's third word. -/
def threefry (a b c : BitVec 32) (p : BitVec 32 × BitVec 32) : BitVec 32 × BitVec 32 :=
  inject c a 5#32 (mixA (inject b c 4#32 (mixB (inject a b 3#32 (mixA (inject c a 2#32 (mixB (inject b c 1#32 (mixA p)))))))))

/-- The word drawn at counter `n`. -/
def word (n : BitVec 32) : BitVec 32 :=
  let q := threefry 928981903#32 3453687069#32 3780455752#32 (928981903#32, n + 3453687069#32)
  q.1 ^^^ q.2

theorem shli_small (u : ArithUnit) (x y : BitVec 32) (h : y.toNat < 32) : IntOp.shli u x y = x <<< y := if_pos h

theorem shrui_small (u : ArithUnit) (x y : BitVec 32) (h : y.toNat < 32) : IntOp.shrui u x y = x >>> y := if_pos h

/-- The counter's low word, the key's second word added. -/
theorem pay9_apply (v7 : IVec S32x8192 32) (j : S32x8192.Idx) :
    k0_pay9 v7 j = BitVec.ofNat 32 (j 0).val * 1000000#32 + v7 j + 3453687069#32 := by
  unfold k0_pay9
  change iota .tc S32x8192 32 [0] iota_S32x8192_d0_w32 j * 1000000#32 + v7 j + 3453687069#32 = _
  rw [iota_single_apply]

theorem wordsFull_apply (v7 : IVec S32x8192 32) (j : S32x8192.Idx) :
    wordsFull v7 j = word (BitVec.ofNat 32 (j 0).val * 1000000#32 + v7 j) >>> (9#32 : BitVec 32) := by
  rw [word, ← pay9_apply]
  simp only [wordsFull, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, addi, xori, ori, shli, shrui, broadcast, IntOp.addi, IntOp.xori, IntOp.ori, shli_small,
    shrui_small, BitVec.reduceToNat, Nat.reduceLT, threefry, inject, mixA, mixB, mix]

theorem wordA_apply (v7 : IVec S32x8192 32) (j : S32x8192.Idx) :
    IntOp.xori ((wordA v7).1 j) ((wordA v7).2.1 j + (wordA v7).2.2 j) = word (BitVec.ofNat 32 (j 0).val * 1000000#32 + v7 j) := by
  rw [word, ← pay9_apply]
  have h : k0_pay52 v7 = k0_pay9 v7 := rfl
  simp only [wordA, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, h, addi, xori, ori, shli, shrui, broadcast, IntOp.addi, IntOp.xori, IntOp.ori, shli_small,
    shrui_small, BitVec.reduceToNat, Nat.reduceLT, threefry, inject, mixA, mixB, mix]

end Cert.Proof

end
-- ==== Proof.RefWords.lean ====
/- The reference's random words: jax's key derivation gives the two key words, and the words drawn under them are the generator's
   at each element's counter. -/
module

public import proofs.«01_k».proof.Proof.RefFacts
public import proofs.«01_k».proof.Proof.Words
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe
open Cert.Proof (mix mixA mixB inject threefry word shli_small shrui_small)

variable {F : FTy → Type} [FloatOps F]

/-- The seed's high word. -/
theorem seed_hi (V : Valuation τ sig (Elt F)) (i : S_.Idx) : res_main_call0_v6 V i = 0#32 := by
  unfold res_main_call0_v6 res_main_v17 res_main_c
  pointwise
  rfl

/-- The seed's low word. -/
theorem seed_lo (V : Valuation τ sig (Elt F)) (i : S_.Idx) : res_main_call0_v8 V i = 0#32 := by
  unfold res_main_call0_v8 res_main_v17 res_main_c
  pointwise
  rfl

/-- The seed key's third word. -/
theorem seed_third (V : Valuation τ sig (Elt F)) (i : S_.Idx) : res_main_call0_call0_v1 V i = 466688986#32 := by
  unfold res_main_call0_call0_v1
  change IntOp.xori (IntOp.xori (res_main_call0_v6 V i) (res_main_call0_v8 V i)) 466688986#32 = _
  rw [seed_hi, seed_lo]; decide

/-- The folded number's two words, the seed's added. -/
theorem fold_lo (V : Valuation τ sig (Elt F)) (i : S1.Idx) : res_main_call0_call0_v5 V i = 1#32 := by
  unfold res_main_call0_call0_v5 res_main_call0_v4 res_main_c_4
  pointwise
  rw [seed_lo]; rfl

theorem fold_sum (V : Valuation τ sig (Elt F)) (i : S1.Idx) : res_main_call0_call0_v6 V i = 0#32 + 1#32 := by
  unfold res_main_call0_call0_v6 res_main_call0_v4 res_main_c_4
  pointwise
  rw [seed_hi, fold_lo]; rfl

/-- A scalar spread along a one-element vector. -/
theorem spread1 {α : Type} (x : S_.Idx → α) : broadcastInDim (s := S_) S1 (![] : Fin 0 → Fin 1) bcast_S_S1 x = fun _ => x ix0 := by funext i; pointwise

/-- A scalar spread over the whole array. -/
theorem spread {α : Type} (x : S_.Idx → α) : broadcastInDim (s := S_) S32x1000000 (![] : Fin 0 → Fin 2) bcast_S_S32x1000000 x = fun _ => x ix0 := by
  funext i; pointwise

/-- Two rounds' xor, the other way round. -/
theorem xor_flip (a b : BitVec 32) : IntOp.xori a b = b ^^^ a := BitVec.xor_comm a b

/-- The seed's key folded with the number one. -/
theorem seed_words : threefry 0#32 0#32 466688986#32 (0#32, 1#32) = (928981903#32, 3453687069#32) := by
  simp [threefry, inject, mixA, mixB, mix]

/-- The derived key's first word. -/
theorem key_hi (V : Valuation τ sig (Elt F)) (i : S_.Idx) : res_main_v20 V i = 928981903#32 := by
  unfold res_main_v20 res_main_v18
  pointwise
  refine Eq.trans ?_ (congrArg Prod.fst seed_words)
  simp only [res_main_call0_call0_v12, res_main_call0_call0_v13, res_main_call0_call0_v19, res_main_call0_call0_v20, res_main_call0_call0_v26, res_main_call0_call0_v27, res_main_call0_call0_v39, res_main_call0_call0_v40, res_main_call0_call0_v46, res_main_call0_call0_v47, res_main_call0_call0_v53, res_main_call0_call0_v54, res_main_call0_call0_v60, res_main_call0_call0_v61, res_main_call0_call0_v73, res_main_call0_call0_v74, res_main_call0_call0_v80, res_main_call0_call0_v81, res_main_call0_call0_v87, res_main_call0_call0_v88, res_main_call0_call0_v94, res_main_call0_call0_v95, res_main_call0_call0_v107, res_main_call0_call0_v108, res_main_call0_call0_v114, res_main_call0_call0_v115, res_main_call0_call0_v121, res_main_call0_call0_v122, res_main_call0_call0_v128, res_main_call0_call0_v129, res_main_call0_call0_v141, res_main_call0_call0_v142, res_main_call0_call0_v148, res_main_call0_call0_v149, res_main_call0_call0_v155, res_main_call0_call0_v156, res_main_call0_call0_v162, res_main_call0_call0_v163, addi, xori, ori, Host.shli, Host.shrui, spread1, constantI, seed_hi, seed_lo, seed_third, fold_lo, fold_sum,
    IntOp.addi, xor_flip, IntOp.ori, shli_small, shrui_small, BitVec.reduceToNat, Nat.reduceLT, threefry, inject, mixA, mixB, mix]

/-- The derived key's second word. -/
theorem key_lo (V : Valuation τ sig (Elt F)) (i : S_.Idx) : res_main_v22 V i = 3453687069#32 := by
  unfold res_main_v22 res_main_v18
  pointwise
  refine Eq.trans ?_ (congrArg Prod.snd seed_words)
  simp only [res_main_call0_call0_v12, res_main_call0_call0_v13, res_main_call0_call0_v19, res_main_call0_call0_v20, res_main_call0_call0_v26, res_main_call0_call0_v27, res_main_call0_call0_v39, res_main_call0_call0_v40, res_main_call0_call0_v46, res_main_call0_call0_v47, res_main_call0_call0_v53, res_main_call0_call0_v54, res_main_call0_call0_v60, res_main_call0_call0_v61, res_main_call0_call0_v73, res_main_call0_call0_v74, res_main_call0_call0_v80, res_main_call0_call0_v81, res_main_call0_call0_v87, res_main_call0_call0_v88, res_main_call0_call0_v94, res_main_call0_call0_v95, res_main_call0_call0_v107, res_main_call0_call0_v108, res_main_call0_call0_v114, res_main_call0_call0_v115, res_main_call0_call0_v121, res_main_call0_call0_v122, res_main_call0_call0_v128, res_main_call0_call0_v129, res_main_call0_call0_v141, res_main_call0_call0_v142, res_main_call0_call0_v148, res_main_call0_call0_v149, res_main_call0_call0_v155, res_main_call0_call0_v156, res_main_call0_call0_v162, res_main_call0_call0_v163, addi, xori, ori, Host.shli, Host.shrui, spread1, constantI, seed_hi, seed_lo, seed_third, fold_lo, fold_sum,
    IntOp.addi, xor_flip, IntOp.ori, shli_small, shrui_small, BitVec.reduceToNat, Nat.reduceLT, threefry, inject, mixA, mixB, mix]

/-- The derived key's third word. -/
theorem key_third (V : Valuation τ sig (Elt F)) (i : S_.Idx) : res_main_call1_v1 V i = 3780455752#32 := by
  unfold res_main_call1_v1
  change IntOp.xori (IntOp.xori (res_main_v20 V i) (res_main_v22 V i)) 466688986#32 = _
  rw [key_hi, key_lo]; decide

/-- An element's number in row-major order, in 64 bits. -/
theorem count_apply (V : Valuation τ sig (Elt F)) (i : S32x1000000.Idx) :
    res_main_v29 V i = BitVec.ofNat 64 ((i 0).val * 1000000 + (i 1).val) := by
  unfold res_main_v29
  pointwise
  have h0 : (i 0).val < 32 := (i 0).isLt
  have h1 : (i 1).val < 1000000 := (i 1).isLt
  apply BitVec.eq_of_toNat_eq
  simp only [IntOp.addi, IntOp.muli, BitVec.toNat_add, BitVec.toNat_mul, BitVec.toNat_ofNat]
  omega

/-- The counter's low word, the key's second word added. -/
theorem cnt_lo (V : Valuation τ sig (Elt F)) (i : S32x1000000.Idx) :
    res_main_call1_v5 V i = BitVec.ofNat 32 (i 0).val * 1000000#32 + BitVec.ofNat 32 (i 1).val + 3453687069#32 := by
  unfold res_main_call1_v5
  change (res_main_v29 V i).setWidth 32 + broadcastInDim S32x1000000 ![] bcast_S_S32x1000000 (res_main_v22 V) i = _
  rw [spread, count_apply, key_lo]
  congr 1
  apply BitVec.eq_of_toNat_eq
  simp only [BitVec.toNat_add, BitVec.toNat_mul, BitVec.toNat_ofNat, BitVec.toNat_setWidth]
  omega

/-- The first round's sum: the high word is zero, so it is the key's first word and the low word. -/
theorem cnt_sum (V : Valuation τ sig (Elt F)) (i : S32x1000000.Idx) :
    res_main_call1_v6 V i = 928981903#32 + res_main_call1_v5 V i := by
  unfold res_main_call1_v6
  change ((IntOp.shrui .host (res_main_v29 V i) (broadcastInDim S32x1000000 ![] bcast_S_S32x1000000 (constantI S_ 64 32#64) i)).setWidth 32
    + broadcastInDim S32x1000000 ![] bcast_S_S32x1000000 (res_main_v20 V) i) + res_main_call1_v5 V i = _
  rw [spread, spread, count_apply, key_hi]
  have h0 : (i 0).val < 32 := (i 0).isLt
  have h1 : (i 1).val < 1000000 := (i 1).isLt
  have h : (IntOp.shrui .host (BitVec.ofNat 64 ((i 0).val * 1000000 + (i 1).val)) (constantI S_ 64 32#64 ix0)).setWidth 32 = 0#32 := by
    rw [show IntOp.shrui .host (BitVec.ofNat 64 ((i 0).val * 1000000 + (i 1).val)) (constantI S_ 64 32#64 ix0)
      = BitVec.ofNat 64 ((i 0).val * 1000000 + (i 1).val) >>> (32#64 : BitVec 64) from if_pos (by decide)]
    apply BitVec.eq_of_toNat_eq
    simp only [BitVec.toNat_setWidth, BitVec.ushiftRight_eq', BitVec.toNat_ushiftRight, BitVec.toNat_ofNat, Nat.shiftRight_eq_div_pow, Nat.reducePow, Nat.reduceMod]
    have hX : (i 0).val * 1000000 + (i 1).val < 4294967296 := by omega
    rw [Nat.mod_eq_of_lt (Nat.lt_trans hX (by decide)), Nat.div_eq_of_lt hX]
  rw [h, BitVec.zero_add]

/-- The words the noise is read from. -/
def drawn (V : Valuation τ sig (Elt F)) : IVec S32x1000000 32 :=
  xori (addi (res_main_call1_v163 V) (broadcastInDim S32x1000000 ![] bcast_S_S32x1000000 (res_main_call1_v1 V)))
    (addi (addi (xori (res_main_call1_v163 V) (ori (Host.shli (res_main_call1_v162 V) (broadcastInDim S32x1000000 ![] bcast_S_S32x1000000 (constantI S_ 32 6#32)))
      (Host.shrui (res_main_call1_v162 V) (broadcastInDim S32x1000000 ![] bcast_S_S32x1000000 (constantI S_ 32 26#32)))))
      (broadcastInDim S32x1000000 ![] bcast_S_S32x1000000 (res_main_v20 V))) (broadcastInDim S32x1000000 ![] bcast_S_S32x1000000 (constantI S_ 32 5#32)))

end Cert.ReferenceIdeal.Value

end
-- ==== Proof.RefDrawn.lean ====
/- The reference's random words: jax's key derivation gives the two key words, and the words drawn under them are the generator's
   at each element's counter. -/
module

public import proofs.«01_k».proof.Proof.RefWords

@[expose] public section

set_option maxRecDepth 16384

noncomputable section

namespace Cert.ReferenceIdeal.Value

open Cert.ReferenceIdeal Cert.ReferenceIdeal.Gen Idealize.ShloMosaic Idealize.ShloMosaic.TcCoe
open Cert.Proof (mix mixA mixB inject threefry word shli_small shrui_small)

variable {F : FTy → Type} [FloatOps F]
set_option maxHeartbeats 2000000 in
/-- Each is the generator's word at the element's number. -/
theorem drawn_apply (V : Valuation τ sig (Elt F)) (i : S32x1000000.Idx) :
    drawn V i = word (BitVec.ofNat 32 (i 0).val * 1000000#32 + BitVec.ofNat 32 (i 1).val) := by
  rw [show word (BitVec.ofNat 32 (i 0).val * 1000000#32 + BitVec.ofNat 32 (i 1).val) = _ ^^^ _ from BitVec.xor_comm _ _, ← cnt_lo V i]
  simp only [drawn, res_main_call1_v12, res_main_call1_v13, res_main_call1_v19, res_main_call1_v20, res_main_call1_v26, res_main_call1_v27, res_main_call1_v39, res_main_call1_v40, res_main_call1_v46, res_main_call1_v47, res_main_call1_v53, res_main_call1_v54, res_main_call1_v60, res_main_call1_v61, res_main_call1_v73, res_main_call1_v74, res_main_call1_v80, res_main_call1_v81, res_main_call1_v87, res_main_call1_v88, res_main_call1_v94, res_main_call1_v95, res_main_call1_v107, res_main_call1_v108, res_main_call1_v114, res_main_call1_v115, res_main_call1_v121, res_main_call1_v122, res_main_call1_v128, res_main_call1_v129, res_main_call1_v141, res_main_call1_v142, res_main_call1_v148, res_main_call1_v149, res_main_call1_v155, res_main_call1_v156, res_main_call1_v162, res_main_call1_v163, addi, xori, ori, Host.shli, Host.shrui, spread, constantI, key_hi, key_lo, key_third, cnt_sum,
    IntOp.addi, xor_flip, IntOp.ori, shli_small, shrui_small, BitVec.reduceToNat, Nat.reduceLT, threefry, inject, mixA, mixB, mix]

end Cert.ReferenceIdeal.Value

end
-- ==== Proof.Noise.lean ====
/- The noise at an element, over the extended reals: read from a random word as a number strictly between zero and one, and a real
   number always. -/
module

public import Idealize.ShloMosaic.Lib.Pointwise

@[expose] public section

set_option maxRecDepth 16384

noncomputable section

namespace Cert.Proof

open Idealize.ShloMosaic

theorem bits_zero : Ideal.ofBits .f32 0x00000000#32 = 0 := by pointwise

theorem bits_one : Ideal.ofBits .f32 0x3F800000#32 = 1 := by pointwise

/-- The least normal number. -/
theorem bits_tiny : Ideal.ofBits .f32 0x00800000#32 = (((2 : ℝ) ^ (-126 : ℤ) : ℝ) : EReal) := by
  simp [Ideal.ofBits, Ideal.ieee, -EReal.coe_mul]
  norm_num [-EReal.coe_mul, ← EReal.coe_mul]

/-- Minus infinity. -/
theorem bits_bot : Ideal.ofBits .f32 0xFF800000#32 = ⊥ := by
  simp [Ideal.ofBits, Ideal.ieee]

/-- One half. -/
theorem bits_half : Ideal.ofBits .f32 0x3F000000#32 = (((1 : ℝ) / 2 : ℝ) : EReal) := by
  simp [Ideal.ofBits, Ideal.ieee, -EReal.coe_mul]
  norm_num [-EReal.coe_mul, ← EReal.coe_mul]

/-- The shift every exponent is taken at. -/
theorem bits_twelve : Ideal.ofBits .f32 0x41400000#32 = ((12 : ℝ) : EReal) := by
  simp [Ideal.ofBits, Ideal.ieee, -EReal.coe_mul]
  norm_num [-EReal.coe_mul, ← EReal.coe_mul]

/-- A word whose exponent is that of one denotes a number from one to below two. -/
theorem unit_bits (w : BitVec 32) : ∃ f : ℝ, 0 ≤ f ∧ f ≤ 1 - 2 ^ (-23 : ℤ) ∧
    Ideal.ofBits .f32 ((w >>> (9#32 : BitVec 32)) ||| 1065353216#32) = ((1 + f : ℝ) : EReal) := by
  set b : BitVec 32 := (w >>> (9#32 : BitVec 32)) ||| 1065353216#32 with hb
  have hs : b.extractLsb' 31 1 = 0#1 := by
    apply BitVec.eq_of_getLsbD_eq; intro i hi
    interval_cases i
    simp [hb]
  have he : b.extractLsb' 23 8 = 127#8 := by
    apply BitVec.eq_of_getLsbD_eq; intro i hi
    interval_cases i <;> simp [hb]
  have hf := (b.extractLsb' 0 23).isLt
  refine ⟨(b.extractLsb' 0 23).toNat * 2 ^ (-23 : ℤ), by positivity, ?_, ?_⟩
  · have : ((b.extractLsb' 0 23).toNat : ℝ) ≤ 2 ^ 23 - 1 := by
      have h : (b.extractLsb' 0 23).toNat + 1 ≤ 2 ^ 23 := hf
      have h' : (((b.extractLsb' 0 23).toNat + 1 : ℕ) : ℝ) ≤ ((2 ^ 23 : ℕ) : ℝ) := by exact_mod_cast h
      push_cast at h'; linarith
    calc ((b.extractLsb' 0 23).toNat : ℝ) * 2 ^ (-23 : ℤ) ≤ (2 ^ 23 - 1) * 2 ^ (-23 : ℤ) := by
          exact mul_le_mul_of_nonneg_right this (by positivity)
      _ = 1 - 2 ^ (-23 : ℤ) := by norm_num
  · change Ideal.ieee 8 23 b = _
    unfold Ideal.ieee
    simp only [Nat.reduceAdd, hs, he]
    rw [if_neg (by decide), if_neg (by decide)]
    refine congrArg _ ?_
    push_cast
    norm_num
    ring

/-- The noise a word gives: minus the logarithm of minus the logarithm of its number. -/
def noise (w : BitVec 32) : EReal :=
  -Ideal.log (-Ideal.log (max (Ideal.ofBits .f32 0x00800000#32)
    (Ideal.ofBits .f32 ((w >>> (9#32 : BitVec 32)) ||| 1065353216#32) - 1 + Ideal.ofBits .f32 0x00800000#32)))

/-- It is a real number. -/
theorem noise_real (w : BitVec 32) : ∃ r : ℝ, noise w = (r : EReal) := by
  obtain ⟨f, h0, h1, hf⟩ := unit_bits w
  set t : ℝ := (2 : ℝ) ^ (-126 : ℤ) with ht
  have htp : 0 < t := by positivity
  have htl : t < 2 ^ (-23 : ℤ) := by rw [ht]; norm_num
  unfold noise
  rw [hf, bits_tiny]
  have e1 : (((1 + f : ℝ) : EReal) - 1 + ((t : ℝ) : EReal)) = ((f + t : ℝ) : EReal) := by
    rw [show (1 : EReal) = ((1 : ℝ) : EReal) from rfl, ← EReal.coe_sub, ← EReal.coe_add]
    congr 1; ring
  rw [e1, max_eq_right (EReal.coe_le_coe_iff.mpr (by linarith))]
  have hu0 : 0 < f + t := by linarith
  have hu1 : f + t < 1 := by linarith
  have hl : Real.log (f + t) < 0 := Real.log_neg hu0 hu1
  rw [Ideal.log_coe, if_neg (not_le.mpr hu0), ← EReal.coe_neg, Ideal.log_coe, if_neg (by linarith)]
  exact ⟨-Real.log (-Real.log (f + t)), by rw [EReal.coe_neg]⟩

end Cert.Proof

end
-- ==== Proof.Best.lean ====
/- The first greatest column of a row, kept over its blocks: what one block adds to the greatest score so far and to the column it
   was first met at. -/
module

public import Idealize.ShloMosaic.Lib.Pointwise

@[expose] public section

noncomputable section

namespace Cert.Proof

open Idealize.ShloMosaic

/-- `k` is the first of the `n` columns whose score is greatest. -/
def First (n : ℕ) (g : ℕ → EReal) (k : ℕ) : Prop := k < n ∧ (∀ j < n, g j ≤ g k) ∧ ∀ j < k, g j < g k

/-- There is one such column only. -/
theorem First.unique {n : ℕ} {g : ℕ → EReal} {k l : ℕ} (hk : First n g k) (hl : First n g l) : k = l := by
  rcases lt_trichotomy k l with h | h | h
  · exact absurd (hl.2.2 k h) (not_lt.mpr (hk.2.1 l hl.1))
  · exact h
  · exact absurd (hk.2.2 l h) (not_lt.mpr (hl.2.1 k hk.1))

/-- The best column and its score over the first `n` columns: zero and minus infinity before any. -/
def Best (n : ℕ) (g : ℕ → EReal) (b : BitVec 32) (v : EReal) : Prop :=
  (n = 0 ∧ b = 0#32 ∧ v = ⊥) ∨ ∃ k, First n g k ∧ b = BitVec.ofNat 32 k ∧ v = g k

/-- The signed value of the lesser of two words is the lesser of their signed values. -/
theorem minsi_toInt (x y : BitVec 32) : (IntOp.minsi x y).toInt = min x.toInt y.toInt := by
  unfold IntOp.minsi
  split
  · next h => simp only [BitVec.slt, BitVec.sle, decide_eq_true_eq] at h; omega
  · next h => simp only [BitVec.slt, BitVec.sle, decide_eq_true_eq] at h; omega

/-- The least word of a family that holds `v` and nothing less is `v`. -/
theorem fold_minsi_eq {n : ℕ} (a v : BitVec 32) (f : Fin n → BitVec 32) (ha : v.toInt ≤ a.toInt) (k : Fin n) (hk : f k = v)
    (hf : ∀ j, v.toInt ≤ (f j).toInt) : Finset.univ.fold IntOp.minsi a f = v := by
  apply BitVec.eq_of_toInt_eq
  have h := Finset.fold_hom (op := IntOp.minsi) (op' := (min : ℤ → ℤ → ℤ)) (m := BitVec.toInt) (f := f) (b := a) (s := Finset.univ)
    minsi_toInt
  rw [← h]
  refine le_antisymm ?_ ?_
  · exact Finset.fold_min_le _ |>.mpr (Or.inr ⟨k, Finset.mem_univ _, by rw [hk]⟩)
  · exact Finset.le_fold_min _ |>.mpr ⟨ha, fun j _ => hf j⟩

theorem toInt_ofNat_small {n : ℕ} (h : n < 2147483648) : (BitVec.ofNat 32 n).toInt = n := by
  rw [BitVec.toInt_eq_toNat_cond, BitVec.toNat_ofNat, Nat.mod_eq_of_lt (by omega)]
  rw [if_pos (by omega)]

/-- The greatest of a block of scores and the first place it stands at. -/
theorem block_first {L : ℕ} (hL : 0 < L) (y : Fin L → EReal) :
    ∃ k : Fin L, Finset.univ.fold max ⊥ y = y k ∧ (∀ j, y j ≤ y k) ∧ ∀ j < k, y j < y k := by
  haveI : Nonempty (Fin L) := ⟨⟨0, hL⟩⟩
  obtain ⟨m, -, hm⟩ := Finset.exists_max_image (Finset.univ : Finset (Fin L)) y Finset.univ_nonempty
  have hne : (Finset.univ.filter fun k : Fin L => y k = y m).Nonempty := ⟨m, by simp⟩
  obtain ⟨k, hk, hk'⟩ := Finset.exists_min_image (Finset.univ.filter fun k : Fin L => y k = y m) id hne
  have hkm : y k = y m := (Finset.mem_filter.mp hk).2
  have hle : ∀ j, y j ≤ y k := fun j => by rw [hkm]; exact hm j (Finset.mem_univ _)
  refine ⟨k, ?_, hle, fun j hj => lt_of_le_of_ne (hle j) fun e => ?_⟩
  · change Finset.univ.sup y = y k
    exact le_antisymm (Finset.sup_le fun j _ => hle j) (Finset.le_sup (Finset.mem_univ k))
  · exact absurd (hk' j (Finset.mem_filter.mpr ⟨Finset.mem_univ _, e.trans hkm⟩)) (not_le.mpr hj)

/-- One block of `L` columns, from `m` on, of which those below `N` count: the best over the first `N` columns. -/
theorem Best.step {m N L : ℕ} {g : ℕ → EReal} {b : BitVec 32} {v : EReal} (hB : Best m g b v) (y : Fin L → EReal) (w : Fin L → BitVec 32)
    (hmN : m < N) (hNL : N ≤ m + L) (hbig : m + L < 2147483647) (hg : ∀ j < N, ⊥ < g j)
    (hy : ∀ j : Fin L, y j = if m + j.val < N then g (m + j.val) else ⊥) (hw : ∀ j : Fin L, w j = BitVec.ofNat 32 (m + j.val)) :
    Best N g
      (if v < Finset.univ.fold max ⊥ y then
        Finset.univ.fold IntOp.minsi 2147483647#32 (fun j => if y j = Finset.univ.fold max ⊥ y then w j else 2147483647#32) else b)
      (if v < Finset.univ.fold max ⊥ y then Finset.univ.fold max ⊥ y else v) := by
  obtain ⟨k, hM, hle, hlt⟩ := block_first (by omega : 0 < L) y
  have h0 : (⊥ : EReal) < y ⟨0, by omega⟩ := by rw [hy, if_pos (by simpa using hmN)]; exact hg _ (by simpa using hmN)
  have hMb : ⊥ < y k := lt_of_lt_of_le h0 (hle _)
  have hkN : m + k.val < N := by
    by_contra hc
    rw [hy, if_neg hc] at hMb
    exact lt_irrefl _ hMb
  have hgk : y k = g (m + k.val) := by rw [hy, if_pos hkN]
  have hblk : ∀ j, m ≤ j → j < N → g j ≤ g (m + k.val) := fun j h1 h2 => by
    have e := hy ⟨j - m, by omega⟩
    rw [if_pos (by simp only; omega)] at e
    rw [show m + (j - m) = j by omega] at e
    rw [← e, ← hgk]; exact hle _
  have hK : Finset.univ.fold IntOp.minsi 2147483647#32 (fun j => if y j = y k then w j else 2147483647#32) = BitVec.ofNat 32 (m + k.val) := by
    have ek : (BitVec.ofNat 32 (m + k.val)).toInt = ((m + k.val : ℕ) : ℤ) := toInt_ofNat_small (by have := k.isLt; omega)
    have etop : (2147483647#32 : BitVec 32).toInt = 2147483647 := by decide
    refine fold_minsi_eq _ _ _ ?_ k ?_ fun j => ?_
    · rw [ek, etop]; have := k.isLt; omega
    · rw [if_pos rfl, hw]
    · by_cases hj : y j = y k
      · rw [if_pos hj, hw, ek, toInt_ofNat_small (by have := j.isLt; omega)]
        have : ¬ j < k := fun hjk => absurd hj (ne_of_lt (hlt j hjk))
        have : k.val ≤ j.val := not_lt.mp this
        omega
      · rw [if_neg hj, ek, etop]; have := k.isLt; omega
  rw [hM, hK]
  by_cases hv : v < y k
  · rw [if_pos hv, if_pos hv]
    refine Or.inr ⟨m + k.val, ⟨hkN, fun j hj => ?_, fun j hj => ?_⟩, rfl, hgk⟩
    · rcases Nat.lt_or_ge j m with h | h
      · rcases hB with ⟨rfl, -, -⟩ | ⟨l, hl, -, rfl⟩
        · omega
        · exact le_of_lt (lt_of_le_of_lt (hl.2.1 j h) (hgk ▸ hv))
      · exact hblk j h hj
    · rcases Nat.lt_or_ge j m with h | h
      · rcases hB with ⟨rfl, -, -⟩ | ⟨l, hl, -, rfl⟩
        · omega
        · exact lt_of_le_of_lt (hl.2.1 j h) (hgk ▸ hv)
      · have e := hy ⟨j - m, by have := k.isLt; omega⟩
        rw [if_pos (by simp only; omega)] at e
        rw [show m + (j - m) = j by omega] at e
        rw [← e, ← hgk]
        exact hlt _ (by rw [Fin.lt_def]; simp only; omega)
  · rw [if_neg hv, if_neg hv]
    rcases hB with ⟨-, -, rfl⟩ | ⟨l, hl, rfl, rfl⟩
    · exact absurd hMb hv
    · refine Or.inr ⟨l, ⟨lt_trans hl.1 hmN, fun j hj => ?_, hl.2.2⟩, rfl, rfl⟩
      rcases Nat.lt_or_ge j m with h | h
      · exact hl.2.1 j h
      · exact le_trans (hblk j h hj) (hgk ▸ not_lt.mp hv)

/-- A sum over the first `N` columns, a block of `L` columns from `m` on added to the sum of the first `m`. -/
theorem sum_step {m N L : ℕ} (e : ℕ → EReal) (y : Fin L → EReal) (hmN : m ≤ N) (hNL : N ≤ m + L)
    (hy : ∀ j : Fin L, y j = if m + j.val < N then e (m + j.val) else 0) :
    ∑ c ∈ Finset.range m, e c + ∑ j, y j = ∑ c ∈ Finset.range N, e c := by
  have h1 : ∑ j, y j = ∑ j ∈ Finset.range L, (if m + j < N then e (m + j) else 0) := by
    rw [Finset.sum_range]; exact Finset.sum_congr rfl fun j _ => hy j
  have h2 : ∑ j ∈ Finset.range L, (if m + j < N then e (m + j) else 0) = ∑ j ∈ Finset.range (N - m), e (m + j) := by
    rw [← Finset.sum_filter]
    refine Finset.sum_congr ?_ fun _ _ => rfl
    ext j; simp only [Finset.mem_filter, Finset.mem_range]; omega
  rw [h1, h2, ← Finset.sum_range_add, show m + (N - m) = N by omega]

end Cert.Proof

end
-- ==== Proof.RefSoft.lean ====
/- The reference's softmax over the extended reals: at a finite array every row's entries are the exponentials divided by their sum. -/
module

public import proofs.«01_k».proof.Proof.RefFacts
public import proofs.«01_k».proof.Proof.Noise
public import proofs.«01_k».proof.Proof.Best
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe
open Cert.Proof

/-- The exponentials of an array's entries less their row's maximum. -/
def shifted (X : S32x1000000.Idx → EReal) : S32x1000000.Idx → EReal :=
  Host.exp (F := Ideal) (φ := .f32) (subf X (broadcastInDim S32x1000000 ![0, 1] bcast_S32x1_S32x1000000_0_1 (broadcastInDim S32x1 ![0] bcast_S32_S32x1_0
    (maximumf (F := Ideal) (φ := .f32) (broadcastInDim S32 ![] bcast_S_S32 (constant S_ .f32 0xFF800000#32))
      (Host.reduce FloatOps.maximumf X (constant S_ .f32 0xFF800000#32) reducesTo_S32x1000000_S32_d1 h_S_)))))

/-- An array's entries divided by their row's sum. -/
def shares (E : S32x1000000.Idx → EReal) : S32x1000000.Idx → EReal :=
  Host.divf (F := Ideal) (φ := .f32) E (broadcastInDim S32x1000000 ![0, 1] bcast_S32x1_S32x1000000_0_1 (broadcastInDim S32x1 ![0] bcast_S32_S32x1_0
    (Host.reduceAdd (F := Ideal) (φ := .f32) E (constant S_ .f32 0x00000000#32) reducesTo_S32x1000000_S32_d1 h_S_)))

/-- A row's maximum. -/
theorem row_fold {a b : ℕ} (X : (⟨2, ![a, b]⟩ : Shape).Idx → EReal) (h : (⟨2, ![a, b]⟩ : Shape).ReducesTo [1] ⟨1, ![a]⟩) (r : Fin a) :
    Host.reduce (FloatOps.maximumf (F := Ideal) (φ := .f32)) X (constant S_ .f32 0xFF800000#32) h h_S_ (ix1 r)
      = Finset.univ.fold max ⊥ fun l : Fin b => X (ix2 r l) := by
  pointwise
  rw [bits_bot]

/-- A row's sum. -/
theorem row_sum {a b : ℕ} (X : (⟨2, ![a, b]⟩ : Shape).Idx → EReal) (h : (⟨2, ![a, b]⟩ : Shape).ReducesTo [1] ⟨1, ![a]⟩) (r : Fin a) :
    Host.reduceAdd (F := Ideal) (φ := .f32) X (constant S_ .f32 0x00000000#32) h h_S_ (ix1 r)
      = ∑ l : Fin b, X (ix2 r l) := by
  pointwise

/-- A row's number at each of its elements. -/
theorem spread_row (v : S32.Idx → EReal) (r : Fin 32) (n : Fin 1000000) :
    broadcastInDim S32x1000000 ![0, 1] bcast_S32x1_S32x1000000_0_1 (broadcastInDim S32x1 ![0] bcast_S32_S32x1_0 v) (ix2 r n) = v (ix1 r) := by
  pointwise

theorem exp_sub_apply (X : S32x1000000.Idx → EReal) (v : S32.Idx → EReal) (r : Fin 32) (n : Fin 1000000) :
    Host.exp (F := Ideal) (φ := .f32) (subf X (broadcastInDim S32x1000000 ![0, 1] bcast_S32x1_S32x1000000_0_1 (broadcastInDim S32x1 ![0] bcast_S32_S32x1_0 v)))
      (ix2 r n) = Ideal.exp (X (ix2 r n) - v (ix1 r)) := by
  pointwise

theorem above_apply (v : S32.Idx → EReal) (r : Fin 32) :
    maximumf (F := Ideal) (φ := .f32) (broadcastInDim S32 ![] bcast_S_S32 (constant S_ .f32 0xFF800000#32)) v (ix1 r) = max ⊥ (v (ix1 r)) := by
  pointwise
  rw [bits_bot]

theorem div_row_apply (E : S32x1000000.Idx → EReal) (v : S32.Idx → EReal) (r : Fin 32) (n : Fin 1000000) :
    Host.divf (F := Ideal) (φ := .f32) E (broadcastInDim S32x1000000 ![0, 1] bcast_S32x1_S32x1000000_0_1 (broadcastInDim S32x1 ![0] bcast_S32_S32x1_0 v))
      (ix2 r n) = Ideal.div (E (ix2 r n)) (v (ix1 r)) := by
  pointwise

theorem shifted_apply (X : S32x1000000.Idx → EReal) (r : Fin 32) (n : Fin 1000000) :
    shifted X (ix2 r n) = Ideal.exp (X (ix2 r n) - max ⊥ (Finset.univ.fold max ⊥ fun l : Fin 1000000 => X (ix2 r l))) := by
  unfold shifted
  rw [exp_sub_apply, above_apply]
  rw [row_fold]

theorem shares_apply (E : S32x1000000.Idx → EReal) (r : Fin 32) (n : Fin 1000000) :
    shares E (ix2 r n) = Ideal.div (E (ix2 r n)) (∑ l : Fin 1000000, E (ix2 r l)) := by
  unfold shares
  rw [div_row_apply]
  rw [row_sum]

/-- A sum of real numbers, taken among the extended ones. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- At a row of real numbers the softmax is a quotient of real numbers. -/
theorem soft_apply (X : S32x1000000.Idx → EReal) (r : Fin 32) (x : Fin 1000000 → ℝ) (hx : ∀ n, X (ix2 r n) = (x n : EReal)) :
    ∃ M : ℝ, ∀ n, shares (shifted X) (ix2 r n) = ((Real.exp (x n - M) / ∑ l, Real.exp (x l - M) : ℝ) : EReal) := by
  obtain ⟨k, hM, -, -⟩ := block_first (by omega : 0 < 1000000) (fun l : Fin 1000000 => X (ix2 r l))
  refine ⟨x k, fun n => ?_⟩
  have hE : ∀ l, shifted X (ix2 r l) = ((Real.exp (x l - x k) : ℝ) : EReal) := fun l => by
    rw [shifted_apply, hM, max_eq_right bot_le, hx, hx, ← EReal.coe_sub, Ideal.exp_coe]
  have hpos : 0 < ∑ l, Real.exp (x l - x k) := Finset.sum_pos (fun l _ => Real.exp_pos _) ⟨k, Finset.mem_univ _⟩
  rw [shares_apply, hE, Finset.sum_congr rfl (fun l _ => hE l), ← coe_sum, Ideal.div_coe hpos.ne', ← EReal.coe_mul]
  exact congrArg Real.toEReal (mul_one_div _ _)

/-- The point the exponents are shifted by makes no difference. -/
theorem shift_eq {ι : Type} [Fintype ι] (x : ι → ℝ) (a b : ℝ) (n : ι) :
    Real.exp (x n - a) / ∑ l, Real.exp (x l - a) = Real.exp (x n - b) * (1 / ∑ l, Real.exp (x l - b)) := by
  have h : ∀ l, Real.exp (x l - a) = Real.exp (b - a) * Real.exp (x l - b) := fun l => by rw [← Real.exp_add]; congr 1; ring
  rw [Finset.sum_congr rfl (fun l _ => h l), h n, ← Finset.mul_sum, mul_div_mul_left _ _ (Real.exp_ne_zero _)]
  ring

end Cert.ReferenceIdeal.Value

end
-- ==== Proof.RefPick.lean ====
/- The reference's arg-max, which is the row's first greatest column, and its one-hot rows, a scatter of ones at those columns. -/
module

public import proofs.«01_k».proof.Proof.RefFacts
public import proofs.«01_k».proof.Proof.Best
public import proofs.«01_k».proof.Proof.Noise
public import Idealize.ShloMosaic.Lib.Pointwise
public import Idealize.ShloMosaic.Lib.Routing.OpsPair

@[expose] public section

set_option maxRecDepth 16384

noncomputable section

namespace Cert.ReferenceIdeal.Value

open Cert.ReferenceIdeal Cert.ReferenceIdeal.Gen Idealize.ShloMosaic Idealize.ShloMosaic.TcCoe
open Cert.Proof

/-- A pair comes no later than another: its value is lower, or the values are equal and its column is no earlier. -/
def Under (p q : EReal × BitVec 32) : Prop := p.1 < q.1 ∨ (p.1 = q.1 ∧ q.2.toInt ≤ p.2.toInt)

/-- The arg-max's body, in words. -/
theorem reducer_eq (a b : EReal × BitVec 32) :
    reducer_argmax_f32_i32 (F := Ideal) a b = if b.1 < a.1 then a else if a.1 = b.1 ∧ a.2.toInt < b.2.toInt then (b.1, a.2) else b := by
  obtain ⟨a1, a2⟩ := a
  obtain ⟨b1, b2⟩ := b
  simp only [reducer_argmax_f32_i32, Ideal.cmpf_def, Ideal.cmp, IntOp.ori, IntOp.andi, IntOp.cmpi, Scalar.select]
  by_cases h1 : b1 < a1
  · simp [h1, h1.ne']
  · by_cases h2 : a1 = b1
    · subst h2
      by_cases h3 : a2.toInt < b2.toInt
      · simp [h3, BitVec.slt]
      · simp [h3, BitVec.slt]
    · simp [h1, h2]

theorem Under.refl (p : EReal × BitVec 32) : Under p p := Or.inr ⟨rfl, le_refl _⟩

/-- The body keeps the better pair whichever side it is on. -/
theorem reducer_right {p B : EReal × BitVec 32} (h : Under p B) : reducer_argmax_f32_i32 (F := Ideal) p B = B := by
  rw [reducer_eq]
  rcases h with h | ⟨h, h'⟩
  · rw [if_neg (not_lt.mpr h.le), if_neg (fun e => absurd e.1 h.ne)]
  · rw [if_neg (by rw [h]; exact lt_irrefl _), if_neg (fun e => absurd e.2 (not_lt.mpr h'))]

theorem reducer_left {p B : EReal × BitVec 32} (h : Under p B) : reducer_argmax_f32_i32 (F := Ideal) B p = B := by
  rw [reducer_eq]
  rcases h with h | ⟨h, h'⟩
  · rw [if_pos h]
  · rw [if_neg (by rw [h]; exact lt_irrefl _)]
    by_cases e : B.2.toInt < p.2.toInt
    · rw [if_pos ⟨h.symm, e⟩, h]
    · rw [if_neg (fun e' => e e'.2)]
      exact Prod.ext h (BitVec.eq_of_toInt_eq (le_antisymm (not_lt.mp e) h'))

/-- It gives one of its two pairs' values, no better than a pair that bounds both. -/
theorem reducer_under {p q B : EReal × BitVec 32} (hp : Under p B) (hq : Under q B) : Under (reducer_argmax_f32_i32 (F := Ideal) p q) B := by
  rw [reducer_eq]
  split_ifs with h1 h2
  · exact hp
  · rw [← h2.1]; exact hp
  · exact hq

/-- Folding over a list that holds a pair bounding them all gives that pair. -/
theorem fold_reducer (B : EReal × BitVec 32) (L : List (EReal × BitVec 32)) (p : EReal × BitVec 32)
    (hp : Under p B) (hL : ∀ q ∈ L, Under q B) (hB : p = B ∨ B ∈ L) : L.foldl (reducer_argmax_f32_i32 (F := Ideal)) p = B := by
  induction L generalizing p with
  | nil => exact hB.resolve_right (by simp)
  | cons q L ih =>
    have hq := hL q (List.mem_cons_self ..)
    refine ih _ (reducer_under hp hq) (fun x hx => hL x (List.mem_cons_of_mem _ hx)) ?_
    rcases hB with rfl | hB
    · exact Or.inl (reducer_left hq)
    · rcases List.mem_cons.mp hB with rfl | hB
      · exact Or.inl (reducer_right hp)
      · exact Or.inr hB

/-- The arg-max of a row of real numbers is its first greatest column. -/
theorem argmax_apply (P : S32x1000000.Idx → EReal) (r : Fin 32) (g : ℕ → EReal) (hg : ∀ n : Fin 1000000, P (ix2 r n) = g n.val)
    (hb : ∀ n, ⊥ < g n) (k : ℕ) (hk : First 1000000 g k) :
    (Host.argReduce (F := Ideal) (φ := .f32) reducer_argmax_f32_i32 P (iotaInDim S32x1000000 32 1) (constant S_ .f32 0xFF800000#32) (constantI S_ 32 0#32)
      reducesTo_S32x1000000_S32_d1 h_S_ (ix1 r)).2 = BitVec.ofNat 32 k := by
  rw [Ideal.argReduce_eq_reduce2, Host.reduce2_eq_foldl_fiber]
  have hmem : ∀ q : EReal × BitVec 32, q ∈ Host.argReduceFiber (α := EReal) P (iotaInDim S32x1000000 32 1) reducesTo_S32x1000000_S32_d1 (ix1 r)
      ↔ ∃ n : Fin 1000000, (g n.val, BitVec.ofNat 32 n.val) = q := by
    intro q
    unfold Host.argReduceFiber
    simp only [List.mem_map, List.mem_filter, List.mem_finRange, true_and, decide_eq_true_eq]
    constructor
    · rintro ⟨m, hm, rfl⟩
      obtain ⟨n, hn⟩ := (reducesTo_S32x1000000_S32_d1.fiber_r2_a1 (ix1 r) _).mp hm
      refine ⟨n, ?_⟩
      rw [← hn]
      exact Prod.ext (hg n).symm rfl
    · rintro ⟨n, rfl⟩
      refine ⟨S32x1000000.rowMajor (ix2 r n), ?_, ?_⟩
      · rw [Equiv.symm_apply_apply]
        exact (reducesTo_S32x1000000_S32_d1.fiber_r2_a1 (ix1 r) _).mpr ⟨n, rfl⟩
      · rw [Equiv.symm_apply_apply]
        exact Prod.ext (hg n) rfl
  obtain ⟨hkn, hle, hlt⟩ := hk
  rw [fold_reducer (g k, BitVec.ofNat 32 k)]
  · exact Or.inl (by rw [show constant (F := Ideal) S_ .f32 0xFF800000#32 (Shape.Idx.first h_S_) = (⊥ : EReal) from bits_bot]; exact hb k)
  · intro q hq
    obtain ⟨n, rfl⟩ := (hmem q).mp hq
    rcases (hle n.val n.isLt).lt_or_eq with h | h
    · exact Or.inl h
    · refine Or.inr ⟨h, ?_⟩
      have hkn' : k ≤ n.val := not_lt.mp fun e => absurd h (hlt _ e).ne
      change (BitVec.ofNat 32 k).toInt ≤ (BitVec.ofNat 32 n.val).toInt
      rw [toInt_ofNat_small (by omega), toInt_ofNat_small (by have := n.isLt; omega)]
      exact_mod_cast hkn'
  · exact Or.inr ((hmem _).mpr ⟨⟨k, hkn⟩, rfl⟩)

/-- Folding a write of one value under a condition. -/
theorem fold_write {α β : Type} (p : β → Prop) [DecidablePred p] (c : α) (L : List β) (a : α) :
    L.foldl (fun a n => if p n then c else a) a = if ∃ n ∈ L, p n then c else a := by
  induction L generalizing a with
  | nil => simp
  | cons x L ih =>
    rw [List.foldl_cons, ih]
    by_cases h : ∃ n ∈ L, p n
    · rw [if_pos h, if_pos (by obtain ⟨n, hn, h⟩ := h; exact ⟨n, List.mem_cons_of_mem _ hn, h⟩)]
    · rw [if_neg h]
      by_cases hx : p x
      · rw [if_pos hx, if_pos ⟨x, List.mem_cons_self .., hx⟩]
      · rw [if_neg hx, if_neg]
        rintro ⟨n, hn, hpn⟩
        rcases List.mem_cons.mp hn with rfl | hn
        · exact hx hpn
        · exact h ⟨n, hn, hpn⟩

/-- The element an update lands at, from its two words. -/
theorem lands (idx : S32x2.Idx → BitVec 32) (q r : Fin 32) (n : Fin 1000000) :
    scatter_S32x1000000_S32x2_S32_n_01_01_1.resultIdx? (ix1 q) idx = some (ix2 r n)
      ↔ (idx (ix2 q 0)).toInt = r.val ∧ (idx (ix2 q 1)).toInt = n.val := by
  have s0 : scatter_S32x1000000_S32x2_S32_n_01_01_1.start (ix1 q) idx 0 = (idx (ix2 q 0)).toInt := by
    refine (dif_pos (by decide)).trans (congrArg (fun i => (idx i).toInt) (funext fun a => ?_))
    fin_cases a <;> rfl
  have s1 : scatter_S32x1000000_S32x2_S32_n_01_01_1.start (ix1 q) idx 1 = (idx (ix2 q 1)).toInt := by
    refine (dif_pos (by decide)).trans (congrArg (fun i => (idx i).toInt) (funext fun a => ?_))
    fin_cases a <;> rfl
  have w : ∀ a, scatter_S32x1000000_S32x2_S32_n_01_01_1.window (ix1 q) a = 0 := by
    intro a; fin_cases a <;> rfl
  have hr := r.isLt
  have hn := n.isLt
  unfold ScatterDims.resultIdx?
  constructor
  · intro e
    split at e
    · rename_i h
      have e := Option.some.inj e
      have h0 := h 0
      have h1 := h 1
      have e0 := congrArg Fin.val (congrFun e 0)
      have e1 := congrArg Fin.val (congrFun e 1)
      simp only [w, s0, s1] at h0 h1 e0 e1
      change _ = r.val at e0
      change _ = n.val at e1
      omega
    · exact absurd e nofun
  · rintro ⟨e0, e1⟩
    rw [dif_pos]
    · refine congrArg some (funext fun a => Fin.ext ?_)
      fin_cases a
      · change (scatter_S32x1000000_S32x2_S32_n_01_01_1.start (ix1 q) idx 0 + (scatter_S32x1000000_S32x2_S32_n_01_01_1.window (ix1 q) 0 : ℕ)).toNat = r.val
        rw [w, s0, e0]; simp
      · change (scatter_S32x1000000_S32x2_S32_n_01_01_1.start (ix1 q) idx 1 + (scatter_S32x1000000_S32x2_S32_n_01_01_1.window (ix1 q) 1 : ℕ)).toNat = n.val
        rw [w, s1, e1]; simp
    · intro a
      fin_cases a
      · change 0 ≤ scatter_S32x1000000_S32x2_S32_n_01_01_1.start (ix1 q) idx 0 + (scatter_S32x1000000_S32x2_S32_n_01_01_1.window (ix1 q) 0 : ℕ)
          ∧ scatter_S32x1000000_S32x2_S32_n_01_01_1.start (ix1 q) idx 0 + (scatter_S32x1000000_S32x2_S32_n_01_01_1.window (ix1 q) 0 : ℕ) < ((32 : ℕ) : ℤ)
        rw [w, s0, e0]; exact ⟨by omega, by omega⟩
      · change 0 ≤ scatter_S32x1000000_S32x2_S32_n_01_01_1.start (ix1 q) idx 1 + (scatter_S32x1000000_S32x2_S32_n_01_01_1.window (ix1 q) 1 : ℕ)
          ∧ scatter_S32x1000000_S32x2_S32_n_01_01_1.start (ix1 q) idx 1 + (scatter_S32x1000000_S32x2_S32_n_01_01_1.window (ix1 q) 1 : ℕ) < ((1000000 : ℕ) : ℤ)
        rw [w, s1, e1]; exact ⟨by omega, by omega⟩

/-- The two words of each update. -/
theorem pairs_apply (a b : S32.Idx → BitVec 32) (r : Fin 32) :
    concatenate S32x2 1 [⟨S32x1, broadcastInDim S32x1 ![0] bcast_S32_S32x1_0 a⟩, ⟨S32x1, broadcastInDim S32x1 ![0] bcast_S32_S32x1_0 b⟩]
        concatenates_S32x1_S32x1_S32x2_d1 (ix2 r 0) = a (ix1 r)
    ∧ concatenate S32x2 1 [⟨S32x1, broadcastInDim S32x1 ![0] bcast_S32_S32x1_0 a⟩, ⟨S32x1, broadcastInDim S32x1 ![0] bcast_S32_S32x1_0 b⟩]
        concatenates_S32x1_S32x1_S32x2_d1 (ix2 r 1) = b (ix1 r) := by
  constructor
  · pointwise
  · pointwise

/-- A word that is not negative is the index itself. -/
theorem wrap_apply (y m : S32.Idx → BitVec 32) (r : Fin 32) (k : ℕ) (hk : k < 1000000) (hy : y (ix1 r) = BitVec.ofNat 32 k) :
    select (cmpi .slt y (broadcastInDim S32 ![] bcast_S_S32 (constantI S_ 32 0#32))) m y (ix1 r) = BitVec.ofNat 32 k := by
  have h : (BitVec.ofNat 32 k).slt 0#32 = false := by
    rw [BitVec.slt, toInt_ofNat_small (by omega)]
    simp
  change Scalar.select (IntOp.cmpi .slt (y (ix1 r)) 0#32) _ (y (ix1 r)) = _
  rw [hy]
  simp [Scalar.select, IntOp.cmpi, h]

/-- The pairs of words the reference scatters at: the row and a column. -/
def pairs (y : S32.Idx → BitVec 32) : S32x2.Idx → BitVec 32 :=
  concatenate S32x2 1 [⟨S32x1, (broadcastInDim S32x1 ![0] bcast_S32_S32x1_0 (select (cmpi .slt (iotaInDim S32 32 0) (broadcastInDim S32 ![] bcast_S_S32 (constantI S_ 32 0#32))) (addi (iotaInDim S32 32 0) (broadcastInDim S32 ![] bcast_S_S32 (constantI S_ 32 32#32))) (iotaInDim S32 32 0)))⟩,
    ⟨S32x1, (broadcastInDim S32x1 ![0] bcast_S32_S32x1_0 (select (cmpi .slt y (broadcastInDim S32 ![] bcast_S_S32 (constantI S_ 32 0#32))) (addi y (broadcastInDim S32 ![] bcast_S_S32 (constantI S_ 32 1000000#32))) y))⟩] concatenates_S32x1_S32x1_S32x2_d1

theorem pairs_row (y : S32.Idx → BitVec 32) (q : Fin 32) : pairs y (ix2 q 0) = BitVec.ofNat 32 q.val :=
  (pairs_apply _ _ q).1.trans (wrap_apply (iotaInDim S32 32 0) _ q q.val (by have := q.isLt; omega) rfl)

theorem pairs_col (y : S32.Idx → BitVec 32) (q : Fin 32) (k : ℕ) (hk : k < 1000000) (hy : y (ix1 q) = BitVec.ofNat 32 k) :
    pairs y (ix2 q 1) = BitVec.ofNat 32 k :=
  (pairs_apply _ _ q).2.trans (wrap_apply y _ q k hk hy)

/-- The reference's one-hot rows. -/
def hot (W : S32x2.Idx → BitVec 32) : S32x1000000.Idx → EReal :=
  Host.scatter scatter_S32x1000000_S32x2_S32_n_01_01_1 (fun _ b => b) (broadcastInDim S32x1000000 ![] bcast_S_S32x1000000 (constant (F := Ideal) S_ .f32 0x00000000#32))
    W (broadcastInDim S32 ![] bcast_S_S32 (constant (F := Ideal) S_ .f32 0x3F800000#32))

theorem hot_apply (W : S32x2.Idx → BitVec 32) (k : Fin 32 → ℕ) (hk : ∀ r, k r < 1000000) (h0 : ∀ q : Fin 32, W (ix2 q 0) = BitVec.ofNat 32 q.val)
    (h1 : ∀ q : Fin 32, W (ix2 q 1) = BitVec.ofNat 32 (k q)) (r : Fin 32) (n : Fin 1000000) : hot W (ix2 r n) = if n.val = k r then 1 else 0 := by
  have hl : ∀ q : Fin 32, scatter_S32x1000000_S32x2_S32_n_01_01_1.resultIdx? (ix1 q) W = some (ix2 r n) ↔ q = r ∧ n.val = k r := fun q => by
    rw [lands, h0, h1, toInt_ofNat_small (by have := q.isLt; omega), toInt_ofNat_small (by have := hk q; omega)]
    constructor
    · rintro ⟨e0, e1⟩
      have e : q = r := Fin.ext (by exact_mod_cast e0)
      subst e
      exact ⟨rfl, by exact_mod_cast e1.symm⟩
    · rintro ⟨rfl, e⟩
      exact ⟨rfl, by rw [e]⟩
  unfold hot
  rw [Routing.scatter_at]
  have key : (∃ m ∈ List.finRange S32.numel, scatter_S32x1000000_S32x2_S32_n_01_01_1.resultIdx? (S32.rowMajor.symm m) W = some (ix2 r n)) ↔ n.val = k r := by
    constructor
    · rintro ⟨m, -, hm⟩
      obtain ⟨q, hq⟩ : ∃ q : Fin 32, S32.rowMajor.symm m = ix1 q := ⟨S32.rowMajor.symm m 0, funext fun a => by fin_cases a; rfl⟩
      rw [hq] at hm
      exact ((hl q).mp hm).2
    · intro e
      refine ⟨S32.rowMajor (ix1 r), List.mem_finRange _, ?_⟩
      rw [Equiv.symm_apply_apply]
      exact (hl r).mpr ⟨rfl, e⟩
  refine (fold_write (fun m => scatter_S32x1000000_S32x2_S32_n_01_01_1.resultIdx? (S32.rowMajor.symm m) W = some (ix2 r n)) (Ideal.ofBits .f32 0x3F800000#32)
    (List.finRange S32.numel) (Ideal.ofBits .f32 0x00000000#32)).trans ?_
  by_cases e : n.val = k r
  · rw [if_pos (key.mpr e), if_pos e, bits_one]
  · rw [if_neg (fun h => e (key.mp h)), if_neg e, bits_zero]

end Cert.ReferenceIdeal.Value

end
-- ==== Proof.StatsPay.lean ====
/- The first call's payloads over the extended reals, read at a row. -/
module

public import proofs.«01_k».proof.Proof.Region1
public import proofs.«01_k».proof.Proof.Words
public import proofs.«01_k».proof.Proof.Noise
public import proofs.«01_k».proof.Proof.Best

@[expose] public section

set_option maxRecDepth 16384

noncomputable section

namespace Cert.Proof.KI

open Cert.KernelIdeal Cert.KernelIdeal.Gen
open Idealize.ShloMosaic Cert.Proof

theorem p45 (x : S32x8192.Idx → EReal) (s : S32x1.Idx → EReal) (r : Fin 32) :
    k0_pay45 (F := Ideal) x s (ix2 r 0) = s (ix2 r 0) + ∑ l, Ideal.exp (x (ix2 r l) - Ideal.ofBits .f32 0x41400000#32) := by
  unfold k0_pay45
  pointwise

theorem p100 (x : S32x8192.Idx → EReal) (s : S32x1.Idx → EReal) (r : Fin 32) :
    k0_pay100 (F := Ideal) x s (ix2 r 0) = s (ix2 r 0) + ∑ l, Ideal.exp (x (ix2 r l) - Ideal.ofBits .f32 0x41400000#32) := by
  unfold k0_pay100
  pointwise

theorem p51 (x : S32x8192.Idx → EReal) (v7 : IVec S32x8192 32) (j : S32x8192.Idx) :
    k0_pay51 (F := Ideal) x v7 j = if k0_pay50 v7 j = 1#1 then x j else ⊥ := by
  rw [← bits_bot]; rfl

/-- The scores of a block, from its random words. -/
theorem p44w (x : S32x8192.Idx → EReal) (w : IVec S32x8192 32) (j : S32x8192.Idx) :
    k0_pay44 (F := Ideal) x w 1065353216#32 j = x j + (0 - Ideal.log (0 - Ideal.log (max (Ideal.ofBits .f32 8388608#32)
      (Ideal.ofBits .f32 (IntOp.ori (w j) 1065353216#32) - 1 + Ideal.ofBits .f32 8388608#32)))) := by
  unfold k0_pay44
  pointwise

theorem p99w (x : S32x8192.Idx → EReal) (v : IVec S32x8192 1) (a b e : IVec S32x8192 32) (j : S32x8192.Idx) :
    k0_pay99 (F := Ideal) x v a b e j = Scalar.select (v j) (x j + (0 - Ideal.log (0 - Ideal.log (max (Ideal.ofBits .f32 8388608#32)
      (Ideal.ofBits .f32 (IntOp.ori (IntOp.shrui .vector (IntOp.xori (a j) (IntOp.addi (b j) (e j))) 9#32) 1065353216#32) - 1
        + Ideal.ofBits .f32 8388608#32))))) (Ideal.ofBits .f32 0xFF800000#32) := by
  unfold k0_pay99
  pointwise

/-- A choice by a one-bit word. -/
theorem sel_def {α : Type} (c : BitVec 1) (a b : α) : Scalar.select c a b = if c = 1#1 then a else b := rfl

/-- The noise with its negations written as differences from zero. -/
theorem noise_sub (w : BitVec 32) : (0 - Ideal.log (0 - Ideal.log (max (Ideal.ofBits .f32 8388608#32)
    (Ideal.ofBits .f32 ((w >>> (9#32 : BitVec 32)) ||| 1065353216#32) - 1 + Ideal.ofBits .f32 8388608#32)))) = noise w := by
  rw [zero_sub, zero_sub, noise]

/-- The scores of a block, at a point that is not the last. -/
theorem p44 (x : S32x8192.Idx → EReal) (v7 : IVec S32x8192 32) (j : S32x8192.Idx) :
    k0_pay44 (F := Ideal) x (wordsFull v7) 1065353216#32 j = x j + noise (word (BitVec.ofNat 32 (j 0).val * 1000000#32 + v7 j)) := by
  rw [p44w, wordsFull_apply, ← noise_sub, IntOp.ori]

/-- The scores of the last block, minus infinity past the array. -/
theorem p99 (x : S32x8192.Idx → EReal) (v7 : IVec S32x8192 32) (j : S32x8192.Idx) :
    k0_pay99 (F := Ideal) x (k0_pay50 v7) (wordA v7).1 (wordA v7).2.1 (wordA v7).2.2 j
      = if k0_pay50 v7 j = 1#1 then x j + noise (word (BitVec.ofNat 32 (j 0).val * 1000000#32 + v7 j)) else ⊥ := by
  rw [p99w, IntOp.addi, wordA_apply, shrui_small _ _ _ (by decide), ← noise_sub, IntOp.ori, bits_bot, sel_def]

/-- The greatest score of a block. -/
theorem p46 (x : S32x8192.Idx → EReal) (w : IVec S32x8192 32) (r : Fin 32) :
    k0_pay46 (F := Ideal) x w 1065353216#32 (ix2 r 0) = Finset.univ.fold max ⊥ fun l => k0_pay44 (F := Ideal) x w 1065353216#32 (ix2 r l) := by
  rw [← bits_bot]
  unfold k0_pay46
  pointwise

theorem p101 (x : S32x8192.Idx → EReal) (v a b e) (r : Fin 32) :
    k0_pay101 (F := Ideal) x v a b e (ix2 r 0) = Finset.univ.fold max ⊥ fun l => k0_pay99 (F := Ideal) x v a b e (ix2 r l) := by
  rw [← bits_bot]
  unfold k0_pay101
  pointwise

/-- The first column of a block its greatest score stands at. -/
theorem p47 (x : S32x8192.Idx → EReal) (v7 w : IVec S32x8192 32) (r : Fin 32) :
    k0_pay47 (F := Ideal) x v7 w 1065353216#32 (ix2 r 0) = Finset.univ.fold IntOp.minsi 2147483647#32 fun l =>
      if k0_pay44 (F := Ideal) x w 1065353216#32 (ix2 r l) = k0_pay46 (F := Ideal) x w 1065353216#32 (ix2 r 0) then v7 (ix2 r l) else 2147483647#32 := by
  unfold k0_pay47
  pointwise

theorem p102 (x : S32x8192.Idx → EReal) (v7 : IVec S32x8192 32) (v a b e) (r : Fin 32) :
    k0_pay102 (F := Ideal) x v7 v a b e (ix2 r 0) = Finset.univ.fold IntOp.minsi 2147483647#32 fun l =>
      if k0_pay99 (F := Ideal) x v a b e (ix2 r l) = k0_pay101 (F := Ideal) x v a b e (ix2 r 0) then v7 (ix2 r l) else 2147483647#32 := by
  unfold k0_pay102
  pointwise

/-- The new best score, and the new best column. -/
theorem p49 (x : S32x8192.Idx → EReal) (w : IVec S32x8192 32) (b : S32x1.Idx → EReal) (r : Fin 32) :
    k0_pay49 (F := Ideal) x w 1065353216#32 b b (ix2 r 0)
      = if b (ix2 r 0) < k0_pay46 (F := Ideal) x w 1065353216#32 (ix2 r 0) then k0_pay46 (F := Ideal) x w 1065353216#32 (ix2 r 0) else b (ix2 r 0) := by
  unfold k0_pay49 k0_pay48
  pointwise

theorem p5 (x : S32x8192.Idx → EReal) (w : IVec S32x8192 32) (k : IVec S32x1 32) (v : S32x1.Idx → EReal) (b : IVec S32x1 32) (r : Fin 32) :
    k0_pay5 (F := Ideal) k (k0_pay48 (F := Ideal) x w 1065353216#32 v) b (ix2 r 0)
      = if v (ix2 r 0) < k0_pay46 (F := Ideal) x w 1065353216#32 (ix2 r 0) then k (ix2 r 0) else b (ix2 r 0) := by
  unfold k0_pay5 k0_pay48
  pointwise

theorem p7 (g : S32x1.Idx → EReal) (b : S32x1.Idx → EReal) (r : Fin 32) :
    k0_pay7 (F := Ideal) g b b (ix2 r 0) = if b (ix2 r 0) < g (ix2 r 0) then g (ix2 r 0) else b (ix2 r 0) := by
  unfold k0_pay7 k0_pay6
  pointwise

theorem p8 (g : S32x1.Idx → EReal) (k : IVec S32x1 32) (v : S32x1.Idx → EReal) (b : IVec S32x1 32) (r : Fin 32) :
    k0_pay8 (F := Ideal) g k v b (ix2 r 0) = if v (ix2 r 0) < g (ix2 r 0) then k (ix2 r 0) else b (ix2 r 0) := by
  unfold k0_pay8 k0_pay6
  pointwise

end Cert.Proof.KI

end
-- ==== Proof.StatsVal.lean ====
/- What the first call's statistics are over the extended reals: after its last point each row's sum is the sum of its shifted
   exponentials, and each row's index is the first column whose score — the logit with its noise — is greatest. -/
module

public import proofs.«01_k».proof.Proof.Region1
public import proofs.«01_k».proof.Proof.StatsPay

@[expose] public section

set_option maxRecDepth 16384

noncomputable section

namespace Cert.Proof.KI

open Cert.KernelIdeal Cert.KernelIdeal.Gen
open Idealize.ShloMosaic Cert.Proof

/-- The logit of row `r` at column `n`, zero past the array. -/
def lg (A : S32x1000000.Idx → EReal) (r : Fin 32) (n : ℕ) : EReal := if h : n < 1000000 then A (ix2 r ⟨n, h⟩) else 0

/-- The number of an element, as the word counted. -/
def cnt (r : Fin 32) (n : ℕ) : BitVec 32 := BitVec.ofNat 32 r.val * 1000000#32 + BitVec.ofNat 32 n

/-- The score of row `r` at column `n`. -/
def score (A : S32x1000000.Idx → EReal) (r : Fin 32) (n : ℕ) : EReal := lg A r n + noise (word (cnt r n))

/-- The shifted exponential of row `r` at column `n`. -/
def ex (A : S32x1000000.Idx → EReal) (r : Fin 32) (n : ℕ) : EReal := Ideal.exp (lg A r n - Ideal.ofBits .f32 0x41400000#32)

/-- The block of a point starts at column `8192` times the point. -/
theorem index0_col (t : Fin cfg0.N) : win0_0.index t 1 = (grid0.coords t 0).val := by
  have hi : (grid0.coords t 0).val < 123 := (grid0.coords t 0).isLt
  change (BitVec.ofNat 32 (grid0.coords t 0).val).toNat = _
  rw [BitVec.toNat_ofNat]; exact Nat.mod_eq_of_lt (by omega)

theorem lim (n : ℕ) (hn : n < 123) : n * 8192 + 8192 < 2147483647 := by omega

/-- What a block's buffer holds inside the array. -/
theorem xbuf_apply (c : Dev nD) (A : S32x1000000.Idx → EReal) (t : Fin cfg0.N) (r : Fin 32) (l : Fin 8192) (h : t.val * 8192 + l.val < 1000000) :
    xbuf (F := Ideal) c A t (ix2 r l) = lg A r (t.val * 8192 + l.val) := by
  have hm := (moved_iff0 (grid0.coords t) (ix2 r l)).mpr (by rw [coords0_val]; exact h)
  unfold xbuf Pipeline.Window.fill
  rw [dif_pos hm, lg, dif_pos h]
  refine congrArg A (funext fun a => Fin.ext ?_)
  fin_cases a
  · exact Pipeline.Window.rect_emb_val_of_index_zero win0_0 t 0 rfl _
  · refine (Pipeline.Window.rect_emb_val win0_0 t _ 1).trans ?_
    rw [index0_col, coords0_val]; rfl

/-- Every logit is a real number. -/
def Fin' (A : S32x1000000.Idx → EReal) : Prop := ∀ i, ∃ x : ℝ, A i = (x : EReal)

/-- So is every score. -/
theorem score_real (A : S32x1000000.Idx → EReal) (hA : Fin' A) (r : Fin 32) (n : ℕ) : ∃ x : ℝ, score A r n = (x : EReal) := by
  have h : ∃ x : ℝ, lg A r n = (x : EReal) := by
    unfold lg
    split
    · exact hA _
    · exact ⟨0, rfl⟩
  obtain ⟨x, hx⟩ := h
  obtain ⟨y, hy⟩ := noise_real (word (cnt r n))
  exact ⟨x + y, by rw [score, hx, hy, EReal.coe_add]⟩

theorem col_ix (t : Fin cfg0.N) (r : Fin 32) (l : Fin 8192) : k0_pay4 (grid0.coords t) (ix2 r l) = BitVec.ofNat 32 (t.val * 8192 + l.val) := by
  rw [col_apply, coords0_val]; rfl

/-- A point that is not the last, on the three statistics of a row. -/
theorem full_val (i : grid0.Coords) (x : S32x8192.Idx → EReal) (S : St Ideal) (g e : ℕ → EReal) (r : Fin 32) (n : ℕ) (hn : n < 122)
    (hx : ∀ l : Fin 8192, x (ix2 r l) + noise (word (cnt r (n * 8192 + l.val))) = g (n * 8192 + l.val))
    (he : ∀ l : Fin 8192, Ideal.exp (x (ix2 r l) - Ideal.ofBits .f32 0x41400000#32) = e (n * 8192 + l.val))
    (hc : ∀ l : Fin 8192, k0_pay4 i (ix2 r l) = BitVec.ofNat 32 (n * 8192 + l.val)) (hg : ∀ j, ⊥ < g j)
    (hs : S.s (ix2 r 0) = ∑ k ∈ Finset.range (n * 8192), e k) (hb : Best (n * 8192) g (S.bi (ix2 r 0)) (S.bv (ix2 r 0))) :
    (stepFull (F := Ideal) i x S).s (ix2 r 0) = ∑ k ∈ Finset.range (n * 8192 + 8192), e k
    ∧ Best (n * 8192 + 8192) g ((stepFull (F := Ideal) i x S).bi (ix2 r 0)) ((stepFull (F := Ideal) i x S).bv (ix2 r 0)) := by
  have hl : ∀ l : Fin 8192, n * 8192 + l.val < n * 8192 + 8192 := fun l => Nat.add_lt_add_left l.isLt _
  dsimp only [stepFull]
  refine ⟨?_, ?_⟩
  · rw [p45, hs]
    refine sum_step e _ (Nat.le_add_right _ _) (le_refl _) fun l => ?_
    rw [if_pos (hl l), he]
  · rw [p5, p49, p47, p46]
    refine Best.step hb _ _ (by omega) (le_refl _) (by omega) (fun j _ => hg j) (fun l => ?_) hc
    rw [if_pos (hl l), p44, hc, ← hx]
    rfl

/-- The last point, whose columns past `N` do not count. -/
theorem edge_val (i : grid0.Coords) (x : S32x8192.Idx → EReal) (S : St Ideal) (g e : ℕ → EReal) (r : Fin 32) (n N : ℕ) (hn : n < 123)
    (hN : n * 8192 < N) (hN' : N ≤ n * 8192 + 8192)
    (hv : ∀ l : Fin 8192, k0_pay50 (k0_pay4 i) (ix2 r l) = 1#1 ↔ n * 8192 + l.val < N)
    (hx : ∀ l : Fin 8192, n * 8192 + l.val < N → x (ix2 r l) + noise (word (cnt r (n * 8192 + l.val))) = g (n * 8192 + l.val))
    (he : ∀ l : Fin 8192, n * 8192 + l.val < N → Ideal.exp (x (ix2 r l) - Ideal.ofBits .f32 0x41400000#32) = e (n * 8192 + l.val))
    (hc : ∀ l : Fin 8192, k0_pay4 i (ix2 r l) = BitVec.ofNat 32 (n * 8192 + l.val)) (hg : ∀ j, ⊥ < g j)
    (hs : S.s (ix2 r 0) = ∑ k ∈ Finset.range (n * 8192), e k) (hb : Best (n * 8192) g (S.bi (ix2 r 0)) (S.bv (ix2 r 0))) :
    (stepEdge (F := Ideal) i x S).s (ix2 r 0) = ∑ k ∈ Finset.range N, e k
    ∧ Best N g ((stepEdge (F := Ideal) i x S).bi (ix2 r 0)) ((stepEdge (F := Ideal) i x S).bv (ix2 r 0)) := by
  have hlim := lim n hn
  dsimp only [stepEdge]
  refine ⟨?_, ?_⟩
  · rw [p100, hs]
    refine sum_step e _ (le_of_lt hN) hN' fun l => ?_
    rw [p51]
    by_cases h : n * 8192 + l.val < N
    · rw [if_pos ((hv l).mpr h), if_pos h, he l h]
    · rw [if_neg (fun e => h ((hv l).mp e)), if_neg h, bits_twelve]
      rfl
  · rw [p8, p7, p102, p101]
    refine Best.step hb _ _ hN hN' hlim (fun j _ => hg j) (fun l => ?_) hc
    rw [p99]
    by_cases h : n * 8192 + l.val < N
    · rw [if_pos ((hv l).mpr h), if_pos h, hc, ← hx l h]
      rfl
    · rw [if_neg (fun e => h ((hv l).mp e)), if_neg h]

/-- The columns the first `n` points cover. -/
def cov (n : ℕ) : ℕ := if n < 123 then n * 8192 else 1000000

/-- The statistics after the first `n` points are those of the columns the points cover. -/
theorem st_val (c : Dev nD) (A : S32x1000000.Idx → EReal) (hA : Fin' A) (r : Fin 32) (n : ℕ) (hn : n ≤ 123) :
    (st (F := Ideal) c A n).s (ix2 r 0) = ∑ k ∈ Finset.range (cov n), ex A r k
    ∧ Best (cov n) (score A r) ((st (F := Ideal) c A n).bi (ix2 r 0)) ((st (F := Ideal) c A n).bv (ix2 r 0)) := by
  have hg : ∀ j, ⊥ < score A r j := fun j => by
    obtain ⟨x, hx⟩ := score_real A hA r j
    rw [hx]; exact EReal.bot_lt_coe x
  induction n with
  | zero =>
    have h0 : cov 0 = 0 := by simp [cov]
    rw [h0]
    refine ⟨?_, Or.inl ⟨rfl, rfl, ?_⟩⟩
    · rw [Finset.range_zero, Finset.sum_empty]; exact bits_zero
    · exact bits_bot
  | succ n ih =>
    obtain ⟨hs, hb⟩ := ih (Nat.le_of_succ_le hn)
    have hc0 : cov n = n * 8192 := if_pos (by omega)
    rw [hc0] at hs hb
    obtain ⟨t, rfl⟩ : ∃ t : Fin cfg0.N, t.val = n := ⟨⟨n, lt_of_lt_of_eq (by omega : n < 123) N_0.symm⟩, rfl⟩
    rw [st_succ]
    by_cases hn' : t.val < 122
    · rw [if_pos hn', show cov (t.val + 1) = t.val * 8192 + 8192 from (if_pos (by omega)).trans (Nat.succ_mul _ _)]
      have hlt : ∀ l : Fin 8192, t.val * 8192 + l.val < 1000000 := fun l => by have := l.isLt; omega
      exact full_val _ _ _ _ _ r t.val hn' (fun l => by rw [xbuf_apply c A t r l (hlt l)]; rfl)
        (fun l => by rw [xbuf_apply c A t r l (hlt l)]; rfl) (col_ix t r) hg hs hb
    · rw [if_neg hn', show cov (t.val + 1) = 1000000 from if_neg (by omega)]
      exact edge_val _ _ _ _ _ r t.val 1000000 (by omega) (by omega) (by omega)
        (fun l => by rw [valid_iff, coords0_val]; rfl) (fun l h => by rw [xbuf_apply c A t r l h]; rfl)
        (fun l h => by rw [xbuf_apply c A t r l h]; rfl) (col_ix t r) hg hs hb

end Cert.Proof.KI

end
-- ==== Proof.RefVal.lean ====
/- The reference's two results over the extended reals at a finite array: the softmax, and the one-hot row of the first column whose
   score is greatest. -/
module

public import proofs.«01_k».proof.Proof.RefDrawn
public import proofs.«01_k».proof.Proof.RefSoft
public import proofs.«01_k».proof.Proof.RefPick
public import proofs.«01_k».proof.Proof.StatsVal

@[expose] public section

set_option maxRecDepth 16384

noncomputable section

namespace Cert.ReferenceIdeal.Value

open Cert.ReferenceIdeal Cert.ReferenceIdeal.Gen Idealize.ShloMosaic Idealize.ShloMosaic.TcCoe
open Cert.Proof
open Cert.Proof.KI (lg cnt score Fin' score_real)

/-- The perturbed logits, from the words drawn. -/
def scaled (A : S32x1000000.Idx → EReal) (D : S32x1000000.Idx → BitVec 32) : S32x1000000.Idx → EReal :=
  Host.divf (F := Ideal) (φ := .f32) (addf A (Host.negf (Host.log (Host.negf (Host.log (maximumf (broadcastInDim S32x1000000 ![] bcast_S_S32x1000000 (constant S_ .f32 0x00800000#32))
    (addf (mulf (subf (bitcastToFloat (F := Ideal) .f32 (ori (Host.shrui D (broadcastInDim S32x1000000 ![] bcast_S_S32x1000000 (constantI S_ 32 9#32)))
      (broadcastInDim S32x1000000 ![] bcast_S_S32x1000000 (constantI S_ 32 1065353216#32)))) (broadcastInDim S32x1000000 ![] bcast_S_S32x1000000 (constant S_ .f32 0x3F800000#32)))
      (broadcastInDim S32x1000000 ![] bcast_S_S32x1000000 (constant S_ .f32 0x3F800000#32)))
      (broadcastInDim S32x1000000 ![] bcast_S_S32x1000000 (constant S_ .f32 0x00800000#32)))))))))
    (broadcastInDim S32x1000000 ![] bcast_S_S32x1000000 (constant S_ .f32 0x3F000000#32))

theorem scaled_apply (A : S32x1000000.Idx → EReal) (D : S32x1000000.Idx → BitVec 32) (r : Fin 32) (n : Fin 1000000) :
    scaled A D (ix2 r n) = Ideal.div (A (ix2 r n) + noise (D (ix2 r n))) (((1 : ℝ) / 2 : ℝ) : EReal) := by
  unfold scaled noise
  pointwise
  rw [bits_half, shrui_small _ _ 9#32 (by decide)]
  rfl

theorem v55_eq (V : Valuation τ sig (Elt Ideal)) : res_main_v55 V = scaled (V (Proc.devRef .tc main_arg0)) (drawn V) := by
  unfold res_main_v55 scaled drawn
  rfl

theorem v66_eq (V : Valuation τ sig (Elt Ideal)) : res_main_v66 V = shares (shifted (res_main_v55 V)) := by
  unfold res_main_v66 res_main_v62 shares shifted
  rfl

/-- The reference's indices, at any floats. -/
theorem v67_any (F : FTy → Type) [FloatOps F] (V : Valuation τ sig (Elt F)) (P : S32x1000000.Idx → F .f32) (hP : res_main_v66 V = P) (Y : S32.Idx → BitVec 32)
    (hY : res_main_v67 V = Y) : Y = fun j => (Host.argReduce (φ := .f32) reducer_argmax_f32_i32 P (iotaInDim S32x1000000 32 1) (constant S_ .f32 0xFF800000#32)
      (constantI S_ 32 0#32) reducesTo_S32x1000000_S32_d1 h_S_ j).2 := by
  subst hP
  exact hY.symm

theorem add_back (y p : S32x1000000.Idx → EReal) (i : S32x1000000.Idx) : addf (F := Ideal) (φ := .f32) (subf y p) p i = y i - p i + p i := rfl

section

variable (V : Valuation τ sig (Elt Ideal)) (A : S32x1000000.Idx → EReal) (hV : V (Proc.devRef .tc main_arg0) = A)
include hV

/-- The perturbed logits are twice the scores. -/
theorem v55_apply (r : Fin 32) (n : Fin 1000000) (x : ℝ) (hx : score A r n.val = (x : EReal)) : res_main_v55 V (ix2 r n) = ((x * 2 : ℝ) : EReal) := by
  have hs : A (ix2 r n) + noise (drawn V (ix2 r n)) = score A r n.val := by
    rw [drawn_apply, score, lg, dif_pos n.isLt]
    rfl
  rw [v55_eq, scaled_apply, hV, hs, hx, Ideal.div_coe (by norm_num), ← EReal.coe_mul]
  norm_num

/-- The soft rows: real numbers in the order of the scores. -/
theorem v66_apply (hA : Fin' A) (r : Fin 32) : ∃ p : ℕ → ℝ, (∀ n : Fin 1000000, res_main_v66 V (ix2 r n) = ((p n.val : ℝ) : EReal))
    ∧ ∀ i j, p i < p j ↔ score A r i < score A r j := by
  choose x hx using score_real A hA r
  obtain ⟨M, hM⟩ := soft_apply (res_main_v55 V) r (fun n => x n.val * 2) (fun n => v55_apply V A hV r n _ (hx n.val))
  have hpos : 0 < ∑ l : Fin 1000000, Real.exp (x l.val * 2 - M) := Finset.sum_pos (fun l _ => Real.exp_pos _) ⟨⟨0, by omega⟩, Finset.mem_univ _⟩
  generalize (∑ l : Fin 1000000, Real.exp (x l.val * 2 - M)) = S at hM hpos
  refine ⟨fun n => Real.exp (x n * 2 - M) / S, fun n => ?_, fun i j => ?_⟩
  · rw [v66_eq]; exact hM n
  · rw [div_lt_div_iff_of_pos_right hpos, Real.exp_lt_exp, hx, hx, EReal.coe_lt_coe_iff]
    constructor <;> intro h <;> linarith

/-- The reference's index of a row is the first column whose score is greatest. -/
theorem v67_apply (hA : Fin' A) (r : Fin 32) (k : ℕ) (hk : First 1000000 (score A r) k) : res_main_v67 V (ix1 r) = BitVec.ofNat 32 k := by
  obtain ⟨p, hp, hlt⟩ := v66_apply V A hV hA r
  have e := v67_any Ideal V _ rfl _ rfl
  generalize res_main_v66 V = P at hp e
  generalize res_main_v67 V = Y at e
  subst e
  refine argmax_apply P r (fun n => ((p n : ℝ) : EReal)) hp (fun n => EReal.bot_lt_coe _) k ⟨hk.1, fun j hj => ?_, fun j hj => ?_⟩
  · exact not_lt.mp fun h => absurd (hk.2.1 j hj) (not_le.mpr ((hlt k j).mp (EReal.coe_lt_coe_iff.mp h)))
  · exact EReal.coe_lt_coe_iff.mpr ((hlt j k).mpr (hk.2.2 j hj))

/-- The first result: ones at the rows' indices. -/
theorem hot_val (hA : Fin' A) (k : Fin 32 → ℕ) (hk : ∀ r, First 1000000 (score A r) (k r)) (r : Fin 32) (n : Fin 1000000) :
    addf (F := Ideal) (φ := .f32) (subf (hot (pairs (res_main_v67 V))) (res_main_v66 V)) (res_main_v66 V) (ix2 r n) = if n.val = k r then 1 else 0 := by
  obtain ⟨p, hp, -⟩ := v66_apply V A hV hA r
  have hh := hot_apply (pairs (res_main_v67 V)) k (fun q => (hk q).1) (pairs_row _)
    (fun q => pairs_col _ q _ (hk q).1 (v67_apply V A hV hA q _ (hk q))) r n
  rw [add_back, hh, hp]
  obtain ⟨y, hy⟩ : ∃ y : ℝ, (if n.val = k r then 1 else 0 : EReal) = (y : EReal) := by
    split_ifs
    · exact ⟨1, rfl⟩
    · exact ⟨0, rfl⟩
  rw [hy, ← EReal.coe_sub, ← EReal.coe_add, sub_add_cancel]

/-- The second result: the softmax, at the shift twelve. -/
theorem soft_val (r : Fin 32) (a : Fin 1000000 → ℝ) (ha : ∀ n, A (ix2 r n) = (a n : EReal)) (n : Fin 1000000) :
    shares (res_main_v6 V) (ix2 r n) = ((Real.exp (a n - 12) * (1 / ∑ l, Real.exp (a l - 12)) : ℝ) : EReal) := by
  have e : res_main_v6 V = shifted A := by
    rw [← hV]; rfl
  obtain ⟨M, hM⟩ := soft_apply A r a ha
  rw [e, hM, shift_eq a M 12]

end

end Cert.ReferenceIdeal.Value

end
-- ==== Proof.RefVal1.lean ====
/- What the buffers of the reference hold after its first windows of operations. -/
module

public import proofs.«01_k».proof.Proof.RefFacts

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_cst, main_v0, main_cst_0, main_v1, main_v2, main_v3, main_v4, main_v5, main_v6, main_cst_1, main_v7, main_v8, main_v9, main_v10, main_c, main_c_2, main_v11, main_v12, main_v13, main_c_3, main_v14, main_v15, main_v16, main_v17, main_c_4, main_call0_c, main_call0_v0, main_call0_v1, main_call0_c_0, main_call0_v2]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
set_option maxRecDepth 8192 in
set_option maxHeartbeats 2000000 in
theorem val0_1_main_v10 (V0 : Valuation τ sig (Elt F)) : val0_1 V0 (no_index (Proc.devRef .tc main_v10)) = Host.divf (res_main_v6 V0) (broadcastInDim S32x1000000 ![0, 1] bcast_S32x1_S32x1000000_0_1 (broadcastInDim S32x1 ![0] bcast_S32_S32x1_0 (Host.reduceAdd (res_main_v6 V0) (constant S_ .f32 0x00000000#32) reducesTo_S32x1000000_S32_d1 h_S_))) := by
  unfold val0_1
  simp only [ops_part0_0, TRef.binary, TRef.nullary, TRef.unary, TRef.toBuf, TRef.ofBuf, cast_eq]
  after_results_simp
  simp only [val0_main_arg0] <;> rfl
set_option maxRecDepth 8192 in
set_option maxHeartbeats 2000000 in
theorem val0_1_main_v17 (V0 : Valuation τ sig (Elt F)) : val0_1 V0 (no_index (Proc.devRef .tc main_v17)) = res_main_v17 V0 := by
  unfold val0_1
  simp only [ops_part0_0, TRef.binary, TRef.nullary, TRef.unary, TRef.toBuf, TRef.ofBuf, cast_eq]
  after_results_simp
  all_goals rfl
set_option maxRecDepth 8192 in
set_option maxHeartbeats 2000000 in
theorem val0_1_main_call0_v1 (V0 : Valuation τ sig (Elt F)) : val0_1 V0 (no_index (Proc.devRef .tc main_call0_v1)) = broadcastInDim S1 ![] bcast_S_S1 (Host.shrui (res_main_c_4 V0) (constantI S_ 32 32#32)) := by
  unfold val0_1
  simp only [ops_part0_0, TRef.binary, TRef.nullary, TRef.unary, TRef.toBuf, TRef.ofBuf, cast_eq]
  after_results_simp
  all_goals rfl
set_option maxRecDepth 8192 in
set_option maxHeartbeats 2000000 in
theorem val0_1_main_call0_v2 (V0 : Valuation τ sig (Elt F)) : val0_1 V0 (no_index (Proc.devRef .tc main_call0_v2)) = andi (res_main_c_4 V0) (constantI S_ 32 4294967295#32) := by
  unfold val0_1
  simp only [ops_part0_0, TRef.binary, TRef.nullary, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_call0_v3, main_call0_v4, main_call0_v5, main_call0_v6, main_call0_v7, main_call0_v8, main_call0_v9, main_call0_v10, main_call0_call0_v0, main_call0_call0_c, main_call0_call0_v1, main_call0_call0_v2, main_call0_call0_v3, main_call0_call0_v4, main_call0_call0_v5, main_call0_call0_v6, main_call0_call0_c_0, main_call0_call0_v7, main_call0_call0_v8, main_call0_call0_c_1, main_call0_call0_v9, main_call0_call0_v10, main_call0_call0_v11, main_call0_call0_v12, main_call0_call0_v13, main_call0_call0_c_2, main_call0_call0_v14, main_call0_call0_v15, main_call0_call0_c_3, main_call0_call0_v16]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_v10 (V0 : Valuation τ sig (Elt F)) : val0_2 V0 (no_index (Proc.devRef .tc main_v10)) = Host.divf (res_main_v6 V0) (broadcastInDim S32x1000000 ![0, 1] bcast_S32x1_S32x1000000_0_1 (broadcastInDim S32x1 ![0] bcast_S32_S32x1_0 (Host.reduceAdd (res_main_v6 V0) (constant S_ .f32 0x00000000#32) reducesTo_S32x1000000_S32_d1 h_S_))) :=
  (val0_2_keep V0 main_v10 (by decide)).trans (val0_1_main_v10 V0)
set_option maxRecDepth 8192 in
set_option maxHeartbeats 2000000 in
theorem val0_2_main_call0_v6 (V0 : Valuation τ sig (Elt F)) : val0_2 V0 (no_index (Proc.devRef .tc main_call0_v6)) = res_main_call0_v6 V0 := by
  unfold val0_2
  simp only [ops_part0_1, TRef.binary, TRef.nullary, TRef.reshape, TRef.unary, TRef.toBuf, TRef.ofBuf, cast_eq]
  after_results_simp
  simp only [val0_1_main_v17] <;> rfl
set_option maxRecDepth 8192 in
set_option maxHeartbeats 2000000 in
theorem val0_2_main_call0_v8 (V0 : Valuation τ sig (Elt F)) : val0_2 V0 (no_index (Proc.devRef .tc main_call0_v8)) = res_main_call0_v8 V0 := by
  unfold val0_2
  simp only [ops_part0_1, TRef.binary, TRef.nullary, TRef.reshape, TRef.unary, TRef.toBuf, TRef.ofBuf, cast_eq]
  after_results_simp
  simp only [val0_1_main_v17] <;> rfl
set_option maxRecDepth 8192 in
set_option maxHeartbeats 2000000 in
theorem val0_2_main_call0_call0_v1 (V0 : Valuation τ sig (Elt F)) : val0_2 V0 (no_index (Proc.devRef .tc main_call0_call0_v1)) = res_main_call0_call0_v1 V0 := by
  unfold val0_2
  simp only [ops_part0_1, TRef.binary, TRef.nullary, TRef.reshape, TRef.unary, TRef.toBuf, TRef.ofBuf, cast_eq]
  after_results_simp
  simp only [val0_1_main_v17] <;> rfl
set_option maxRecDepth 8192 in
set_option maxHeartbeats 2000000 in
theorem val0_2_main_call0_call0_v12 (V0 : Valuation τ sig (Elt F)) : val0_2 V0 (no_index (Proc.devRef .tc main_call0_call0_v12)) = res_main_call0_call0_v12 V0 := by
  unfold val0_2
  simp only [ops_part0_1, TRef.binary, TRef.nullary, TRef.reshape, TRef.unary, TRef.toBuf, TRef.ofBuf, cast_eq]
  after_results_simp
  simp only [val0_1_main_v17, val0_1_main_call0_v2, val0_1_main_call0_v1] <;> rfl
set_option maxRecDepth 8192 in
set_option maxHeartbeats 2000000 in
theorem val0_2_main_call0_call0_v13 (V0 : Valuation τ sig (Elt F)) : val0_2 V0 (no_index (Proc.devRef .tc main_call0_call0_v13)) = res_main_call0_call0_v13 V0 := by
  unfold val0_2
  simp only [ops_part0_1, TRef.binary, TRef.nullary, TRef.reshape, TRef.unary, TRef.toBuf, TRef.ofBuf, cast_eq]
  after_results_simp
  simp only [val0_1_main_v17, val0_1_main_call0_v2, val0_1_main_call0_v1] <;> rfl
set_option maxRecDepth 8192 in
set_option maxHeartbeats 2000000 in
theorem val0_2_main_call0_call0_v15 (V0 : Valuation τ sig (Elt F)) : val0_2 V0 (no_index (Proc.devRef .tc main_call0_call0_v15)) = Host.shli (res_main_call0_call0_v12 V0) (broadcastInDim S1 ![] bcast_S_S1 (constantI S_ 32 15#32)) := by
  unfold val0_2
  simp only [ops_part0_1, TRef.binary, TRef.nullary, TRef.reshape, TRef.unary, TRef.toBuf, TRef.ofBuf, cast_eq]
  after_results_simp
  simp only [val0_1_main_v17, val0_1_main_call0_v2, val0_1_main_call0_v1] <;> rfl
set_option maxRecDepth 8192 in
set_option maxHeartbeats 2000000 in
theorem val0_2_main_call0_call0_v16 (V0 : Valuation τ sig (Elt F)) : val0_2 V0 (no_index (Proc.devRef .tc main_call0_call0_v16)) = broadcastInDim S1 ![] bcast_S_S1 (constantI S_ 32 17#32) := by
  unfold val0_2
  simp only [ops_part0_1, TRef.binary, TRef.nullary, TRef.reshape, TRef.unary, TRef.toBuf, TRef.ofBuf, cast_eq]
  after_results_simp
  all_goals rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_call0_call0_v17, main_call0_call0_v18, main_call0_call0_v19, main_call0_call0_v20, main_call0_call0_c_4, main_call0_call0_v21, main_call0_call0_v22, main_call0_call0_c_5, main_call0_call0_v23, main_call0_call0_v24, main_call0_call0_v25, main_call0_call0_v26, main_call0_call0_v27, main_call0_call0_c_6, main_call0_call0_v28, main_call0_call0_v29, main_call0_call0_c_7, main_call0_call0_v30, main_call0_call0_v31, main_call0_call0_v32, main_call0_call0_v33, main_call0_call0_v34, main_call0_call0_v35, main_call0_call0_v36, main_call0_call0_v37, main_call0_call0_c_8, main_call0_call0_v38, main_call0_call0_v39, main_call0_call0_v40, main_call0_call0_c_9]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_v10 (V0 : Valuation τ sig (Elt F)) : val0_3 V0 (no_index (Proc.devRef .tc main_v10)) = Host.divf (res_main_v6 V0) (broadcastInDim S32x1000000 ![0, 1] bcast_S32x1_S32x1000000_0_1 (broadcastInDim S32x1 ![0] bcast_S32_S32x1_0 (Host.reduceAdd (res_main_v6 V0) (constant S_ .f32 0x00000000#32) reducesTo_S32x1000000_S32_d1 h_S_))) :=
  (val0_3_keep V0 main_v10 (by decide)).trans (val0_2_main_v10 V0)
theorem val0_3_main_call0_v6 (V0 : Valuation τ sig (Elt F)) : val0_3 V0 (no_index (Proc.devRef .tc main_call0_v6)) = res_main_call0_v6 V0 :=
  (val0_3_keep V0 main_call0_v6 (by decide)).trans (val0_2_main_call0_v6 V0)
theorem val0_3_main_call0_v8 (V0 : Valuation τ sig (Elt F)) : val0_3 V0 (no_index (Proc.devRef .tc main_call0_v8)) = res_main_call0_v8 V0 :=
  (val0_3_keep V0 main_call0_v8 (by decide)).trans (val0_2_main_call0_v8 V0)
theorem val0_3_main_call0_call0_v1 (V0 : Valuation τ sig (Elt F)) : val0_3 V0 (no_index (Proc.devRef .tc main_call0_call0_v1)) = res_main_call0_call0_v1 V0 :=
  (val0_3_keep V0 main_call0_call0_v1 (by decide)).trans (val0_2_main_call0_call0_v1 V0)
set_option maxRecDepth 8192 in
set_option maxHeartbeats 2000000 in
theorem val0_3_main_call0_call0_v39 (V0 : Valuation τ sig (Elt F)) : val0_3 V0 (no_index (Proc.devRef .tc main_call0_call0_v39)) = res_main_call0_call0_v39 V0 := by
  unfold val0_3
  simp only [ops_part0_2, TRef.binary, TRef.nullary, TRef.unary, TRef.toBuf, TRef.ofBuf, cast_eq]
  after_results_simp
  simp only [val0_2_main_call0_call0_v1, val0_2_main_call0_call0_v16, val0_2_main_call0_call0_v12, val0_2_main_call0_call0_v15, val0_2_main_call0_call0_v13] <;> rfl
set_option maxRecDepth 8192 in
set_option maxHeartbeats 2000000 in
theorem val0_3_main_call0_call0_v40 (V0 : Valuation τ sig (Elt F)) : val0_3 V0 (no_index (Proc.devRef .tc main_call0_call0_v40)) = res_main_call0_call0_v40 V0 := by
  unfold val0_3
  simp only [ops_part0_2, TRef.binary, TRef.nullary, TRef.unary, TRef.toBuf, TRef.ofBuf, cast_eq]
  after_results_simp
  simp only [val0_2_main_call0_call0_v1, val0_2_main_call0_call0_v16, val0_2_main_call0_call0_v12, val0_2_main_call0_call0_v15, val0_2_main_call0_call0_v13, val0_2_main_call0_v8] <;> rfl
set_option maxRecDepth 8192 in
set_option maxHeartbeats 2000000 in
theorem val0_3_main_call0_call0_c_9 (V0 : Valuation τ sig (Elt F)) : val0_3 V0 (no_index (Proc.devRef .tc main_call0_call0_c_9)) = constantI S_ 32 17#32 := by
  unfold val0_3
  simp only [ops_part0_2, TRef.binary, TRef.nullary, TRef.unary, TRef.toBuf, TRef.ofBuf, cast_eq]
  after_results_simp
  all_goals rfl

/-- The device's buffer contents after @main's first 120 operations. -/
def val0_4 (V0 : Valuation τ sig (Elt F)) : Valuation τ sig (Elt F) := after ops_part0_3 (val0_3 V0)
/-- The buffers that window `ops_part0_3`'s operations write. -/
abbrev ops_part0_3_W : List (Ref sig .tc) := [main_call0_call0_v41, main_call0_call0_v42, main_call0_call0_c_10, main_call0_call0_v43, main_call0_call0_v44, main_call0_call0_v45, main_call0_call0_v46, main_call0_call0_v47, main_call0_call0_c_11, main_call0_call0_v48, main_call0_call0_v49, main_call0_call0_c_12, main_call0_call0_v50, main_call0_call0_v51, main_call0_call0_v52, main_call0_call0_v53, main_call0_call0_v54, main_call0_call0_c_13, main_call0_call0_v55, main_call0_call0_v56, main_call0_call0_c_14, main_call0_call0_v57, main_call0_call0_v58, main_call0_call0_v59, main_call0_call0_v60, main_call0_call0_v61, main_call0_call0_c_15, main_call0_call0_v62, main_call0_call0_v63, main_call0_call0_c_16]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_3` does not write keeps its contents through it. -/
theorem val0_4_keep (V0 : Valuation τ sig (Elt F)) (r : Ref sig .tc) (h : r ∉ ops_part0_3_W) :
    val0_4 V0 (Proc.devRef .tc r) = val0_3 V0 (Proc.devRef .tc r) :=
  after_of_writes_sub ops_part0_3 _ ops_part0_3_writes h
theorem val0_4_main_arg0 (V0 : Valuation τ sig (Elt F)) : val0_4 V0 (no_index (Proc.devRef .tc main_arg0)) = V0 (Proc.devRef .tc main_arg0) :=
  (val0_4_keep V0 main_arg0 (by decide)).trans (val0_3_main_arg0 V0)
theorem val0_4_main_v10 (V0 : Valuation τ sig (Elt F)) : val0_4 V0 (no_index (Proc.devRef .tc main_v10)) = Host.divf (res_main_v6 V0) (broadcastInDim S32x1000000 ![0, 1] bcast_S32x1_S32x1000000_0_1 (broadcastInDim S32x1 ![0] bcast_S32_S32x1_0 (Host.reduceAdd (res_main_v6 V0) (constant S_ .f32 0x00000000#32) reducesTo_S32x1000000_S32_d1 h_S_))) :=
  (val0_4_keep V0 main_v10 (by decide)).trans (val0_3_main_v10 V0)
theorem val0_4_main_call0_v6 (V0 : Valuation τ sig (Elt F)) : val0_4 V0 (no_index (Proc.devRef .tc main_call0_v6)) = res_main_call0_v6 V0 :=
  (val0_4_keep V0 main_call0_v6 (by decide)).trans (val0_3_main_call0_v6 V0)
theorem val0_4_main_call0_v8 (V0 : Valuation τ sig (Elt F)) : val0_4 V0 (no_index (Proc.devRef .tc main_call0_v8)) = res_main_call0_v8 V0 :=
  (val0_4_keep V0 main_call0_v8 (by decide)).trans (val0_3_main_call0_v8 V0)
theorem val0_4_main_call0_call0_v1 (V0 : Valuation τ sig (Elt F)) : val0_4 V0 (no_index (Proc.devRef .tc main_call0_call0_v1)) = res_main_call0_call0_v1 V0 :=
  (val0_4_keep V0 main_call0_call0_v1 (by decide)).trans (val0_3_main_call0_call0_v1 V0)
set_option maxRecDepth 8192 in
set_option maxHeartbeats 2000000 in
theorem val0_4_main_call0_call0_v60 (V0 : Valuation τ sig (Elt F)) : val0_4 V0 (no_index (Proc.devRef .tc main_call0_call0_v60)) = res_main_call0_call0_v60 V0 := by
  unfold val0_4
  simp only [ops_part0_3, TRef.binary, TRef.nullary, TRef.unary, TRef.toBuf, TRef.ofBuf, cast_eq]
  after_results_simp
  simp only [val0_3_main_call0_call0_v39, val0_3_main_call0_call0_c_9, val0_3_main_call0_call0_v40] <;> rfl
set_option maxRecDepth 8192 in
set_option maxHeartbeats 2000000 in
theorem val0_4_main_call0_call0_v61 (V0 : Valuation τ sig (Elt F)) : val0_4 V0 (no_index (Proc.devRef .tc main_call0_call0_v61)) = res_main_call0_call0_v61 V0 := by
  unfold val0_4
  simp only [ops_part0_3, TRef.binary, TRef.nullary, TRef.unary, TRef.toBuf, TRef.ofBuf, cast_eq]
  after_results_simp
  simp only [val0_3_main_call0_call0_v39, val0_3_main_call0_call0_c_9, val0_3_main_call0_call0_v40] <;> rfl
set_option maxRecDepth 8192 in
set_option maxHeartbeats 2000000 in
theorem val0_4_main_call0_call0_v63 (V0 : Valuation τ sig (Elt F)) : val0_4 V0 (no_index (Proc.devRef .tc main_call0_call0_v63)) = Host.shli (res_main_call0_call0_v60 V0) (broadcastInDim S1 ![] bcast_S_S1 (constantI S_ 32 24#32)) := by
  unfold val0_4
  simp only [ops_part0_3, TRef.binary, TRef.nullary, TRef.unary, TRef.toBuf, TRef.ofBuf, cast_eq]
  after_results_simp
  simp only [val0_3_main_call0_call0_v39, val0_3_main_call0_call0_c_9, val0_3_main_call0_call0_v40] <;> rfl
set_option maxRecDepth 8192 in
set_option maxHeartbeats 2000000 in
theorem val0_4_main_call0_call0_c_16 (V0 : Valuation τ sig (Elt F)) : val0_4 V0 (no_index (Proc.devRef .tc main_call0_call0_c_16)) = constantI S_ 32 8#32 := by
  unfold val0_4
  simp only [ops_part0_3, TRef.binary, TRef.nullary, TRef.unary, TRef.toBuf, TRef.ofBuf, cast_eq]
  after_results_simp
  all_goals rfl

/-- The device's buffer contents after @main's first 150 operations. -/
def val0_5 (V0 : Valuation τ sig (Elt F)) : Valuation τ sig (Elt F) := after ops_part0_4 (val0_4 V0)
/-- The buffers that window `ops_part0_4`'s operations write. -/
abbrev ops_part0_4_W : List (Ref sig .tc) := [main_call0_call0_v64, main_call0_call0_v65, main_call0_call0_v66, main_call0_call0_v67, main_call0_call0_v68, main_call0_call0_v69, main_call0_call0_v70, main_call0_call0_v71, main_call0_call0_c_17, main_call0_call0_v72, main_call0_call0_v73, main_call0_call0_v74, main_call0_call0_c_18, main_call0_call0_v75, main_call0_call0_v76, main_call0_call0_c_19, main_call0_call0_v77, main_call0_call0_v78, main_call0_call0_v79, main_call0_call0_v80, main_call0_call0_v81, main_call0_call0_c_20, main_call0_call0_v82, main_call0_call0_v83, main_call0_call0_c_21, main_call0_call0_v84, main_call0_call0_v85, main_call0_call0_v86, main_call0_call0_v87, main_call0_call0_v88]
set_option maxRecDepth 8192 in
theorem ops_part0_4_writes : (ops_part0_4 : List (HloOp τ sig (Elt F))).Forall fun op => op.writes ⊆ (ops_part0_4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_4` does not write keeps its contents through it. -/
theorem val0_5_keep (V0 : Valuation τ sig (Elt F)) (r : Ref sig .tc) (h : r ∉ ops_part0_4_W) :
    val0_5 V0 (Proc.devRef .tc r) = val0_4 V0 (Proc.devRef .tc r) :=
  after_of_writes_sub ops_part0_4 _ ops_part0_4_writes h
theorem val0_5_main_arg0 (V0 : Valuation τ sig (Elt F)) : val0_5 V0 (no_index (Proc.devRef .tc main_arg0)) = V0 (Proc.devRef .tc main_arg0) :=
  (val0_5_keep V0 main_arg0 (by decide)).trans (val0_4_main_arg0 V0)
theorem val0_5_main_v10 (V0 : Valuation τ sig (Elt F)) : val0_5 V0 (no_index (Proc.devRef .tc main_v10)) = Host.divf (res_main_v6 V0) (broadcastInDim S32x1000000 ![0, 1] bcast_S32x1_S32x1000000_0_1 (broadcastInDim S32x1 ![0] bcast_S32_S32x1_0 (Host.reduceAdd (res_main_v6 V0) (constant S_ .f32 0x00000000#32) reducesTo_S32x1000000_S32_d1 h_S_))) :=
  (val0_5_keep V0 main_v10 (by decide)).trans (val0_4_main_v10 V0)
theorem val0_5_main_call0_v6 (V0 : Valuation τ sig (Elt F)) : val0_5 V0 (no_index (Proc.devRef .tc main_call0_v6)) = res_main_call0_v6 V0 :=
  (val0_5_keep V0 main_call0_v6 (by decide)).trans (val0_4_main_call0_v6 V0)
theorem val0_5_main_call0_v8 (V0 : Valuation τ sig (Elt F)) : val0_5 V0 (no_index (Proc.devRef .tc main_call0_v8)) = res_main_call0_v8 V0 :=
  (val0_5_keep V0 main_call0_v8 (by decide)).trans (val0_4_main_call0_v8 V0)
theorem val0_5_main_call0_call0_v1 (V0 : Valuation τ sig (Elt F)) : val0_5 V0 (no_index (Proc.devRef .tc main_call0_call0_v1)) = res_main_call0_call0_v1 V0 :=
  (val0_5_keep V0 main_call0_call0_v1 (by decide)).trans (val0_4_main_call0_call0_v1 V0)
set_option maxRecDepth 8192 in
set_option maxHeartbeats 2000000 in
theorem val0_5_main_call0_call0_v87 (V0 : Valuation τ sig (Elt F)) : val0_5 V0 (no_index (Proc.devRef .tc main_call0_call0_v87)) = res_main_call0_call0_v87 V0 := by
  unfold val0_5
  simp only [ops_part0_4, TRef.binary, TRef.nullary, TRef.unary, TRef.toBuf, TRef.ofBuf, cast_eq]
  after_results_simp
  simp only [val0_4_main_call0_v6, val0_4_main_call0_call0_c_16, val0_4_main_call0_call0_v60, val0_4_main_call0_call0_v63, val0_4_main_call0_call0_v61, val0_4_main_call0_call0_v1] <;> rfl
set_option maxRecDepth 8192 in
set_option maxHeartbeats 2000000 in
theorem val0_5_main_call0_call0_v88 (V0 : Valuation τ sig (Elt F)) : val0_5 V0 (no_index (Proc.devRef .tc main_call0_call0_v88)) = res_main_call0_call0_v88 V0 := by
  unfold val0_5
  simp only [ops_part0_4, TRef.binary, TRef.nullary, TRef.unary, TRef.toBuf, TRef.ofBuf, cast_eq]
  after_results_simp
  simp only [val0_4_main_call0_v6, val0_4_main_call0_call0_c_16, val0_4_main_call0_call0_v60, val0_4_main_call0_call0_v63, val0_4_main_call0_call0_v61, val0_4_main_call0_call0_v1] <;> rfl

/-- The device's buffer contents after @main's first 180 operations. -/
def val0_6 (V0 : Valuation τ sig (Elt F)) : Valuation τ sig (Elt F) := after ops_part0_5 (val0_5 V0)
/-- The buffers that window `ops_part0_5`'s operations write. -/
abbrev ops_part0_5_W : List (Ref sig .tc) := [main_call0_call0_c_22, main_call0_call0_v89, main_call0_call0_v90, main_call0_call0_c_23, main_call0_call0_v91, main_call0_call0_v92, main_call0_call0_v93, main_call0_call0_v94, main_call0_call0_v95, main_call0_call0_c_24, main_call0_call0_v96, main_call0_call0_v97, main_call0_call0_c_25, main_call0_call0_v98, main_call0_call0_v99, main_call0_call0_v100, main_call0_call0_v101, main_call0_call0_v102, main_call0_call0_v103, main_call0_call0_v104, main_call0_call0_v105, main_call0_call0_c_26, main_call0_call0_v106, main_call0_call0_v107, main_call0_call0_v108, main_call0_call0_c_27, main_call0_call0_v109, main_call0_call0_v110, main_call0_call0_c_28, main_call0_call0_v111]
set_option maxRecDepth 8192 in
theorem ops_part0_5_writes : (ops_part0_5 : List (HloOp τ sig (Elt F))).Forall fun op => op.writes ⊆ (ops_part0_5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_5` does not write keeps its contents through it. -/
theorem val0_6_keep (V0 : Valuation τ sig (Elt F)) (r : Ref sig .tc) (h : r ∉ ops_part0_5_W) :
    val0_6 V0 (Proc.devRef .tc r) = val0_5 V0 (Proc.devRef .tc r) :=
  after_of_writes_sub ops_part0_5 _ ops_part0_5_writes h
theorem val0_6_main_arg0 (V0 : Valuation τ sig (Elt F)) : val0_6 V0 (no_index (Proc.devRef .tc main_arg0)) = V0 (Proc.devRef .tc main_arg0) :=
  (val0_6_keep V0 main_arg0 (by decide)).trans (val0_5_main_arg0 V0)
theorem val0_6_main_v10 (V0 : Valuation τ sig (Elt F)) : val0_6 V0 (no_index (Proc.devRef .tc main_v10)) = Host.divf (res_main_v6 V0) (broadcastInDim S32x1000000 ![0, 1] bcast_S32x1_S32x1000000_0_1 (broadcastInDim S32x1 ![0] bcast_S32_S32x1_0 (Host.reduceAdd (res_main_v6 V0) (constant S_ .f32 0x00000000#32) reducesTo_S32x1000000_S32_d1 h_S_))) :=
  (val0_6_keep V0 main_v10 (by decide)).trans (val0_5_main_v10 V0)
theorem val0_6_main_call0_v6 (V0 : Valuation τ sig (Elt F)) : val0_6 V0 (no_index (Proc.devRef .tc main_call0_v6)) = res_main_call0_v6 V0 :=
  (val0_6_keep V0 main_call0_v6 (by decide)).trans (val0_5_main_call0_v6 V0)
theorem val0_6_main_call0_v8 (V0 : Valuation τ sig (Elt F)) : val0_6 V0 (no_index (Proc.devRef .tc main_call0_v8)) = res_main_call0_v8 V0 :=
  (val0_6_keep V0 main_call0_v8 (by decide)).trans (val0_5_main_call0_v8 V0)
theorem val0_6_main_call0_call0_v1 (V0 : Valuation τ sig (Elt F)) : val0_6 V0 (no_index (Proc.devRef .tc main_call0_call0_v1)) = res_main_call0_call0_v1 V0 :=
  (val0_6_keep V0 main_call0_call0_v1 (by decide)).trans (val0_5_main_call0_call0_v1 V0)
set_option maxRecDepth 8192 in
set_option maxHeartbeats 2000000 in
theorem val0_6_main_call0_call0_v107 (V0 : Valuation τ sig (Elt F)) : val0_6 V0 (no_index (Proc.devRef .tc main_call0_call0_v107)) = res_main_call0_call0_v107 V0 := by
  unfold val0_6
  simp only [ops_part0_5, TRef.binary, TRef.nullary, TRef.unary, TRef.toBuf, TRef.ofBuf, cast_eq]
  after_results_simp
  simp only [val0_5_main_call0_v8, val0_5_main_call0_call0_v87, val0_5_main_call0_call0_v88] <;> rfl
set_option maxRecDepth 8192 in
set_option maxHeartbeats 2000000 in
theorem val0_6_main_call0_call0_v108 (V0 : Valuation τ sig (Elt F)) : val0_6 V0 (no_index (Proc.devRef .tc main_call0_call0_v108)) = res_main_call0_call0_v108 V0 := by
  unfold val0_6
  simp only [ops_part0_5, TRef.binary, TRef.nullary, TRef.unary, TRef.toBuf, TRef.ofBuf, cast_eq]
  after_results_simp
  simp only [val0_5_main_call0_v8, val0_5_main_call0_call0_v87, val0_5_main_call0_call0_v88, val0_5_main_call0_v6] <;> rfl
set_option maxRecDepth 8192 in
set_option maxHeartbeats 2000000 in
theorem val0_6_main_call0_call0_v110 (V0 : Valuation τ sig (Elt F)) : val0_6 V0 (no_index (Proc.devRef .tc main_call0_call0_v110)) = Host.shli (res_main_call0_call0_v107 V0) (broadcastInDim S1 ![] bcast_S_S1 (constantI S_ 32 17#32)) := by
  unfold val0_6
  simp only [ops_part0_5, TRef.binary, TRef.nullary, TRef.unary, TRef.toBuf, TRef.ofBuf, cast_eq]
  after_results_simp
  simp only [val0_5_main_call0_v8, val0_5_main_call0_call0_v87, val0_5_main_call0_call0_v88] <;> rfl
set_option maxRecDepth 8192 in
set_option maxHeartbeats 2000000 in
theorem val0_6_main_call0_call0_v111 (V0 : Valuation τ sig (Elt F)) : val0_6 V0 (no_index (Proc.devRef .tc main_call0_call0_v111)) = broadcastInDim S1 ![] bcast_S_S1 (constantI S_ 32 15#32) := by
  unfold val0_6
  simp only [ops_part0_5, TRef.binary, TRef.nullary, TRef.unary, TRef.toBuf, TRef.ofBuf, cast_eq]
  after_results_simp
  all_goals rfl

/-- The device's buffer contents after @main's first 210 operations. -/
def val0_7 (V0 : Valuation τ sig (Elt F)) : Valuation τ sig (Elt F) := after ops_part0_6 (val0_6 V0)
/-- The buffers that window `ops_part0_6`'s operations write. -/
abbrev ops_part0_6_W : List (Ref sig .tc) := [main_call0_call0_v112, main_call0_call0_v113, main_call0_call0_v114, main_call0_call0_v115, main_call0_call0_c_29, main_call0_call0_v116, main_call0_call0_v117, main_call0_call0_c_30, main_call0_call0_v118, main_call0_call0_v119, main_call0_call0_v120, main_call0_call0_v121, main_call0_call0_v122, main_call0_call0_c_31, main_call0_call0_v123, main_call0_call0_v124, main_call0_call0_c_32, main_call0_call0_v125, main_call0_call0_v126, main_call0_call0_v127, main_call0_call0_v128, main_call0_call0_v129, main_call0_call0_c_33, main_call0_call0_v130, main_call0_call0_v131, main_call0_call0_c_34, main_call0_call0_v132, main_call0_call0_v133, main_call0_call0_v134, main_call0_call0_v135]
set_option maxRecDepth 8192 in
theorem ops_part0_6_writes : (ops_part0_6 : List (HloOp τ sig (Elt F))).Forall fun op => op.writes ⊆ (ops_part0_6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_6` does not write keeps its contents through it. -/
theorem val0_7_keep (V0 : Valuation τ sig (Elt F)) (r : Ref sig .tc) (h : r ∉ ops_part0_6_W) :
    val0_7 V0 (Proc.devRef .tc r) = val0_6 V0 (Proc.devRef .tc r) :=
  after_of_writes_sub ops_part0_6 _ ops_part0_6_writes h
theorem val0_7_main_arg0 (V0 : Valuation τ sig (Elt F)) : val0_7 V0 (no_index (Proc.devRef .tc main_arg0)) = V0 (Proc.devRef .tc main_arg0) :=
  (val0_7_keep V0 main_arg0 (by decide)).trans (val0_6_main_arg0 V0)
theorem val0_7_main_v10 (V0 : Valuation τ sig (Elt F)) : val0_7 V0 (no_index (Proc.devRef .tc main_v10)) = Host.divf (res_main_v6 V0) (broadcastInDim S32x1000000 ![0, 1] bcast_S32x1_S32x1000000_0_1 (broadcastInDim S32x1 ![0] bcast_S32_S32x1_0 (Host.reduceAdd (res_main_v6 V0) (constant S_ .f32 0x00000000#32) reducesTo_S32x1000000_S32_d1 h_S_))) :=
  (val0_7_keep V0 main_v10 (by decide)).trans (val0_6_main_v10 V0)
theorem val0_7_main_call0_v6 (V0 : Valuation τ sig (Elt F)) : val0_7 V0 (no_index (Proc.devRef .tc main_call0_v6)) = res_main_call0_v6 V0 :=
  (val0_7_keep V0 main_call0_v6 (by decide)).trans (val0_6_main_call0_v6 V0)
theorem val0_7_main_call0_v8 (V0 : Valuation τ sig (Elt F)) : val0_7 V0 (no_index (Proc.devRef .tc main_call0_v8)) = res_main_call0_v8 V0 :=
  (val0_7_keep V0 main_call0_v8 (by decide)).trans (val0_6_main_call0_v8 V0)
theorem val0_7_main_call0_call0_v1 (V0 : Valuation τ sig (Elt F)) : val0_7 V0 (no_index (Proc.devRef .tc main_call0_call0_v1)) = res_main_call0_call0_v1 V0 :=
  (val0_7_keep V0 main_call0_call0_v1 (by decide)).trans (val0_6_main_call0_call0_v1 V0)
set_option maxRecDepth 8192 in
set_option maxHeartbeats 2000000 in
theorem val0_7_main_call0_call0_v129 (V0 : Valuation τ sig (Elt F)) : val0_7 V0 (no_index (Proc.devRef .tc main_call0_call0_v129)) = res_main_call0_call0_v129 V0 := by
  unfold val0_7
  simp only [ops_part0_6, TRef.binary, TRef.nullary, TRef.unary, TRef.toBuf, TRef.ofBuf, cast_eq]
  after_results_simp
  simp only [val0_6_main_call0_call0_v111, val0_6_main_call0_call0_v107, val0_6_main_call0_call0_v110, val0_6_main_call0_call0_v108] <;> rfl
set_option maxRecDepth 8192 in
set_option maxHeartbeats 2000000 in
theorem val0_7_main_call0_call0_v135 (V0 : Valuation τ sig (Elt F)) : val0_7 V0 (no_index (Proc.devRef .tc main_call0_call0_v135)) = xori (res_main_call0_call0_v129 V0) (ori (Host.shli (res_main_call0_call0_v128 V0) (broadcastInDim S1 ![] bcast_S_S1 (constantI S_ 32 24#32))) (Host.shrui (res_main_call0_call0_v128 V0) (broadcastInDim S1 ![] bcast_S_S1 (constantI S_ 32 8#32)))) := by
  unfold val0_7
  simp only [ops_part0_6, TRef.binary, TRef.nullary, TRef.unary, TRef.toBuf, TRef.ofBuf, cast_eq]
  after_results_simp
  simp only [val0_6_main_call0_call0_v111, val0_6_main_call0_call0_v107, val0_6_main_call0_call0_v110, val0_6_main_call0_call0_v108] <;> rfl

end Cert.ReferenceIdeal.Value
-- ==== Proof.RefRun.lean ====
/- What the reference returns: its two results as terms of the argument, the argument unchanged. -/
module

public import proofs.«01_k».proof.Proof.RefVal1

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
/-- The device's buffer contents after @main's first 240 operations. -/
def val0_8 (V0 : Valuation τ sig (Elt F)) : Valuation τ sig (Elt F) := after ops_part0_7 (val0_7 V0)
/-- The buffers that window `ops_part0_7`'s operations write. -/
abbrev ops_part0_7_W : List (Ref sig .tc) := [main_call0_call0_v136, main_call0_call0_v137, main_call0_call0_v138, main_call0_call0_v139, main_call0_call0_c_35, main_call0_call0_v140, main_call0_call0_v141, main_call0_call0_v142, main_call0_call0_c_36, main_call0_call0_v143, main_call0_call0_v144, main_call0_call0_c_37, main_call0_call0_v145, main_call0_call0_v146, main_call0_call0_v147, main_call0_call0_v148, main_call0_call0_v149, main_call0_call0_c_38, main_call0_call0_v150, main_call0_call0_v151, main_call0_call0_c_39, main_call0_call0_v152, main_call0_call0_v153, main_call0_call0_v154, main_call0_call0_v155, main_call0_call0_v156, main_call0_call0_c_40, main_call0_call0_v157, main_call0_call0_v158, main_call0_call0_c_41]
set_option maxRecDepth 8192 in
theorem ops_part0_7_writes : (ops_part0_7 : List (HloOp τ sig (Elt F))).Forall fun op => op.writes ⊆ (ops_part0_7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_7` does not write keeps its contents through it. -/
theorem val0_8_keep (V0 : Valuation τ sig (Elt F)) (r : Ref sig .tc) (h : r ∉ ops_part0_7_W) :
    val0_8 V0 (Proc.devRef .tc r) = val0_7 V0 (Proc.devRef .tc r) :=
  after_of_writes_sub ops_part0_7 _ ops_part0_7_writes h
theorem val0_8_main_arg0 (V0 : Valuation τ sig (Elt F)) : val0_8 V0 (no_index (Proc.devRef .tc main_arg0)) = V0 (Proc.devRef .tc main_arg0) :=
  (val0_8_keep V0 main_arg0 (by decide)).trans (val0_7_main_arg0 V0)
theorem val0_8_main_v10 (V0 : Valuation τ sig (Elt F)) : val0_8 V0 (no_index (Proc.devRef .tc main_v10)) = Host.divf (res_main_v6 V0) (broadcastInDim S32x1000000 ![0, 1] bcast_S32x1_S32x1000000_0_1 (broadcastInDim S32x1 ![0] bcast_S32_S32x1_0 (Host.reduceAdd (res_main_v6 V0) (constant S_ .f32 0x00000000#32) reducesTo_S32x1000000_S32_d1 h_S_))) :=
  (val0_8_keep V0 main_v10 (by decide)).trans (val0_7_main_v10 V0)
theorem val0_8_main_call0_v6 (V0 : Valuation τ sig (Elt F)) : val0_8 V0 (no_index (Proc.devRef .tc main_call0_v6)) = res_main_call0_v6 V0 :=
  (val0_8_keep V0 main_call0_v6 (by decide)).trans (val0_7_main_call0_v6 V0)
theorem val0_8_main_call0_call0_v1 (V0 : Valuation τ sig (Elt F)) : val0_8 V0 (no_index (Proc.devRef .tc main_call0_call0_v1)) = res_main_call0_call0_v1 V0 :=
  (val0_8_keep V0 main_call0_call0_v1 (by decide)).trans (val0_7_main_call0_call0_v1 V0)
set_option maxRecDepth 8192 in
set_option maxHeartbeats 2000000 in
theorem val0_8_main_call0_call0_v155 (V0 : Valuation τ sig (Elt F)) : val0_8 V0 (no_index (Proc.devRef .tc main_call0_call0_v155)) = res_main_call0_call0_v155 V0 := by
  unfold val0_8
  simp only [ops_part0_7, TRef.binary, TRef.nullary, TRef.unary, TRef.toBuf, TRef.ofBuf, cast_eq]
  after_results_simp
  simp only [val0_7_main_call0_call0_v1, val0_7_main_call0_call0_v135, val0_7_main_call0_v8, val0_7_main_call0_call0_v129] <;> rfl
set_option maxRecDepth 8192 in
set_option maxHeartbeats 2000000 in
theorem val0_8_main_call0_call0_v156 (V0 : Valuation τ sig (Elt F)) : val0_8 V0 (no_index (Proc.devRef .tc main_call0_call0_v156)) = res_main_call0_call0_v156 V0 := by
  unfold val0_8
  simp only [ops_part0_7, TRef.binary, TRef.nullary, TRef.unary, TRef.toBuf, TRef.ofBuf, cast_eq]
  after_results_simp
  simp only [val0_7_main_call0_call0_v1, val0_7_main_call0_call0_v135, val0_7_main_call0_v8, val0_7_main_call0_call0_v129] <;> rfl
set_option maxRecDepth 8192 in
set_option maxHeartbeats 2000000 in
theorem val0_8_main_call0_call0_v158 (V0 : Valuation τ sig (Elt F)) : val0_8 V0 (no_index (Proc.devRef .tc main_call0_call0_v158)) = Host.shli (res_main_call0_call0_v155 V0) (broadcastInDim S1 ![] bcast_S_S1 (constantI S_ 32 26#32)) := by
  unfold val0_8
  simp only [ops_part0_7, TRef.binary, TRef.nullary, TRef.unary, TRef.toBuf, TRef.ofBuf, cast_eq]
  after_results_simp
  simp only [val0_7_main_call0_call0_v1, val0_7_main_call0_call0_v135, val0_7_main_call0_v8, val0_7_main_call0_call0_v129] <;> rfl
set_option maxRecDepth 8192 in
set_option maxHeartbeats 2000000 in
theorem val0_8_main_call0_call0_c_41 (V0 : Valuation τ sig (Elt F)) : val0_8 V0 (no_index (Proc.devRef .tc main_call0_call0_c_41)) = constantI S_ 32 6#32 := by
  unfold val0_8
  simp only [ops_part0_7, TRef.binary, TRef.nullary, TRef.unary, TRef.toBuf, TRef.ofBuf, cast_eq]
  after_results_simp
  all_goals rfl

/-- The device's buffer contents after @main's first 270 operations. -/
def val0_9 (V0 : Valuation τ sig (Elt F)) : Valuation τ sig (Elt F) := after ops_part0_8 (val0_8 V0)
/-- The buffers that window `ops_part0_8`'s operations write. -/
abbrev ops_part0_8_W : List (Ref sig .tc) := [main_call0_call0_v159, main_call0_call0_v160, main_call0_call0_v161, main_call0_call0_v162, main_call0_call0_v163, main_call0_call0_c_42, main_call0_call0_v164, main_call0_call0_v165, main_call0_call0_c_43, main_call0_call0_v166, main_call0_call0_v167, main_call0_call0_v168, main_call0_call0_v169, main_call0_call0_v170, main_call0_v11_0, main_call0_call0_v172, main_call0_call0_v173, main_call0_call0_c_44, main_call0_call0_v174, main_call0_v11_1, main_v18, main_v19, main_v20, main_v21, main_v22, main_v23, main_v24, main_c_5, main_v25, main_v26]
set_option maxRecDepth 8192 in
theorem ops_part0_8_writes : (ops_part0_8 : List (HloOp τ sig (Elt F))).Forall fun op => op.writes ⊆ (ops_part0_8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_8` does not write keeps its contents through it. -/
theorem val0_9_keep (V0 : Valuation τ sig (Elt F)) (r : Ref sig .tc) (h : r ∉ ops_part0_8_W) :
    val0_9 V0 (Proc.devRef .tc r) = val0_8 V0 (Proc.devRef .tc r) :=
  after_of_writes_sub ops_part0_8 _ ops_part0_8_writes h
theorem val0_9_main_arg0 (V0 : Valuation τ sig (Elt F)) : val0_9 V0 (no_index (Proc.devRef .tc main_arg0)) = V0 (Proc.devRef .tc main_arg0) :=
  (val0_9_keep V0 main_arg0 (by decide)).trans (val0_8_main_arg0 V0)
theorem val0_9_main_v10 (V0 : Valuation τ sig (Elt F)) : val0_9 V0 (no_index (Proc.devRef .tc main_v10)) = Host.divf (res_main_v6 V0) (broadcastInDim S32x1000000 ![0, 1] bcast_S32x1_S32x1000000_0_1 (broadcastInDim S32x1 ![0] bcast_S32_S32x1_0 (Host.reduceAdd (res_main_v6 V0) (constant S_ .f32 0x00000000#32) reducesTo_S32x1000000_S32_d1 h_S_))) :=
  (val0_9_keep V0 main_v10 (by decide)).trans (val0_8_main_v10 V0)
set_option maxRecDepth 8192 in
set_option maxHeartbeats 2000000 in
theorem val0_9_main_v20 (V0 : Valuation τ sig (Elt F)) : val0_9 V0 (no_index (Proc.devRef .tc main_v20)) = res_main_v20 V0 := by
  unfold val0_9
  simp only [ops_part0_8, TRef.binary, TRef.nullary, TRef.unary, TRef.toBuf, TRef.ofBuf, cast_eq]
  after_results_simp
  simp only [val0_8_main_call0_v6, val0_8_main_call0_call0_c_41, val0_8_main_call0_call0_v155, val0_8_main_call0_call0_v158, val0_8_main_call0_call0_v156, val0_8_main_call0_call0_v1] <;> rfl
set_option maxRecDepth 8192 in
set_option maxHeartbeats 2000000 in
theorem val0_9_main_v22 (V0 : Valuation τ sig (Elt F)) : val0_9 V0 (no_index (Proc.devRef .tc main_v22)) = res_main_v22 V0 := by
  unfold val0_9
  simp only [ops_part0_8, TRef.binary, TRef.nullary, TRef.unary, TRef.toBuf, TRef.ofBuf, cast_eq]
  after_results_simp
  simp only [val0_8_main_call0_v6, val0_8_main_call0_call0_c_41, val0_8_main_call0_call0_v155, val0_8_main_call0_call0_v158, val0_8_main_call0_call0_v156, val0_8_main_call0_call0_v1] <;> rfl
set_option maxRecDepth 8192 in
set_option maxHeartbeats 2000000 in
theorem val0_9_main_v24 (V0 : Valuation τ sig (Elt F)) : val0_9 V0 (no_index (Proc.devRef .tc main_v24)) = iotaInDim S32x1000000 64 1 := by
  unfold val0_9
  simp only [ops_part0_8, TRef.binary, TRef.nullary, TRef.unary, TRef.toBuf, TRef.ofBuf, cast_eq]
  after_results_simp
  all_goals rfl
set_option maxRecDepth 8192 in
set_option maxHeartbeats 2000000 in
theorem val0_9_main_v26 (V0 : Valuation τ sig (Elt F)) : val0_9 V0 (no_index (Proc.devRef .tc main_v26)) = muli (broadcastInDim S32x1000000 ![] bcast_S_S32x1000000 (constantI S_ 64 1000000#64)) (iotaInDim S32x1000000 64 0) := by
  unfold val0_9
  simp only [ops_part0_8, TRef.binary, TRef.nullary, TRef.unary, TRef.toBuf, TRef.ofBuf, cast_eq]
  after_results_simp
  all_goals rfl

/-- The device's buffer contents after @main's first 300 operations. -/
def val0_10 (V0 : Valuation τ sig (Elt F)) : Valuation τ sig (Elt F) := after ops_part0_9 (val0_9 V0)
/-- The buffers that window `ops_part0_9`'s operations write. -/
abbrev ops_part0_9_W : List (Ref sig .tc) := [main_c_6, main_v27, main_v28, main_v29, main_c_7, main_v30, main_v31, main_v32, main_v33, main_call1_v0, main_call1_c, main_call1_v1, main_call1_v2, main_call1_v3, main_call1_v4, main_call1_v5, main_call1_v6, main_call1_c_0, main_call1_v7, main_call1_v8, main_call1_c_1, main_call1_v9, main_call1_v10, main_call1_v11, main_call1_v12, main_call1_v13, main_call1_c_2, main_call1_v14, main_call1_v15, main_call1_c_3]
set_option maxRecDepth 8192 in
theorem ops_part0_9_writes : (ops_part0_9 : List (HloOp τ sig (Elt F))).Forall fun op => op.writes ⊆ (ops_part0_9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_9` does not write keeps its contents through it. -/
theorem val0_10_keep (V0 : Valuation τ sig (Elt F)) (r : Ref sig .tc) (h : r ∉ ops_part0_9_W) :
    val0_10 V0 (Proc.devRef .tc r) = val0_9 V0 (Proc.devRef .tc r) :=
  after_of_writes_sub ops_part0_9 _ ops_part0_9_writes h
theorem val0_10_main_arg0 (V0 : Valuation τ sig (Elt F)) : val0_10 V0 (no_index (Proc.devRef .tc main_arg0)) = V0 (Proc.devRef .tc main_arg0) :=
  (val0_10_keep V0 main_arg0 (by decide)).trans (val0_9_main_arg0 V0)
theorem val0_10_main_v10 (V0 : Valuation τ sig (Elt F)) : val0_10 V0 (no_index (Proc.devRef .tc main_v10)) = Host.divf (res_main_v6 V0) (broadcastInDim S32x1000000 ![0, 1] bcast_S32x1_S32x1000000_0_1 (broadcastInDim S32x1 ![0] bcast_S32_S32x1_0 (Host.reduceAdd (res_main_v6 V0) (constant S_ .f32 0x00000000#32) reducesTo_S32x1000000_S32_d1 h_S_))) :=
  (val0_10_keep V0 main_v10 (by decide)).trans (val0_9_main_v10 V0)
theorem val0_10_main_v20 (V0 : Valuation τ sig (Elt F)) : val0_10 V0 (no_index (Proc.devRef .tc main_v20)) = res_main_v20 V0 :=
  (val0_10_keep V0 main_v20 (by decide)).trans (val0_9_main_v20 V0)
theorem val0_10_main_v22 (V0 : Valuation τ sig (Elt F)) : val0_10 V0 (no_index (Proc.devRef .tc main_v22)) = res_main_v22 V0 :=
  (val0_10_keep V0 main_v22 (by decide)).trans (val0_9_main_v22 V0)
set_option maxRecDepth 8192 in
set_option maxHeartbeats 2000000 in
theorem val0_10_main_call1_v1 (V0 : Valuation τ sig (Elt F)) : val0_10 V0 (no_index (Proc.devRef .tc main_call1_v1)) = res_main_call1_v1 V0 := by
  unfold val0_10
  simp only [ops_part0_9, TRef.binary, TRef.nullary, TRef.unary, TRef.toBuf, TRef.ofBuf, cast_eq]
  after_results_simp
  simp only [val0_9_main_v22, val0_9_main_v20] <;> rfl
set_option maxRecDepth 8192 in
set_option maxHeartbeats 2000000 in
theorem val0_10_main_call1_v12 (V0 : Valuation τ sig (Elt F)) : val0_10 V0 (no_index (Proc.devRef .tc main_call1_v12)) = res_main_call1_v12 V0 := by
  unfold val0_10
  simp only [ops_part0_9, TRef.binary, TRef.nullary, TRef.unary, TRef.toBuf, TRef.ofBuf, cast_eq]
  after_results_simp
  simp only [val0_9_main_v22, val0_9_main_v24, val0_9_main_v26, val0_9_main_v20] <;> rfl
set_option maxRecDepth 8192 in
set_option maxHeartbeats 2000000 in
theorem val0_10_main_call1_v13 (V0 : Valuation τ sig (Elt F)) : val0_10 V0 (no_index (Proc.devRef .tc main_call1_v13)) = res_main_call1_v13 V0 := by
  unfold val0_10
  simp only [ops_part0_9, TRef.binary, TRef.nullary, TRef.unary, TRef.toBuf, TRef.ofBuf, cast_eq]
  after_results_simp
  simp only [val0_9_main_v22, val0_9_main_v24, val0_9_main_v26, val0_9_main_v20] <;> rfl
set_option maxRecDepth 8192 in
set_option maxHeartbeats 2000000 in
theorem val0_10_main_call1_v15 (V0 : Valuation τ sig (Elt F)) : val0_10 V0 (no_index (Proc.devRef .tc main_call1_v15)) = Host.shli (res_main_call1_v12 V0) (broadcastInDim S32x1000000 ![] bcast_S_S32x1000000 (constantI S_ 32 15#32)) := by
  unfold val0_10
  simp only [ops_part0_9, TRef.binary, TRef.nullary, TRef.unary, TRef.toBuf, TRef.ofBuf, cast_eq]
  after_results_simp
  simp only [val0_9_main_v22, val0_9_main_v24, val0_9_main_v26, val0_9_main_v20] <;> rfl
set_option maxRecDepth 8192 in
set_option maxHeartbeats 2000000 in
theorem val0_10_main_call1_c_3 (V0 : Valuation τ sig (Elt F)) : val0_10 V0 (no_index (Proc.devRef .tc main_call1_c_3)) = constantI S_ 32 17#32 := by
  unfold val0_10
  simp only [ops_part0_9, TRef.binary, TRef.nullary, TRef.unary, TRef.toBuf, TRef.ofBuf, cast_eq]
  after_results_simp
  all_goals rfl

/-- The device's buffer contents after @main's first 330 operations. -/
def val0_11 (V0 : Valuation τ sig (Elt F)) : Valuation τ sig (Elt F) := after ops_part0_10 (val0_10 V0)
/-- The buffers that window `ops_part0_10`'s operations write. -/
abbrev ops_part0_10_W : List (Ref sig .tc) := [main_call1_v16, main_call1_v17, main_call1_v18, main_call1_v19, main_call1_v20, main_call1_c_4, main_call1_v21, main_call1_v22, main_call1_c_5, main_call1_v23, main_call1_v24, main_call1_v25, main_call1_v26, main_call1_v27, main_call1_c_6, main_call1_v28, main_call1_v29, main_call1_c_7, main_call1_v30, main_call1_v31, main_call1_v32, main_call1_v33, main_call1_v34, main_call1_v35, main_call1_v36, main_call1_v37, main_call1_c_8, main_call1_v38, main_call1_v39, main_call1_v40]
set_option maxRecDepth 8192 in
theorem ops_part0_10_writes : (ops_part0_10 : List (HloOp τ sig (Elt F))).Forall fun op => op.writes ⊆ (ops_part0_10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_10` does not write keeps its contents through it. -/
theorem val0_11_keep (V0 : Valuation τ sig (Elt F)) (r : Ref sig .tc) (h : r ∉ ops_part0_10_W) :
    val0_11 V0 (Proc.devRef .tc r) = val0_10 V0 (Proc.devRef .tc r) :=
  after_of_writes_sub ops_part0_10 _ ops_part0_10_writes h
theorem val0_11_main_arg0 (V0 : Valuation τ sig (Elt F)) : val0_11 V0 (no_index (Proc.devRef .tc main_arg0)) = V0 (Proc.devRef .tc main_arg0) :=
  (val0_11_keep V0 main_arg0 (by decide)).trans (val0_10_main_arg0 V0)
theorem val0_11_main_v10 (V0 : Valuation τ sig (Elt F)) : val0_11 V0 (no_index (Proc.devRef .tc main_v10)) = Host.divf (res_main_v6 V0) (broadcastInDim S32x1000000 ![0, 1] bcast_S32x1_S32x1000000_0_1 (broadcastInDim S32x1 ![0] bcast_S32_S32x1_0 (Host.reduceAdd (res_main_v6 V0) (constant S_ .f32 0x00000000#32) reducesTo_S32x1000000_S32_d1 h_S_))) :=
  (val0_11_keep V0 main_v10 (by decide)).trans (val0_10_main_v10 V0)
theorem val0_11_main_v20 (V0 : Valuation τ sig (Elt F)) : val0_11 V0 (no_index (Proc.devRef .tc main_v20)) = res_main_v20 V0 :=
  (val0_11_keep V0 main_v20 (by decide)).trans (val0_10_main_v20 V0)
theorem val0_11_main_v22 (V0 : Valuation τ sig (Elt F)) : val0_11 V0 (no_index (Proc.devRef .tc main_v22)) = res_main_v22 V0 :=
  (val0_11_keep V0 main_v22 (by decide)).trans (val0_10_main_v22 V0)
theorem val0_11_main_call1_v1 (V0 : Valuation τ sig (Elt F)) : val0_11 V0 (no_index (Proc.devRef .tc main_call1_v1)) = res_main_call1_v1 V0 :=
  (val0_11_keep V0 main_call1_v1 (by decide)).trans (val0_10_main_call1_v1 V0)
set_option maxRecDepth 8192 in
set_option maxHeartbeats 2000000 in
theorem val0_11_main_call1_v39 (V0 : Valuation τ sig (Elt F)) : val0_11 V0 (no_index (Proc.devRef .tc main_call1_v39)) = res_main_call1_v39 V0 := by
  unfold val0_11
  simp only [ops_part0_10, TRef.binary, TRef.nullary, TRef.unary, TRef.toBuf, TRef.ofBuf, cast_eq]
  after_results_simp
  simp only [val0_10_main_call1_v1, val0_10_main_call1_c_3, val0_10_main_call1_v12, val0_10_main_call1_v15, val0_10_main_call1_v13] <;> rfl
set_option maxRecDepth 8192 in
set_option maxHeartbeats 2000000 in
theorem val0_11_main_call1_v40 (V0 : Valuation τ sig (Elt F)) : val0_11 V0 (no_index (Proc.devRef .tc main_call1_v40)) = res_main_call1_v40 V0 := by
  unfold val0_11
  simp only [ops_part0_10, TRef.binary, TRef.nullary, TRef.unary, TRef.toBuf, TRef.ofBuf, cast_eq]
  after_results_simp
  simp only [val0_10_main_call1_v1, val0_10_main_call1_c_3, val0_10_main_call1_v12, val0_10_main_call1_v15, val0_10_main_call1_v13, val0_10_main_v22] <;> rfl

/-- The device's buffer contents after @main's first 360 operations. -/
def val0_12 (V0 : Valuation τ sig (Elt F)) : Valuation τ sig (Elt F) := after ops_part0_11 (val0_11 V0)
/-- The buffers that window `ops_part0_11`'s operations write. -/
abbrev ops_part0_11_W : List (Ref sig .tc) := [main_call1_c_9, main_call1_v41, main_call1_v42, main_call1_c_10, main_call1_v43, main_call1_v44, main_call1_v45, main_call1_v46, main_call1_v47, main_call1_c_11, main_call1_v48, main_call1_v49, main_call1_c_12, main_call1_v50, main_call1_v51, main_call1_v52, main_call1_v53, main_call1_v54, main_call1_c_13, main_call1_v55, main_call1_v56, main_call1_c_14, main_call1_v57, main_call1_v58, main_call1_v59, main_call1_v60, main_call1_v61, main_call1_c_15, main_call1_v62, main_call1_v63]
set_option maxRecDepth 8192 in
theorem ops_part0_11_writes : (ops_part0_11 : List (HloOp τ sig (Elt F))).Forall fun op => op.writes ⊆ (ops_part0_11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_11` does not write keeps its contents through it. -/
theorem val0_12_keep (V0 : Valuation τ sig (Elt F)) (r : Ref sig .tc) (h : r ∉ ops_part0_11_W) :
    val0_12 V0 (Proc.devRef .tc r) = val0_11 V0 (Proc.devRef .tc r) :=
  after_of_writes_sub ops_part0_11 _ ops_part0_11_writes h
theorem val0_12_main_arg0 (V0 : Valuation τ sig (Elt F)) : val0_12 V0 (no_index (Proc.devRef .tc main_arg0)) = V0 (Proc.devRef .tc main_arg0) :=
  (val0_12_keep V0 main_arg0 (by decide)).trans (val0_11_main_arg0 V0)
theorem val0_12_main_v10 (V0 : Valuation τ sig (Elt F)) : val0_12 V0 (no_index (Proc.devRef .tc main_v10)) = Host.divf (res_main_v6 V0) (broadcastInDim S32x1000000 ![0, 1] bcast_S32x1_S32x1000000_0_1 (broadcastInDim S32x1 ![0] bcast_S32_S32x1_0 (Host.reduceAdd (res_main_v6 V0) (constant S_ .f32 0x00000000#32) reducesTo_S32x1000000_S32_d1 h_S_))) :=
  (val0_12_keep V0 main_v10 (by decide)).trans (val0_11_main_v10 V0)
theorem val0_12_main_v20 (V0 : Valuation τ sig (Elt F)) : val0_12 V0 (no_index (Proc.devRef .tc main_v20)) = res_main_v20 V0 :=
  (val0_12_keep V0 main_v20 (by decide)).trans (val0_11_main_v20 V0)
theorem val0_12_main_v22 (V0 : Valuation τ sig (Elt F)) : val0_12 V0 (no_index (Proc.devRef .tc main_v22)) = res_main_v22 V0 :=
  (val0_12_keep V0 main_v22 (by decide)).trans (val0_11_main_v22 V0)
theorem val0_12_main_call1_v1 (V0 : Valuation τ sig (Elt F)) : val0_12 V0 (no_index (Proc.devRef .tc main_call1_v1)) = res_main_call1_v1 V0 :=
  (val0_12_keep V0 main_call1_v1 (by decide)).trans (val0_11_main_call1_v1 V0)
set_option maxRecDepth 8192 in
set_option maxHeartbeats 2000000 in
theorem val0_12_main_call1_v60 (V0 : Valuation τ sig (Elt F)) : val0_12 V0 (no_index (Proc.devRef .tc main_call1_v60)) = res_main_call1_v60 V0 := by
  unfold val0_12
  simp only [ops_part0_11, TRef.binary, TRef.nullary, TRef.unary, TRef.toBuf, TRef.ofBuf, cast_eq]
  after_results_simp
  simp only [val0_11_main_call1_v39, val0_11_main_call1_v40] <;> rfl
set_option maxRecDepth 8192 in
set_option maxHeartbeats 2000000 in
theorem val0_12_main_call1_v61 (V0 : Valuation τ sig (Elt F)) : val0_12 V0 (no_index (Proc.devRef .tc main_call1_v61)) = res_main_call1_v61 V0 := by
  unfold val0_12
  simp only [ops_part0_11, TRef.binary, TRef.nullary, TRef.unary, TRef.toBuf, TRef.ofBuf, cast_eq]
  after_results_simp
  simp only [val0_11_main_call1_v39, val0_11_main_call1_v40] <;> rfl
set_option maxRecDepth 8192 in
set_option maxHeartbeats 2000000 in
theorem val0_12_main_call1_v63 (V0 : Valuation τ sig (Elt F)) : val0_12 V0 (no_index (Proc.devRef .tc main_call1_v63)) = Host.shli (res_main_call1_v60 V0) (broadcastInDim S32x1000000 ![] bcast_S_S32x1000000 (constantI S_ 32 24#32)) := by
  unfold val0_12
  simp only [ops_part0_11, TRef.binary, TRef.nullary, TRef.unary, TRef.toBuf, TRef.ofBuf, cast_eq]
  after_results_simp
  simp only [val0_11_main_call1_v39, val0_11_main_call1_v40] <;> rfl

/-- The device's buffer contents after @main's first 390 operations. -/
def val0_13 (V0 : Valuation τ sig (Elt F)) : Valuation τ sig (Elt F) := after ops_part0_12 (val0_12 V0)
/-- The buffers that window `ops_part0_12`'s operations write. -/
abbrev ops_part0_12_W : List (Ref sig .tc) := [main_call1_c_16, main_call1_v64, main_call1_v65, main_call1_v66, main_call1_v67, main_call1_v68, main_call1_v69, main_call1_v70, main_call1_v71, main_call1_c_17, main_call1_v72, main_call1_v73, main_call1_v74, main_call1_c_18, main_call1_v75, main_call1_v76, main_call1_c_19, main_call1_v77, main_call1_v78, main_call1_v79, main_call1_v80, main_call1_v81, main_call1_c_20, main_call1_v82, main_call1_v83, main_call1_c_21, main_call1_v84, main_call1_v85, main_call1_v86, main_call1_v87]
set_option maxRecDepth 8192 in
theorem ops_part0_12_writes : (ops_part0_12 : List (HloOp τ sig (Elt F))).Forall fun op => op.writes ⊆ (ops_part0_12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_12` does not write keeps its contents through it. -/
theorem val0_13_keep (V0 : Valuation τ sig (Elt F)) (r : Ref sig .tc) (h : r ∉ ops_part0_12_W) :
    val0_13 V0 (Proc.devRef .tc r) = val0_12 V0 (Proc.devRef .tc r) :=
  after_of_writes_sub ops_part0_12 _ ops_part0_12_writes h
theorem val0_13_main_arg0 (V0 : Valuation τ sig (Elt F)) : val0_13 V0 (no_index (Proc.devRef .tc main_arg0)) = V0 (Proc.devRef .tc main_arg0) :=
  (val0_13_keep V0 main_arg0 (by decide)).trans (val0_12_main_arg0 V0)
theorem val0_13_main_v10 (V0 : Valuation τ sig (Elt F)) : val0_13 V0 (no_index (Proc.devRef .tc main_v10)) = Host.divf (res_main_v6 V0) (broadcastInDim S32x1000000 ![0, 1] bcast_S32x1_S32x1000000_0_1 (broadcastInDim S32x1 ![0] bcast_S32_S32x1_0 (Host.reduceAdd (res_main_v6 V0) (constant S_ .f32 0x00000000#32) reducesTo_S32x1000000_S32_d1 h_S_))) :=
  (val0_13_keep V0 main_v10 (by decide)).trans (val0_12_main_v10 V0)
theorem val0_13_main_v20 (V0 : Valuation τ sig (Elt F)) : val0_13 V0 (no_index (Proc.devRef .tc main_v20)) = res_main_v20 V0 :=
  (val0_13_keep V0 main_v20 (by decide)).trans (val0_12_main_v20 V0)
theorem val0_13_main_v22 (V0 : Valuation τ sig (Elt F)) : val0_13 V0 (no_index (Proc.devRef .tc main_v22)) = res_main_v22 V0 :=
  (val0_13_keep V0 main_v22 (by decide)).trans (val0_12_main_v22 V0)
theorem val0_13_main_call1_v1 (V0 : Valuation τ sig (Elt F)) : val0_13 V0 (no_index (Proc.devRef .tc main_call1_v1)) = res_main_call1_v1 V0 :=
  (val0_13_keep V0 main_call1_v1 (by decide)).trans (val0_12_main_call1_v1 V0)
set_option maxRecDepth 8192 in
set_option maxHeartbeats 2000000 in
theorem val0_13_main_call1_v81 (V0 : Valuation τ sig (Elt F)) : val0_13 V0 (no_index (Proc.devRef .tc main_call1_v81)) = res_main_call1_v81 V0 := by
  unfold val0_13
  simp only [ops_part0_12, TRef.binary, TRef.nullary, TRef.unary, TRef.toBuf, TRef.ofBuf, cast_eq]
  after_results_simp
  simp only [val0_12_main_v20, val0_12_main_call1_v60, val0_12_main_call1_v63, val0_12_main_call1_v61, val0_12_main_call1_v1] <;> rfl
set_option maxRecDepth 8192 in
set_option maxHeartbeats 2000000 in
theorem val0_13_main_call1_v87 (V0 : Valuation τ sig (Elt F)) : val0_13 V0 (no_index (Proc.devRef .tc main_call1_v87)) = res_main_call1_v87 V0 := by
  unfold val0_13
  simp only [ops_part0_12, TRef.binary, TRef.nullary, TRef.unary, TRef.toBuf, TRef.ofBuf, cast_eq]
  after_results_simp
  simp only [val0_12_main_v20, val0_12_main_call1_v60, val0_12_main_call1_v63, val0_12_main_call1_v61, val0_12_main_call1_v1] <;> rfl

/-- The device's buffer contents after @main's first 420 operations. -/
def val0_14 (V0 : Valuation τ sig (Elt F)) : Valuation τ sig (Elt F) := after ops_part0_13 (val0_13 V0)
/-- The buffers that window `ops_part0_13`'s operations write. -/
abbrev ops_part0_13_W : List (Ref sig .tc) := [main_call1_v88, main_call1_c_22, main_call1_v89, main_call1_v90, main_call1_c_23, main_call1_v91, main_call1_v92, main_call1_v93, main_call1_v94, main_call1_v95, main_call1_c_24, main_call1_v96, main_call1_v97, main_call1_c_25, main_call1_v98, main_call1_v99, main_call1_v100, main_call1_v101, main_call1_v102, main_call1_v103, main_call1_v104, main_call1_v105, main_call1_c_26, main_call1_v106, main_call1_v107, main_call1_v108, main_call1_c_27, main_call1_v109, main_call1_v110, main_call1_c_28]
set_option maxRecDepth 8192 in
theorem ops_part0_13_writes : (ops_part0_13 : List (HloOp τ sig (Elt F))).Forall fun op => op.writes ⊆ (ops_part0_13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_13` does not write keeps its contents through it. -/
theorem val0_14_keep (V0 : Valuation τ sig (Elt F)) (r : Ref sig .tc) (h : r ∉ ops_part0_13_W) :
    val0_14 V0 (Proc.devRef .tc r) = val0_13 V0 (Proc.devRef .tc r) :=
  after_of_writes_sub ops_part0_13 _ ops_part0_13_writes h
theorem val0_14_main_arg0 (V0 : Valuation τ sig (Elt F)) : val0_14 V0 (no_index (Proc.devRef .tc main_arg0)) = V0 (Proc.devRef .tc main_arg0) :=
  (val0_14_keep V0 main_arg0 (by decide)).trans (val0_13_main_arg0 V0)
theorem val0_14_main_v10 (V0 : Valuation τ sig (Elt F)) : val0_14 V0 (no_index (Proc.devRef .tc main_v10)) = Host.divf (res_main_v6 V0) (broadcastInDim S32x1000000 ![0, 1] bcast_S32x1_S32x1000000_0_1 (broadcastInDim S32x1 ![0] bcast_S32_S32x1_0 (Host.reduceAdd (res_main_v6 V0) (constant S_ .f32 0x00000000#32) reducesTo_S32x1000000_S32_d1 h_S_))) :=
  (val0_14_keep V0 main_v10 (by decide)).trans (val0_13_main_v10 V0)
theorem val0_14_main_v20 (V0 : Valuation τ sig (Elt F)) : val0_14 V0 (no_index (Proc.devRef .tc main_v20)) = res_main_v20 V0 :=
  (val0_14_keep V0 main_v20 (by decide)).trans (val0_13_main_v20 V0)
theorem val0_14_main_v22 (V0 : Valuation τ sig (Elt F)) : val0_14 V0 (no_index (Proc.devRef .tc main_v22)) = res_main_v22 V0 :=
  (val0_14_keep V0 main_v22 (by decide)).trans (val0_13_main_v22 V0)
theorem val0_14_main_call1_v1 (V0 : Valuation τ sig (Elt F)) : val0_14 V0 (no_index (Proc.devRef .tc main_call1_v1)) = res_main_call1_v1 V0 :=
  (val0_14_keep V0 main_call1_v1 (by decide)).trans (val0_13_main_call1_v1 V0)
set_option maxRecDepth 8192 in
set_option maxHeartbeats 2000000 in
theorem val0_14_main_call1_v107 (V0 : Valuation τ sig (Elt F)) : val0_14 V0 (no_index (Proc.devRef .tc main_call1_v107)) = res_main_call1_v107 V0 := by
  unfold val0_14
  simp only [ops_part0_13, TRef.binary, TRef.nullary, TRef.unary, TRef.toBuf, TRef.ofBuf, cast_eq]
  after_results_simp
  simp only [val0_13_main_v22, val0_13_main_call1_v87, val0_13_main_call1_v81] <;> rfl
set_option maxRecDepth 8192 in
set_option maxHeartbeats 2000000 in
theorem val0_14_main_call1_v108 (V0 : Valuation τ sig (Elt F)) : val0_14 V0 (no_index (Proc.devRef .tc main_call1_v108)) = res_main_call1_v108 V0 := by
  unfold val0_14
  simp only [ops_part0_13, TRef.binary, TRef.nullary, TRef.unary, TRef.toBuf, TRef.ofBuf, cast_eq]
  after_results_simp
  simp only [val0_13_main_v22, val0_13_main_call1_v87, val0_13_main_call1_v81, val0_13_main_v20] <;> rfl
set_option maxRecDepth 8192 in
set_option maxHeartbeats 2000000 in
theorem val0_14_main_call1_v110 (V0 : Valuation τ sig (Elt F)) : val0_14 V0 (no_index (Proc.devRef .tc main_call1_v110)) = Host.shli (res_main_call1_v107 V0) (broadcastInDim S32x1000000 ![] bcast_S_S32x1000000 (constantI S_ 32 17#32)) := by
  unfold val0_14
  simp only [ops_part0_13, TRef.binary, TRef.nullary, TRef.unary, TRef.toBuf, TRef.ofBuf, cast_eq]
  after_results_simp
  simp only [val0_13_main_v22, val0_13_main_call1_v87, val0_13_main_call1_v81] <;> rfl
set_option maxRecDepth 8192 in
set_option maxHeartbeats 2000000 in
theorem val0_14_main_call1_c_28 (V0 : Valuation τ sig (Elt F)) : val0_14 V0 (no_index (Proc.devRef .tc main_call1_c_28)) = constantI S_ 32 15#32 := by
  unfold val0_14
  simp only [ops_part0_13, TRef.binary, TRef.nullary, TRef.unary, TRef.toBuf, TRef.ofBuf, cast_eq]
  after_results_simp
  all_goals rfl

/-- The device's buffer contents after @main's first 450 operations. -/
def val0_15 (V0 : Valuation τ sig (Elt F)) : Valuation τ sig (Elt F) := after ops_part0_14 (val0_14 V0)
/-- The buffers that window `ops_part0_14`'s operations write. -/
abbrev ops_part0_14_W : List (Ref sig .tc) := [main_call1_v111, main_call1_v112, main_call1_v113, main_call1_v114, main_call1_v115, main_call1_c_29, main_call1_v116, main_call1_v117, main_call1_c_30, main_call1_v118, main_call1_v119, main_call1_v120, main_call1_v121, main_call1_v122, main_call1_c_31, main_call1_v123, main_call1_v124, main_call1_c_32, main_call1_v125, main_call1_v126, main_call1_v127, main_call1_v128, main_call1_v129, main_call1_c_33, main_call1_v130, main_call1_v131, main_call1_c_34, main_call1_v132, main_call1_v133, main_call1_v134]
set_option maxRecDepth 8192 in
theorem ops_part0_14_writes : (ops_part0_14 : List (HloOp τ sig (Elt F))).Forall fun op => op.writes ⊆ (ops_part0_14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_14` does not write keeps its contents through it. -/
theorem val0_15_keep (V0 : Valuation τ sig (Elt F)) (r : Ref sig .tc) (h : r ∉ ops_part0_14_W) :
    val0_15 V0 (Proc.devRef .tc r) = val0_14 V0 (Proc.devRef .tc r) :=
  after_of_writes_sub ops_part0_14 _ ops_part0_14_writes h
theorem val0_15_main_arg0 (V0 : Valuation τ sig (Elt F)) : val0_15 V0 (no_index (Proc.devRef .tc main_arg0)) = V0 (Proc.devRef .tc main_arg0) :=
  (val0_15_keep V0 main_arg0 (by decide)).trans (val0_14_main_arg0 V0)
theorem val0_15_main_v10 (V0 : Valuation τ sig (Elt F)) : val0_15 V0 (no_index (Proc.devRef .tc main_v10)) = Host.divf (res_main_v6 V0) (broadcastInDim S32x1000000 ![0, 1] bcast_S32x1_S32x1000000_0_1 (broadcastInDim S32x1 ![0] bcast_S32_S32x1_0 (Host.reduceAdd (res_main_v6 V0) (constant S_ .f32 0x00000000#32) reducesTo_S32x1000000_S32_d1 h_S_))) :=
  (val0_15_keep V0 main_v10 (by decide)).trans (val0_14_main_v10 V0)
theorem val0_15_main_v20 (V0 : Valuation τ sig (Elt F)) : val0_15 V0 (no_index (Proc.devRef .tc main_v20)) = res_main_v20 V0 :=
  (val0_15_keep V0 main_v20 (by decide)).trans (val0_14_main_v20 V0)
theorem val0_15_main_v22 (V0 : Valuation τ sig (Elt F)) : val0_15 V0 (no_index (Proc.devRef .tc main_v22)) = res_main_v22 V0 :=
  (val0_15_keep V0 main_v22 (by decide)).trans (val0_14_main_v22 V0)
theorem val0_15_main_call1_v1 (V0 : Valuation τ sig (Elt F)) : val0_15 V0 (no_index (Proc.devRef .tc main_call1_v1)) = res_main_call1_v1 V0 :=
  (val0_15_keep V0 main_call1_v1 (by decide)).trans (val0_14_main_call1_v1 V0)
set_option maxRecDepth 8192 in
set_option maxHeartbeats 2000000 in
theorem val0_15_main_call1_v129 (V0 : Valuation τ sig (Elt F)) : val0_15 V0 (no_index (Proc.devRef .tc main_call1_v129)) = res_main_call1_v129 V0 := by
  unfold val0_15
  simp only [ops_part0_14, TRef.binary, TRef.nullary, TRef.unary, TRef.toBuf, TRef.ofBuf, cast_eq]
  after_results_simp
  simp only [val0_14_main_call1_c_28, val0_14_main_call1_v107, val0_14_main_call1_v110, val0_14_main_call1_v108] <;> rfl
set_option maxRecDepth 8192 in
set_option maxHeartbeats 2000000 in
theorem val0_15_main_call1_v134 (V0 : Valuation τ sig (Elt F)) : val0_15 V0 (no_index (Proc.devRef .tc main_call1_v134)) = ori (Host.shli (res_main_call1_v128 V0) (broadcastInDim S32x1000000 ![] bcast_S_S32x1000000 (constantI S_ 32 24#32))) (Host.shrui (res_main_call1_v128 V0) (broadcastInDim S32x1000000 ![] bcast_S_S32x1000000 (constantI S_ 32 8#32))) := by
  unfold val0_15
  simp only [ops_part0_14, TRef.binary, TRef.nullary, TRef.unary, TRef.toBuf, TRef.ofBuf, cast_eq]
  after_results_simp
  simp only [val0_14_main_call1_c_28, val0_14_main_call1_v107, val0_14_main_call1_v110, val0_14_main_call1_v108] <;> rfl

/-- The device's buffer contents after @main's first 480 operations. -/
def val0_16 (V0 : Valuation τ sig (Elt F)) : Valuation τ sig (Elt F) := after ops_part0_15 (val0_15 V0)
/-- The buffers that window `ops_part0_15`'s operations write. -/
abbrev ops_part0_15_W : List (Ref sig .tc) := [main_call1_v135, main_call1_v136, main_call1_v137, main_call1_v138, main_call1_v139, main_call1_c_35, main_call1_v140, main_call1_v141, main_call1_v142, main_call1_c_36, main_call1_v143, main_call1_v144, main_call1_c_37, main_call1_v145, main_call1_v146, main_call1_v147, main_call1_v148, main_call1_v149, main_call1_c_38, main_call1_v150, main_call1_v151, main_call1_c_39, main_call1_v152, main_call1_v153, main_call1_v154, main_call1_v155, main_call1_v156, main_call1_c_40, main_call1_v157, main_call1_v158]
set_option maxRecDepth 8192 in
theorem ops_part0_15_writes : (ops_part0_15 : List (HloOp τ sig (Elt F))).Forall fun op => op.writes ⊆ (ops_part0_15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_15` does not write keeps its contents through it. -/
theorem val0_16_keep (V0 : Valuation τ sig (Elt F)) (r : Ref sig .tc) (h : r ∉ ops_part0_15_W) :
    val0_16 V0 (Proc.devRef .tc r) = val0_15 V0 (Proc.devRef .tc r) :=
  after_of_writes_sub ops_part0_15 _ ops_part0_15_writes h
theorem val0_16_main_arg0 (V0 : Valuation τ sig (Elt F)) : val0_16 V0 (no_index (Proc.devRef .tc main_arg0)) = V0 (Proc.devRef .tc main_arg0) :=
  (val0_16_keep V0 main_arg0 (by decide)).trans (val0_15_main_arg0 V0)
theorem val0_16_main_v10 (V0 : Valuation τ sig (Elt F)) : val0_16 V0 (no_index (Proc.devRef .tc main_v10)) = Host.divf (res_main_v6 V0) (broadcastInDim S32x1000000 ![0, 1] bcast_S32x1_S32x1000000_0_1 (broadcastInDim S32x1 ![0] bcast_S32_S32x1_0 (Host.reduceAdd (res_main_v6 V0) (constant S_ .f32 0x00000000#32) reducesTo_S32x1000000_S32_d1 h_S_))) :=
  (val0_16_keep V0 main_v10 (by decide)).trans (val0_15_main_v10 V0)
theorem val0_16_main_v20 (V0 : Valuation τ sig (Elt F)) : val0_16 V0 (no_index (Proc.devRef .tc main_v20)) = res_main_v20 V0 :=
  (val0_16_keep V0 main_v20 (by decide)).trans (val0_15_main_v20 V0)
theorem val0_16_main_call1_v1 (V0 : Valuation τ sig (Elt F)) : val0_16 V0 (no_index (Proc.devRef .tc main_call1_v1)) = res_main_call1_v1 V0 :=
  (val0_16_keep V0 main_call1_v1 (by decide)).trans (val0_15_main_call1_v1 V0)
set_option maxRecDepth 8192 in
set_option maxHeartbeats 2000000 in
theorem val0_16_main_call1_v155 (V0 : Valuation τ sig (Elt F)) : val0_16 V0 (no_index (Proc.devRef .tc main_call1_v155)) = res_main_call1_v155 V0 := by
  unfold val0_16
  simp only [ops_part0_15, TRef.binary, TRef.nullary, TRef.unary, TRef.toBuf, TRef.ofBuf, cast_eq]
  after_results_simp
  simp only [val0_15_main_call1_v1, val0_15_main_call1_v134, val0_15_main_call1_v129, val0_15_main_v22] <;> rfl
set_option maxRecDepth 8192 in
set_option maxHeartbeats 2000000 in
theorem val0_16_main_call1_v156 (V0 : Valuation τ sig (Elt F)) : val0_16 V0 (no_index (Proc.devRef .tc main_call1_v156)) = res_main_call1_v156 V0 := by
  unfold val0_16
  simp only [ops_part0_15, TRef.binary, TRef.nullary, TRef.unary, TRef.toBuf, TRef.ofBuf, cast_eq]
  after_results_simp
  simp only [val0_15_main_call1_v1, val0_15_main_call1_v134, val0_15_main_call1_v129, val0_15_main_v22] <;> rfl
set_option maxRecDepth 8192 in
set_option maxHeartbeats 2000000 in
theorem val0_16_main_call1_v158 (V0 : Valuation τ sig (Elt F)) : val0_16 V0 (no_index (Proc.devRef .tc main_call1_v158)) = Host.shli (res_main_call1_v155 V0) (broadcastInDim S32x1000000 ![] bcast_S_S32x1000000 (constantI S_ 32 26#32)) := by
  unfold val0_16
  simp only [ops_part0_15, TRef.binary, TRef.nullary, TRef.unary, TRef.toBuf, TRef.ofBuf, cast_eq]
  after_results_simp
  simp only [val0_15_main_call1_v1, val0_15_main_call1_v134, val0_15_main_call1_v129, val0_15_main_v22] <;> rfl

/-- The device's buffer contents after @main's first 510 operations. -/
def val0_17 (V0 : Valuation τ sig (Elt F)) : Valuation τ sig (Elt F) := after ops_part0_16 (val0_16 V0)
/-- The buffers that window `ops_part0_16`'s operations write. -/
abbrev ops_part0_16_W : List (Ref sig .tc) := [main_call1_c_41, main_call1_v159, main_call1_v160, main_call1_v161, main_call1_v162, main_call1_v163, main_call1_c_42, main_call1_v164, main_call1_v165, main_call1_c_43, main_call1_v166, main_call1_v167, main_call1_v168, main_call1_v169, main_call1_v170, main_v34_0, main_call1_v172, main_call1_v173, main_call1_c_44, main_call1_v174, main_v34_1, main_v35, main_c_8, main_v36, main_v37, main_c_9, main_v38, main_v39, main_v40, main_cst_10]
set_option maxRecDepth 8192 in
theorem ops_part0_16_writes : (ops_part0_16 : List (HloOp τ sig (Elt F))).Forall fun op => op.writes ⊆ (ops_part0_16_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_16` does not write keeps its contents through it. -/
theorem val0_17_keep (V0 : Valuation τ sig (Elt F)) (r : Ref sig .tc) (h : r ∉ ops_part0_16_W) :
    val0_17 V0 (Proc.devRef .tc r) = val0_16 V0 (Proc.devRef .tc r) :=
  after_of_writes_sub ops_part0_16 _ ops_part0_16_writes h
theorem val0_17_main_arg0 (V0 : Valuation τ sig (Elt F)) : val0_17 V0 (no_index (Proc.devRef .tc main_arg0)) = V0 (Proc.devRef .tc main_arg0) :=
  (val0_17_keep V0 main_arg0 (by decide)).trans (val0_16_main_arg0 V0)
theorem val0_17_main_v10 (V0 : Valuation τ sig (Elt F)) : val0_17 V0 (no_index (Proc.devRef .tc main_v10)) = Host.divf (res_main_v6 V0) (broadcastInDim S32x1000000 ![0, 1] bcast_S32x1_S32x1000000_0_1 (broadcastInDim S32x1 ![0] bcast_S32_S32x1_0 (Host.reduceAdd (res_main_v6 V0) (constant S_ .f32 0x00000000#32) reducesTo_S32x1000000_S32_d1 h_S_))) :=
  (val0_17_keep V0 main_v10 (by decide)).trans (val0_16_main_v10 V0)
set_option maxRecDepth 8192 in
set_option maxHeartbeats 2000000 in
theorem val0_17_main_v40 (V0 : Valuation τ sig (Elt F)) : val0_17 V0 (no_index (Proc.devRef .tc main_v40)) = bitcastToFloat (F := F) .f32 (ori (Host.shrui (xori (addi (res_main_call1_v163 V0) (broadcastInDim S32x1000000 ![] bcast_S_S32x1000000 (res_main_call1_v1 V0))) (addi (addi (xori (res_main_call1_v163 V0) (ori (Host.shli (res_main_call1_v162 V0) (broadcastInDim S32x1000000 ![] bcast_S_S32x1000000 (constantI S_ 32 6#32))) (Host.shrui (res_main_call1_v162 V0) (broadcastInDim S32x1000000 ![] bcast_S_S32x1000000 (constantI S_ 32 26#32))))) (broadcastInDim S32x1000000 ![] bcast_S_S32x1000000 (res_main_v20 V0))) (broadcastInDim S32x1000000 ![] bcast_S_S32x1000000 (constantI S_ 32 5#32)))) (broadcastInDim S32x1000000 ![] bcast_S_S32x1000000 (constantI S_ 32 9#32))) (broadcastInDim S32x1000000 ![] bcast_S_S32x1000000 (constantI S_ 32 1065353216#32))) := by
  unfold val0_17
  simp only [ops_part0_16, TRef.binary, TRef.nullary, TRef.unary, TRef.toBuf, TRef.ofBuf, cast_eq]
  after_results_simp
  simp only [val0_16_main_v20, val0_16_main_call1_v155, val0_16_main_call1_v158, val0_16_main_call1_v156, val0_16_main_call1_v1] <;> rfl
set_option maxRecDepth 8192 in
set_option maxHeartbeats 2000000 in
theorem val0_17_main_cst_10 (V0 : Valuation τ sig (Elt F)) : val0_17 V0 (no_index (Proc.devRef .tc main_cst_10)) = constant S_ .f32 0x3F800000#32 := by
  unfold val0_17
  simp only [ops_part0_16, TRef.binary, TRef.nullary, TRef.unary, TRef.toBuf, TRef.ofBuf, cast_eq]
  after_results_simp
  all_goals rfl

/-- The device's buffer contents after @main's first 1 window. -/
def val1 (V0 : Valuation τ sig (Elt F)) : Valuation τ sig (Elt F) := after ops_part0_17 (val0_17 V0)
/-- The buffers that window `ops_part0_17`'s operations write. -/
abbrev ops_part0_17_W : List (Ref sig .tc) := [main_v41, main_v42, main_cst_11, main_v43, main_v44, main_cst_12]
set_option maxRecDepth 8192 in
theorem ops_part0_17_writes : (ops_part0_17 : List (HloOp τ sig (Elt F))).Forall fun op => op.writes ⊆ (ops_part0_17_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_17` does not write keeps its contents through it. -/
theorem val1_keep (V0 : Valuation τ sig (Elt F)) (r : Ref sig .tc) (h : r ∉ ops_part0_17_W) :
    val1 V0 (Proc.devRef .tc r) = val0_17 V0 (Proc.devRef .tc r) :=
  after_of_writes_sub ops_part0_17 _ ops_part0_17_writes h
theorem val1_main_arg0 (V0 : Valuation τ sig (Elt F)) : val1 V0 (no_index (Proc.devRef .tc main_arg0)) = V0 (Proc.devRef .tc main_arg0) :=
  (val1_keep V0 main_arg0 (by decide)).trans (val0_17_main_arg0 V0)
theorem val1_main_v10 (V0 : Valuation τ sig (Elt F)) : val1 V0 (no_index (Proc.devRef .tc main_v10)) = Host.divf (res_main_v6 V0) (broadcastInDim S32x1000000 ![0, 1] bcast_S32x1_S32x1000000_0_1 (broadcastInDim S32x1 ![0] bcast_S32_S32x1_0 (Host.reduceAdd (res_main_v6 V0) (constant S_ .f32 0x00000000#32) reducesTo_S32x1000000_S32_d1 h_S_))) :=
  (val1_keep V0 main_v10 (by decide)).trans (val0_17_main_v10 V0)
set_option maxRecDepth 8192 in
theorem val1_main_v44 (V0 : Valuation τ sig (Elt F)) : val1 V0 (no_index (Proc.devRef .tc main_v44)) = mulf (subf (bitcastToFloat (F := F) .f32 (ori (Host.shrui (xori (addi (res_main_call1_v163 V0) (broadcastInDim S32x1000000 ![] bcast_S_S32x1000000 (res_main_call1_v1 V0))) (addi (addi (xori (res_main_call1_v163 V0) (ori (Host.shli (res_main_call1_v162 V0) (broadcastInDim S32x1000000 ![] bcast_S_S32x1000000 (constantI S_ 32 6#32))) (Host.shrui (res_main_call1_v162 V0) (broadcastInDim S32x1000000 ![] bcast_S_S32x1000000 (constantI S_ 32 26#32))))) (broadcastInDim S32x1000000 ![] bcast_S_S32x1000000 (res_main_v20 V0))) (broadcastInDim S32x1000000 ![] bcast_S_S32x1000000 (constantI S_ 32 5#32)))) (broadcastInDim S32x1000000 ![] bcast_S_S32x1000000 (constantI S_ 32 9#32))) (broadcastInDim S32x1000000 ![] bcast_S_S32x1000000 (constantI S_ 32 1065353216#32)))) (broadcastInDim S32x1000000 ![] bcast_S_S32x1000000 (constant S_ .f32 0x3F800000#32))) (broadcastInDim S32x1000000 ![] bcast_S_S32x1000000 (constant S_ .f32 0x3F800000#32)) := by
  unfold val1
  simp only [ops_part0_17]
  after_results_simp
  simp only [val0_17_main_cst_10, val0_17_main_v40] <;> rfl
set_option maxRecDepth 8192 in
theorem val1_main_cst_12 (V0 : Valuation τ sig (Elt F)) : val1 V0 (no_index (Proc.devRef .tc main_cst_12)) = constant S_ .f32 0x00800000#32 := by
  unfold val1
  simp only [ops_part0_17]
  after_results_simp
  all_goals rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v45, main_v46, main_cst_13, main_v47, main_v48, main_v49, main_v50, main_v51, main_v52, main_v53, main_cst_14, main_v54, main_v55, main_cst_15, main_v56, main_cst_16, main_v57, main_v58, main_v59, main_v60, main_v61, main_v62, main_cst_17, main_v63, main_v64, main_v65, main_v66, main_call2_v0, main_call2_cst, main_call2_c, main_call2_v1_0, main_v67, main_cst_18, main_v68, main_v69, main_c_19, main_v70, main_v71, main_c_20, main_v72, main_v73, main_v74, main_c_21, main_v75, main_v76, main_c_22, main_v77, main_v78, main_v79, main_v80, main_v81, main_v82, main_cst_23, main_v83, main_v84, main_v85, main_v86]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_v10 (V0 : Valuation τ sig (Elt F)) : val2 V0 (no_index (Proc.devRef .tc main_v10)) = Host.divf (res_main_v6 V0) (broadcastInDim S32x1000000 ![0, 1] bcast_S32x1_S32x1000000_0_1 (broadcastInDim S32x1 ![0] bcast_S32_S32x1_0 (Host.reduceAdd (res_main_v6 V0) (constant S_ .f32 0x00000000#32) reducesTo_S32x1000000_S32_d1 h_S_))) :=
  (val2_keep V0 main_v10 (by decide)).trans (val1_main_v10 V0)
set_option maxRecDepth 8192 in
set_option maxHeartbeats 2000000 in
theorem val2_main_v86 (V0 : Valuation τ sig (Elt F)) : val2 V0 (no_index (Proc.devRef .tc main_v86)) = addf (subf (Host.scatter scatter_S32x1000000_S32x2_S32_n_01_01_1 (fun _ b => b) (broadcastInDim S32x1000000 ![] bcast_S_S32x1000000 (constant S_ .f32 0x00000000#32)) (concatenate S32x2 1 [⟨S32x1, (broadcastInDim S32x1 ![0] bcast_S32_S32x1_0 (select (cmpi .slt (res_main_v69 V0) (broadcastInDim S32 ![] bcast_S_S32 (constantI S_ 32 0#32))) (addi (res_main_v69 V0) (broadcastInDim S32 ![] bcast_S_S32 (constantI S_ 32 32#32))) (res_main_v69 V0)))⟩, ⟨S32x1, (broadcastInDim S32x1 ![0] bcast_S32_S32x1_0 (select (cmpi .slt (res_main_v67 V0) (broadcastInDim S32 ![] bcast_S_S32 (constantI S_ 32 0#32))) (addi (res_main_v67 V0) (broadcastInDim S32 ![] bcast_S_S32 (constantI S_ 32 1000000#32))) (res_main_v67 V0)))⟩] concatenates_S32x1_S32x1_S32x2_d1) (broadcastInDim S32 ![] bcast_S_S32 (constant S_ .f32 0x3F800000#32))) (res_main_v66 V0)) (res_main_v66 V0) := by
  unfold val2
  simp only [ops_part1, TRef.nullary, TRef.quaternary, TRef.toBuf, TRef.ofBuf, cast_eq]
  after_results_simp
  simp only [val1_main_cst_12, val1_main_v44, val1_main_arg0] <;> rfl

theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86) = addf (subf (Host.scatter scatter_S32x1000000_S32x2_S32_n_01_01_1 (fun _ b => b) (broadcastInDim S32x1000000 ![] bcast_S_S32x1000000 (constant S_ .f32 0x00000000#32)) (concatenate S32x2 1 [⟨S32x1, (broadcastInDim S32x1 ![0] bcast_S32_S32x1_0 (select (cmpi .slt (res_main_v69 (launchContents m c)) (broadcastInDim S32 ![] bcast_S_S32 (constantI S_ 32 0#32))) (addi (res_main_v69 (launchContents m c)) (broadcastInDim S32 ![] bcast_S_S32 (constantI S_ 32 32#32))) (res_main_v69 (launchContents m c))))⟩, ⟨S32x1, (broadcastInDim S32x1 ![0] bcast_S32_S32x1_0 (select (cmpi .slt (res_main_v67 (launchContents m c)) (broadcastInDim S32 ![] bcast_S_S32 (constantI S_ 32 0#32))) (addi (res_main_v67 (launchContents m c)) (broadcastInDim S32 ![] bcast_S_S32 (constantI S_ 32 1000000#32))) (res_main_v67 (launchContents m c))))⟩] concatenates_S32x1_S32x1_S32x2_d1) (broadcastInDim S32 ![] bcast_S_S32 (constant S_ .f32 0x3F800000#32))) (res_main_v66 (launchContents m c))) (res_main_v66 (launchContents m c))
      ∧ r.2.mem ((c.tc : Thread nD τ).loc main_v10) = Host.divf (res_main_v6 (launchContents m c)) (broadcastInDim S32x1000000 ![0, 1] bcast_S32x1_S32x1000000_0_1 (broadcastInDim S32x1 ![0] bcast_S32_S32x1_0 (Host.reduceAdd (res_main_v6 (launchContents m c)) (constant S_ .f32 0x00000000#32) reducesTo_S32x1000000_S32_d1 h_S_)))
      ∧ r.2.mem ((c.tc : Thread nD τ).loc main_arg0) = m ((c.tc : Thread nD τ).loc main_arg0) :=
  (θ_run defs _ _).mono (fun _ h c => ⟨(h c main_v86).trans ((congrFun (after_ops (launchContents m c)) (Proc.devRef .tc main_v86)).trans (val2_main_v86 (launchContents m c))),
      (h c main_v10).trans ((congrFun (after_ops (launchContents m c)) (Proc.devRef .tc main_v10)).trans (val2_main_v10 (launchContents m c))),
      (h c main_arg0).trans ((congrFun (after_ops (launchContents m c)) (Proc.devRef .tc main_arg0)).trans (val2_main_arg0 (launchContents m c)))⟩)
    (run_seq scopedRefs_eq scopedSems_eq defs main (fun _ => ops) main_eq (fun _ => ops_sub) m ρ fun _ => ops_fresh)

end Cert.ReferenceIdeal.Value
-- ==== Proof.RefEnd.lean ====
/- The run of the reference, its results named, and their values over the extended reals at a finite array. -/
module

public import proofs.«01_k».proof.Proof.RefVal
public import proofs.«01_k».proof.Proof.RefRun

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo Idealize.SL.Sem
open Cert.Proof
open Cert.Proof.KI (lg cnt score Fin' score_real)

section

variable {F : FTy → Type} [FloatOps F]

/-- The first result from the rows' indices and the soft rows. -/
def oneHot (Y : S32.Idx → BitVec 32) (P : S32x1000000.Idx → F .f32) : S32x1000000.Idx → F .f32 :=
  addf (φ := .f32) (subf (Host.scatter scatter_S32x1000000_S32x2_S32_n_01_01_1 (fun _ b => b) (broadcastInDim S32x1000000 ![] bcast_S_S32x1000000 (constant S_ .f32 0x00000000#32))
    (pairs Y) (broadcastInDim S32 ![] bcast_S_S32 (constant S_ .f32 0x3F800000#32))) P) P

/-- The second result from the exponentials. -/
def rowShares (E : S32x1000000.Idx → F .f32) : S32x1000000.Idx → F .f32 :=
  Host.divf (φ := .f32) E (broadcastInDim S32x1000000 ![0, 1] bcast_S32x1_S32x1000000_0_1 (broadcastInDim S32x1 ![0] bcast_S32_S32x1_0
    (Host.reduceAdd (φ := .f32) E (constant S_ .f32 0x00000000#32) reducesTo_S32x1000000_S32_d1 h_S_)))

theorem ends (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86) = oneHot (res_main_v67 (launchContents m c)) (res_main_v66 (launchContents m c))
      ∧ r.2.mem ((c.tc : Thread nD τ).loc main_v10) = rowShares (res_main_v6 (launchContents m c))
      ∧ r.2.mem ((c.tc : Thread nD τ).loc main_arg0) = m ((c.tc : Thread nD τ).loc main_arg0) :=
  (θ_run defs _ _).mono (fun _ h c => ⟨(h c).1, (h c).2.1, (h c).2.2⟩) (run m ρ)

end

variable (V : Valuation τ sig (Elt Ideal)) (A : S32x1000000.Idx → EReal) (hV : V (Proc.devRef .tc main_arg0) = A)

theorem oneHot_eq (Y : S32.Idx → BitVec 32) (P : S32x1000000.Idx → EReal) :
    oneHot (F := Ideal) Y P = addf (F := Ideal) (φ := .f32) (subf (hot (pairs Y)) P) P := by
  unfold oneHot hot
  rfl

theorem rowShares_eq (E : S32x1000000.Idx → EReal) : rowShares (F := Ideal) E = shares E := by
  unfold rowShares shares
  rfl

include hV

theorem one_val (hA : Fin' A) (k : Fin 32 → ℕ) (hk : ∀ r, First 1000000 (score A r) (k r)) (r : Fin 32) (n : Fin 1000000) :
    oneHot (F := Ideal) (res_main_v67 V) (res_main_v66 V) (ix2 r n) = if n.val = k r then 1 else 0 :=
  (congrFun (oneHot_eq _ _) _).trans (hot_val V A hV hA k hk r n)

theorem pi_val (r : Fin 32) (a : Fin 1000000 → ℝ) (ha : ∀ n, A (ix2 r n) = (a n : EReal)) (n : Fin 1000000) :
    rowShares (F := Ideal) (res_main_v6 V) (ix2 r n) = ((Real.exp (a n - 12) * (1 / ∑ l, Real.exp (a l - 12)) : ℝ) : EReal) :=
  (congrFun (rowShares_eq _) _).trans (soft_val V A hV r a ha n)

end Cert.ReferenceIdeal.Value

end
-- ==== Proof.KerVal.lean ====
/- The kernel's two results over the extended reals at a finite array, and that the precondition makes an array finite. -/
module

public import proofs.«01_k».proof.Proof.StatsVal
public import proofs.«01_k».proof.Pre_finite

@[expose] public section

set_option maxRecDepth 16384

noncomputable section

namespace Cert.Proof.KI

open Cert.KernelIdeal Cert.KernelIdeal.Gen
open Idealize.ShloMosaic Cert.Proof

/-- The precondition says that every element is a real number. -/
theorem finite_of_pre [Cert.Pre_finite.Facts] (A : S32x1000000.Idx → EReal) (h : Cert.Pre_finite.fn (F := Ideal) A = fun _ => 1#1) : Fin' A := by
  intro i
  have ht : Ideal.ofBits .f32 0x7F800000#32 = ⊤ := by simp [Ideal.ofBits, Ideal.ieee]
  have h1 : Ideal.cmp .olt (max (A i) (-A i)) (Ideal.ofBits .f32 0x7F800000#32) = 1#1 := congrFun h i
  rw [ht] at h1
  have h2 : max (A i) (-A i) < ⊤ := by
    by_contra hc
    simp [Ideal.cmp, hc] at h1
  have h3 : A i ≠ ⊤ := (lt_of_le_of_lt (le_max_left _ _) h2).ne
  have h4 : A i ≠ ⊥ := fun e => by
    rw [e] at h2
    simp at h2
  exact ⟨(A i).toReal, (EReal.coe_toReal h3 h4).symm⟩

theorem ix1_eq (r : Fin 32) : ix1 r = ix2 r 0 := by
  funext a
  fin_cases a <;> rfl

/-- What the first call leaves of a row: the sum of its shifted exponentials, and the first column whose score is greatest. -/
theorem st_end (c : Dev nD) (A : S32x1000000.Idx → EReal) (hA : Fin' A) (r : Fin 32) :
    (st (F := Ideal) c A 123).s (ix1 r) = ∑ l : Fin 1000000, Ideal.exp (A (ix2 r l) - Ideal.ofBits .f32 0x41400000#32)
    ∧ ∃ k, First 1000000 (score A r) k ∧ (st (F := Ideal) c A 123).bi (ix1 r) = BitVec.ofNat 32 k := by
  obtain ⟨hs, hb⟩ := st_val c A hA r 123 (le_refl _)
  generalize st (F := Ideal) c A 123 = S at hs hb
  have hc : cov 123 = 1000000 := if_neg (lt_irrefl _)
  rw [hc] at hs hb
  rw [ix1_eq]
  refine ⟨?_, ?_⟩
  · rw [hs, Finset.sum_range]
    refine Finset.sum_congr rfl fun l _ => ?_
    rw [ex, lg, dif_pos l.isLt]
  · rcases hb with ⟨h0, -⟩ | ⟨k, hk, hb, -⟩
    · exact absurd h0 (by omega)
    · exact ⟨k, hk, hb⟩

/-- The kernel's one-hot element. -/
theorem ohE_val (n k : ℕ) (hn : n < 1000000) (hk : k < 1000000) : ohE (F := Ideal) n (BitVec.ofNat 32 k) = if n = k then (1 : EReal) else 0 := by
  unfold ohE
  have h : (BitVec.ofNat 32 n = BitVec.ofNat 32 k) ↔ n = k := by
    constructor
    · intro e
      have e := congrArg BitVec.toNat e
      rw [BitVec.toNat_ofNat, BitVec.toNat_ofNat, Nat.mod_eq_of_lt (by omega), Nat.mod_eq_of_lt (by omega)] at e
      exact e
    · rintro rfl; rfl
  change (if (BitVec.ofBool (BitVec.ofNat 32 n == BitVec.ofNat 32 k)) = 1#1 then Ideal.ofBits .f32 0x3F800000#32 else Ideal.ofBits .f32 0x00000000#32) = _
  rw [bits_one, bits_zero]
  by_cases e : n = k
  · subst e; simp
  · rw [if_neg e, beq_eq_false_iff_ne.mpr (fun q => e (h.mp q))]
    rfl

/-- The kernel's softmax element. -/
theorem piE_val (a s : ℝ) (hs : s ≠ 0) : piE (F := Ideal) (a : EReal) (s : EReal) = ((Real.exp (a - 12) * (1 / s) : ℝ) : EReal) := by
  change Ideal.exp ((a : EReal) - Ideal.ofBits .f32 0x41400000#32) * Ideal.div (Ideal.ofBits .f32 0x3F800000#32) (s : EReal) = _
  rw [bits_twelve, bits_one, Ideal.div_coe hs, one_mul, ← EReal.coe_sub, Ideal.exp_coe, ← EReal.coe_mul]

end Cert.Proof.KI

end
-- ==== Proof.lean ====
/- The claim, from the run of the kernel's two calls (at the words and over the extended reals), the run of the reference, and
   the values both leave over the extended reals at a finite array. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.BitsRun
public import proofs.«01_k».proof.Proof.RefEnd
public import proofs.«01_k».proof.Proof.KerVal
public import Idealize.ShloMosaic.Lib.Quiescent

@[expose] public section

noncomputable section

namespace Cert.Proof

open Idealize.ShloMosaic Idealize.ShloMosaic.StableHlo Idealize.SL.Sem

/-- The kernel ends with its argument unchanged and every semaphore at zero. -/
theorem frame_Kernel : Cert.quiescent_Kernel (hKernel := Cert.Kernel.Gen.facts) := fun m ρ _ =>
  (θ_run _ _ _).mono (fun _ h => ⟨fun c => (h.1 c).2.2, h.2⟩) (Cert.Proof.K.run m ρ)

/-- The same over the extended reals. -/
theorem frame_KernelIdeal : Cert.quiescent_KernelIdeal (hKernelIdeal := Cert.KernelIdeal.Gen.facts) := fun m ρ _ =>
  (θ_run _ _ _).mono (fun _ h => ⟨fun c => (h.1 c).2.2, h.2⟩) (Cert.Proof.KI.run m ρ)

/-- The reference ends with its argument unchanged; it has no semaphore. -/
theorem frame_ReferenceIdeal : Cert.quiescent_ReferenceIdeal (hReferenceIdeal := Cert.ReferenceIdeal.Gen.facts) := fun m ρ _ =>
  (θ_run _ _ _).mono (fun r h => ⟨fun c => (h c).2.2, sem_eq_zero_of_no_sems (by decide) r.2⟩) (Cert.ReferenceIdeal.Value.run m ρ)

/-- The precondition's function states one relation. -/
theorem pre_facts : Cert.Pre_finite.Facts := ⟨by decide⟩

/-- The frames do not need the precondition. -/
theorem frame_KernelIdeal_finite : Cert.quiescent_KernelIdeal_pre_finite (hKernelIdeal := Cert.KernelIdeal.Gen.facts) (hPre_finite := pre_facts) := fun m ρ _ =>
  (θ_run _ _ _).mono (fun _ h => ⟨fun c => (h.1 c).2.2, h.2⟩) (Cert.Proof.KI.run m ρ)

theorem frame_ReferenceIdeal_finite : Cert.quiescent_ReferenceIdeal_pre_finite (hReferenceIdeal := Cert.ReferenceIdeal.Gen.facts) (hPre_finite := pre_facts) :=
  fun m ρ _ => (θ_run _ _ _).mono (fun r h => ⟨fun c => (h c).2.2, sem_eq_zero_of_no_sems (by decide) r.2⟩) (Cert.ReferenceIdeal.Value.run m ρ)

section

variable (c : Dev Cert.KernelIdeal.nD) (V : Valuation Cert.ReferenceIdeal.τ Cert.ReferenceIdeal.sig (Elt Ideal))
  (A : Cert.KernelIdeal.S32x1000000.Idx → EReal) (hA : KI.Fin' A) (hV : V (Proc.devRef .tc Cert.ReferenceIdeal.main_arg0) = A)
include hA hV

/-- The reference's one-hot rows are the kernel's. -/
theorem one_eq (S : KI.St Ideal) (hS : S = KI.st (F := Ideal) c A 123) :
    Cert.ReferenceIdeal.Value.oneHot (F := Ideal) (Cert.ReferenceIdeal.Value.res_main_v67 V) (Cert.ReferenceIdeal.Value.res_main_v66 V)
      = fun i : Cert.KernelIdeal.S32x1000000.Idx => KI.ohE (F := Ideal) (i 1).val (S.bi (KI.ix1 (i 0))) := by
  have h := fun r => (KI.st_end c A hA r).2
  rw [← hS] at h
  choose k hk hb using h
  funext i
  obtain ⟨r, n, rfl⟩ : ∃ (r : Fin 32) (n : Fin 1000000), i = ix2 r n := ⟨i 0, i 1, by funext a; fin_cases a <;> rfl⟩
  refine (Cert.ReferenceIdeal.Value.one_val V A hV hA k hk r n).trans ?_
  change _ = KI.ohE (F := Ideal) n.val (S.bi (KI.ix1 r))
  rw [hb, KI.ohE_val n.val (k r) n.isLt (hk r).1]

/-- The reference's softmax is the kernel's. -/
theorem pi_eq (S : KI.St Ideal) (hS : S = KI.st (F := Ideal) c A 123) :
    Cert.ReferenceIdeal.Value.rowShares (F := Ideal) (Cert.ReferenceIdeal.Value.res_main_v6 V)
      = fun i : Cert.KernelIdeal.S32x1000000.Idx => KI.piE (F := Ideal) (A i) (S.s (KI.ix1 (i 0))) := by
  have h := fun r => (KI.st_end c A hA r).1
  rw [← hS] at h
  choose a ha using hA
  funext i
  obtain ⟨r, n, rfl⟩ : ∃ (r : Fin 32) (n : Fin 1000000), i = ix2 r n := ⟨i 0, i 1, by funext a; fin_cases a <;> rfl⟩
  refine (Cert.ReferenceIdeal.Value.pi_val V A hV r (fun n => a (ix2 r n)) (fun n => ha (ix2 r n)) n).trans ?_
  change _ = KI.piE (F := Ideal) (A (ix2 r n)) (S.s (KI.ix1 r))
  have hs : S.s (KI.ix1 r) = ((∑ l : Fin 1000000, Real.exp (a (ix2 r l) - 12) : ℝ) : EReal) := by
    rw [h, Cert.ReferenceIdeal.Value.coe_sum]
    refine Finset.sum_congr rfl fun l _ => ?_
    rw [ha, bits_twelve, ← EReal.coe_sub, Ideal.exp_coe]
  have hpos : 0 < ∑ l : Fin 1000000, Real.exp (a (ix2 r l) - 12) := Finset.sum_pos (fun l _ => Real.exp_pos _) ⟨n, Finset.mem_univ _⟩
  rw [hs, ha, KI.piE_val _ _ hpos.ne']

end

/-- From one finite array the kernel and the reference end with the same two results. -/
theorem algebraic : Cert.algebraic_KernelIdeal_ReferenceIdeal_pre_finite (hKernelIdeal := Cert.KernelIdeal.Gen.facts)
    (hReferenceIdeal := Cert.ReferenceIdeal.Gen.facts) (hPre_finite := pre_facts) := fun m g m' g' hpre heq => by
  have hA : ∀ c : Dev Cert.KernelIdeal.nD, KI.Fin' (m ((c.tc : Thread Cert.KernelIdeal.nD Cert.KernelIdeal.τ).loc Cert.KernelIdeal.main_arg0)) := fun c =>
    @KI.finite_of_pre pre_facts _ (hpre c)
  refine ⟨_, _, (θ_run _ _ _).mono (fun _ h => h.1) (Cert.Proof.KI.run m g), ?_⟩
  refine (θ_run _ _ _).mono (fun _ h c => ?_) (Cert.ReferenceIdeal.Value.ends m' g')
  obtain ⟨h1, h2, h3⟩ := h c
  refine ⟨h1.trans ?_, h2.trans ?_, h3⟩
  · exact one_eq c _ _ (hA c) (heq c) _ rfl
  · exact pi_eq c _ _ (hA c) (heq c) _ rfl

theorem claim : Cert.Claim :=
  ⟨Cert.Kernel.Gen.facts, Cert.KernelIdeal.Gen.facts, Cert.ReferenceIdeal.Gen.facts, pre_facts, frame_Kernel, frame_KernelIdeal, frame_KernelIdeal_finite,
    frame_ReferenceIdeal, frame_ReferenceIdeal_finite, trivial, algebraic⟩

end Cert.Proof

end
